-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S2x1024x1024 : Shape := ⟨3, ![2, 1024, 1024]⟩
abbrev S2x2x1024x1024 : Shape := ⟨4, ![2, 2, 1024, 1024]⟩
abbrev S8x128 : Shape := ⟨2, ![8, 128]⟩
abbrev S2x24 : Shape := ⟨2, ![2, 24]⟩
abbrev S3 : Shape := ⟨1, ![3]⟩
abbrev S2 : Shape := ⟨1, ![2]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x1x1024x1024 : Shape := ⟨4, ![1, 1, 1024, 1024]⟩
abbrev S1x1 : Shape := ⟨2, ![1, 1]⟩
abbrev S1x1x512x1024 : Shape := ⟨4, ![1, 1, 512, 1024]⟩
abbrev S512x1024 : Shape := ⟨2, ![512, 1024]⟩
abbrev S1x512x1024 : Shape := ⟨3, ![1, 512, 1024]⟩
abbrev S1x1x1 : Shape := ⟨3, ![1, 1, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1024x8192, .f32⟩
  | .local _ .vmem, ⟨0, _⟩ => ⟨S4096x1024, .f32⟩
  | .local _ .vmem, ⟨1, _⟩ => ⟨S2x1024x1024, .f32⟩
  | .local _ .vmem, ⟨2, _⟩ => ⟨S2x1024x1024, .f32⟩
  | .local _ .vmem, ⟨3, _⟩ => ⟨S2x2x1024x1024, .bf16⟩
  | .local _ .vmem, ⟨4, _⟩ => ⟨S2x2x1024x1024, .bf16⟩
  | .local _ .vmem, ⟨5, _⟩ => ⟨S2x1024x1024, .f32⟩
  | .local _ .vmem, ⟨6, _⟩ => ⟨S8x128, .f32⟩
  | .local _ .vmem, ⟨7, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => true
  | ⟨1, _⟩ => true
  | ⟨2, _⟩ => true
  | ⟨3, _⟩ => false
  | _ => false

abbrev dmaSemScoped : Fin 107 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | _ => false

abbrev sig : RefSig :=
  (ofTc nBuf bufTy 4 107 bufScoped semScoped dmaSemScoped tileCredit tileCredit_eq_zero tileCredit_pos).withBarriers [(0, 3)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 3

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v28 : BitVec 32 := Scalar.addi v2 c8_i32
  let c1_i32_27 : BitVec 32 := 1#32
  let v29 : BitVec 32 := Scalar.subi v28 c1_i32_27
  let v30 : BitVec 32 := Scalar.subi v29 c0_i32_28
  let c4_i32_29 : BitVec 32 := 4#32
  let v31 : BitVec 32 := Scalar.remsi v30 c4_i32_29
  let c1024_i32 : BitVec 32 := 1024#32
  let v32 : BitVec 32 := Scalar.muli v31 c1024_i32
  let v33 : Index := Scalar.indexCast v32
  let c0 : Index := 0#32
  ![v33.toNat, 0]
def k0_off2 (d0 : Dev nD) (c0_i32_44 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v48 : BitVec 32 := Scalar.addi v2 c1_i32_43
  let v49 : BitVec 32 := Scalar.addi v48 c0_i32_44
  let c4_i32_45 : BitVec 32 := 4#32
  let v50 : BitVec 32 := Scalar.remsi v49 c4_i32_45
  let c1024_i32_46 : BitVec 32 := 1024#32
  let v51 : BitVec 32 := Scalar.muli v50 c1024_i32_46
  let v52 : Index := Scalar.indexCast v51
  let c0_47 : Index := 0#32
  ![v52.toNat, 0]
def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_63 : BitVec 32 := 1#32
  let v62 : BitVec 32 := Scalar.muli v7 c1_i32_63
  let v63 : BitVec 32 := Scalar.addi c0_i32_64 v62
  v63.toNat
def k0_dev4 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_77 : BitVec 32 := 1#32
  let v72 : BitVec 32 := Scalar.muli v5 c1_i32_77
  let v73 : BitVec 32 := Scalar.addi c0_i32_78 v72
  v73.toNat
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_91 : BitVec 32 := 1#32
  let v82 : BitVec 32 := Scalar.muli v7 c1_i32_91
  let v83 : BitVec 32 := Scalar.addi c0_i32_92 v82
  v83.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_104 : BitVec 32 := 1#32
  let v92 : BitVec 32 := Scalar.muli v5 c1_i32_104
  let v93 : BitVec 32 := Scalar.addi c0_i32_105 v92
  v93.toNat
def k0_dev7 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_168 : BitVec 32 := 1#32
  let v147 : BitVec 32 := Scalar.muli v7 c1_i32_168
  let v148 : BitVec 32 := Scalar.addi c0_i32_169 v147
  v148.toNat
def k0_dev8 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_207 : BitVec 32 := 1#32
  let v175 : BitVec 32 := Scalar.muli v5 c1_i32_207
  let v176 : BitVec 32 := Scalar.addi c0_i32_208 v175
  v176.toNat
def k0_dev9 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_244 : BitVec 32 := 1#32
  let v203 : BitVec 32 := Scalar.muli v7 c1_i32_244
  let v204 : BitVec 32 := Scalar.addi c0_i32_245 v203
  v204.toNat
def k0_dev10 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_283 : BitVec 32 := 1#32
  let v231 : BitVec 32 := Scalar.muli v5 c1_i32_283
  let v232 : BitVec 32 := Scalar.addi c0_i32_284 v231
  v232.toNat
def k0_dev11 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_290 : BitVec 32 := 1#32
  let v241 : BitVec 32 := Scalar.muli v5 c1_i32_290
  let v242 : BitVec 32 := Scalar.addi c0_i32_291 v241
  v242.toNat
def k0_dev12 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_293 : BitVec 32 := 1#32
  let v243 : BitVec 32 := Scalar.muli v7 c1_i32_293
  let v244 : BitVec 32 := Scalar.addi c0_i32_294 v243
  v244.toNat
def k0_dev13 (d0 : Dev nD) : Nat :=
  let c0_i32_408 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_407 : BitVec 32 := 1#32
  let v314 : BitVec 32 := Scalar.muli v7 c1_i32_407
  let v315 : BitVec 32 := Scalar.addi c0_i32_408 v314
  v315.toNat
def k0_dev14 (d0 : Dev nD) : Nat :=
  let c0_i32_449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_448 : BitVec 32 := 1#32
  let v342 : BitVec 32 := Scalar.muli v5 c1_i32_448
  let v343 : BitVec 32 := Scalar.addi c0_i32_449 v342
  v343.toNat
def k0_dev15 (d0 : Dev nD) : Nat :=
  let c0_i32_487 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_486 : BitVec 32 := 1#32
  let v370 : BitVec 32 := Scalar.muli v7 c1_i32_486
  let v371 : BitVec 32 := Scalar.addi c0_i32_487 v370
  v371.toNat
def k0_dev16 (d0 : Dev nD) : Nat :=
  let c0_i32_526 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_525 : BitVec 32 := 1#32
  let v398 : BitVec 32 := Scalar.muli v5 c1_i32_525
  let v399 : BitVec 32 := Scalar.addi c0_i32_526 v398
  v399.toNat
def k0_dev17 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_532 : BitVec 32 := 1#32
  let v408 : BitVec 32 := Scalar.muli v5 c1_i32_532
  let v409 : BitVec 32 := Scalar.addi c0_i32_533 v408
  v409.toNat
def k0_dev18 (d0 : Dev nD) : Nat :=
  let c0_i32_536 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_535 : BitVec 32 := 1#32
  let v410 : BitVec 32 := Scalar.muli v7 c1_i32_535
  let v411 : BitVec 32 := Scalar.addi c0_i32_536 v410
  v411.toNat
def k0_dev19 (d0 : Dev nD) : Nat :=
  let c0_i32_665 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_664 : BitVec 32 := 1#32
  let v531 : BitVec 32 := Scalar.muli v5 c1_i32_664
  let v532 : BitVec 32 := Scalar.addi c0_i32_665 v531
  v532.toNat
def k0_dev20 (d0 : Dev nD) : Nat :=
  let c0_i32_674 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_673 : BitVec 32 := 1#32
  let v538 : BitVec 32 := Scalar.muli v7 c1_i32_673
  let v539 : BitVec 32 := Scalar.addi c0_i32_674 v538
  v539.toNat
def k0_dev21 (d0 : Dev nD) : Nat :=
  let c0_i32_793 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_792 : BitVec 32 := 1#32
  let v618 : BitVec 32 := Scalar.muli v7 c1_i32_792
  let v619 : BitVec 32 := Scalar.addi c0_i32_793 v618
  v619.toNat
def k0_dev22 (d0 : Dev nD) : Nat :=
  let c0_i32_809 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_808 : BitVec 32 := 1#32
  let v628 : BitVec 32 := Scalar.muli v5 c1_i32_808
  let v629 : BitVec 32 := Scalar.addi c0_i32_809 v628
  v629.toNat
def k0_dev23 (d0 : Dev nD) : Nat :=
  let c0_i32_822 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_821 : BitVec 32 := 1#32
  let v638 : BitVec 32 := Scalar.muli v7 c1_i32_821
  let v639 : BitVec 32 := Scalar.addi c0_i32_822 v638
  v639.toNat
def k0_dev24 (d0 : Dev nD) : Nat :=
  let c0_i32_836 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_835 : BitVec 32 := 1#32
  let v648 : BitVec 32 := Scalar.muli v5 c1_i32_835
  let v649 : BitVec 32 := Scalar.addi c0_i32_836 v648
  v649.toNat
def k0_dev25 (d0 : Dev nD) : Nat :=
  let c0_i32_954 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_953 : BitVec 32 := 1#32
  let v727 : BitVec 32 := Scalar.muli v7 c1_i32_953
  let v728 : BitVec 32 := Scalar.addi c0_i32_954 v727
  v728.toNat
def k0_dev26 (d0 : Dev nD) : Nat :=
  let c0_i32_995 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_994 : BitVec 32 := 1#32
  let v755 : BitVec 32 := Scalar.muli v5 c1_i32_994
  let v756 : BitVec 32 := Scalar.addi c0_i32_995 v755
  v756.toNat
def k0_dev27 (d0 : Dev nD) : Nat :=
  let c0_i32_1033 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1032 : BitVec 32 := 1#32
  let v783 : BitVec 32 := Scalar.muli v7 c1_i32_1032
  let v784 : BitVec 32 := Scalar.addi c0_i32_1033 v783
  v784.toNat
def k0_dev28 (d0 : Dev nD) : Nat :=
  let c0_i32_1072 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1071 : BitVec 32 := 1#32
  let v811 : BitVec 32 := Scalar.muli v5 c1_i32_1071
  let v812 : BitVec 32 := Scalar.addi c0_i32_1072 v811
  v812.toNat
def k0_dev29 (d0 : Dev nD) : Nat :=
  let c0_i32_1079 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1078 : BitVec 32 := 1#32
  let v821 : BitVec 32 := Scalar.muli v5 c1_i32_1078
  let v822 : BitVec 32 := Scalar.addi c0_i32_1079 v821
  v822.toNat
def k0_dev30 (d0 : Dev nD) : Nat :=
  let c0_i32_1082 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1081 : BitVec 32 := 1#32
  let v823 : BitVec 32 := Scalar.muli v7 c1_i32_1081
  let v824 : BitVec 32 := Scalar.addi c0_i32_1082 v823
  v824.toNat
def k0_dev31 (d0 : Dev nD) : Nat :=
  let c0_i32_1195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1194 : BitVec 32 := 1#32
  let v894 : BitVec 32 := Scalar.muli v7 c1_i32_1194
  let v895 : BitVec 32 := Scalar.addi c0_i32_1195 v894
  v895.toNat
def k0_dev32 (d0 : Dev nD) : Nat :=
  let c0_i32_1236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1235 : BitVec 32 := 1#32
  let v922 : BitVec 32 := Scalar.muli v5 c1_i32_1235
  let v923 : BitVec 32 := Scalar.addi c0_i32_1236 v922
  v923.toNat
def k0_dev33 (d0 : Dev nD) : Nat :=
  let c0_i32_1274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1273 : BitVec 32 := 1#32
  let v950 : BitVec 32 := Scalar.muli v7 c1_i32_1273
  let v951 : BitVec 32 := Scalar.addi c0_i32_1274 v950
  v951.toNat
def k0_dev34 (d0 : Dev nD) : Nat :=
  let c0_i32_1313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1312 : BitVec 32 := 1#32
  let v978 : BitVec 32 := Scalar.muli v5 c1_i32_1312
  let v979 : BitVec 32 := Scalar.addi c0_i32_1313 v978
  v979.toNat
def k0_dev35 (d0 : Dev nD) : Nat :=
  let c0_i32_1320 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1319 : BitVec 32 := 1#32
  let v988 : BitVec 32 := Scalar.muli v5 c1_i32_1319
  let v989 : BitVec 32 := Scalar.addi c0_i32_1320 v988
  v989.toNat
def k0_dev36 (d0 : Dev nD) : Nat :=
  let c0_i32_1323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1322 : BitVec 32 := 1#32
  let v990 : BitVec 32 := Scalar.muli v7 c1_i32_1322
  let v991 : BitVec 32 := Scalar.addi c0_i32_1323 v990
  v991.toNat
def k0_dev37 (d0 : Dev nD) : Nat :=
  let c0_i32_1463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1462 : BitVec 32 := 1#32
  let v1121 : BitVec 32 := Scalar.muli v5 c1_i32_1462
  let v1122 : BitVec 32 := Scalar.addi c0_i32_1463 v1121
  v1122.toNat
def k0_dev38 (d0 : Dev nD) : Nat :=
  let c0_i32_1472 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1471 : BitVec 32 := 1#32
  let v1128 : BitVec 32 := Scalar.muli v7 c1_i32_1471
  let v1129 : BitVec 32 := Scalar.addi c0_i32_1472 v1128
  v1129.toNat
def k0_dev39 (d0 : Dev nD) : Nat :=
  let c0_i32_1590 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1589 : BitVec 32 := 1#32
  let v1208 : BitVec 32 := Scalar.muli v7 c1_i32_1589
  let v1209 : BitVec 32 := Scalar.addi c0_i32_1590 v1208
  v1209.toNat
def k0_dev40 (d0 : Dev nD) : Nat :=
  let c0_i32_1606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1605 : BitVec 32 := 1#32
  let v1218 : BitVec 32 := Scalar.muli v5 c1_i32_1605
  let v1219 : BitVec 32 := Scalar.addi c0_i32_1606 v1218
  v1219.toNat
def k0_dev41 (d0 : Dev nD) : Nat :=
  let c0_i32_1619 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1618 : BitVec 32 := 1#32
  let v1228 : BitVec 32 := Scalar.muli v7 c1_i32_1618
  let v1229 : BitVec 32 := Scalar.addi c0_i32_1619 v1228
  v1229.toNat
def k0_dev42 (d0 : Dev nD) : Nat :=
  let c0_i32_1633 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1632 : BitVec 32 := 1#32
  let v1238 : BitVec 32 := Scalar.muli v5 c1_i32_1632
  let v1239 : BitVec 32 := Scalar.addi c0_i32_1633 v1238
  v1239.toNat
def k0_dev43 (d0 : Dev nD) : Nat :=
  let c0_i32_1750 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1749 : BitVec 32 := 1#32
  let v1317 : BitVec 32 := Scalar.muli v7 c1_i32_1749
  let v1318 : BitVec 32 := Scalar.addi c0_i32_1750 v1317
  v1318.toNat
def k0_dev44 (d0 : Dev nD) : Nat :=
  let c0_i32_1791 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1790 : BitVec 32 := 1#32
  let v1345 : BitVec 32 := Scalar.muli v5 c1_i32_1790
  let v1346 : BitVec 32 := Scalar.addi c0_i32_1791 v1345
  v1346.toNat
def k0_dev45 (d0 : Dev nD) : Nat :=
  let c0_i32_1829 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1828 : BitVec 32 := 1#32
  let v1373 : BitVec 32 := Scalar.muli v7 c1_i32_1828
  let v1374 : BitVec 32 := Scalar.addi c0_i32_1829 v1373
  v1374.toNat
def k0_dev46 (d0 : Dev nD) : Nat :=
  let c0_i32_1868 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1867 : BitVec 32 := 1#32
  let v1401 : BitVec 32 := Scalar.muli v5 c1_i32_1867
  let v1402 : BitVec 32 := Scalar.addi c0_i32_1868 v1401
  v1402.toNat
def k0_dev47 (d0 : Dev nD) : Nat :=
  let c0_i32_1875 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1874 : BitVec 32 := 1#32
  let v1411 : BitVec 32 := Scalar.muli v5 c1_i32_1874
  let v1412 : BitVec 32 := Scalar.addi c0_i32_1875 v1411
  v1412.toNat
def k0_dev48 (d0 : Dev nD) : Nat :=
  let c0_i32_1878 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1877 : BitVec 32 := 1#32
  let v1413 : BitVec 32 := Scalar.muli v7 c1_i32_1877
  let v1414 : BitVec 32 := Scalar.addi c0_i32_1878 v1413
  v1414.toNat
def k0_dev49 (d0 : Dev nD) : Nat :=
  let c0_i32_1991 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1990 : BitVec 32 := 1#32
  let v1484 : BitVec 32 := Scalar.muli v7 c1_i32_1990
  let v1485 : BitVec 32 := Scalar.addi c0_i32_1991 v1484
  v1485.toNat
def k0_dev50 (d0 : Dev nD) : Nat :=
  let c0_i32_2032 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2031 : BitVec 32 := 1#32
  let v1512 : BitVec 32 := Scalar.muli v5 c1_i32_2031
  let v1513 : BitVec 32 := Scalar.addi c0_i32_2032 v1512
  v1513.toNat
def k0_dev51 (d0 : Dev nD) : Nat :=
  let c0_i32_2070 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2069 : BitVec 32 := 1#32
  let v1540 : BitVec 32 := Scalar.muli v7 c1_i32_2069
  let v1541 : BitVec 32 := Scalar.addi c0_i32_2070 v1540
  v1541.toNat
def k0_dev52 (d0 : Dev nD) : Nat :=
  let c0_i32_2109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2108 : BitVec 32 := 1#32
  let v1568 : BitVec 32 := Scalar.muli v5 c1_i32_2108
  let v1569 : BitVec 32 := Scalar.addi c0_i32_2109 v1568
  v1569.toNat
def k0_dev53 (d0 : Dev nD) : Nat :=
  let c0_i32_2116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2115 : BitVec 32 := 1#32
  let v1578 : BitVec 32 := Scalar.muli v5 c1_i32_2115
  let v1579 : BitVec 32 := Scalar.addi c0_i32_2116 v1578
  v1579.toNat
def k0_dev54 (d0 : Dev nD) : Nat :=
  let c0_i32_2119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2118 : BitVec 32 := 1#32
  let v1580 : BitVec 32 := Scalar.muli v7 c1_i32_2118
  let v1581 : BitVec 32 := Scalar.addi c0_i32_2119 v1580
  v1581.toNat
def k0_dev55 (d0 : Dev nD) : Nat :=
  let c0_i32_2259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2258 : BitVec 32 := 1#32
  let v1711 : BitVec 32 := Scalar.muli v5 c1_i32_2258
  let v1712 : BitVec 32 := Scalar.addi c0_i32_2259 v1711
  v1712.toNat
def k0_dev56 (d0 : Dev nD) : Nat :=
  let c0_i32_2268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2267 : BitVec 32 := 1#32
  let v1718 : BitVec 32 := Scalar.muli v7 c1_i32_2267
  let v1719 : BitVec 32 := Scalar.addi c0_i32_2268 v1718
  v1719.toNat
def k0_dev57 (d0 : Dev nD) : Nat :=
  let c0_i32_2386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2385 : BitVec 32 := 1#32
  let v1798 : BitVec 32 := Scalar.muli v7 c1_i32_2385
  let v1799 : BitVec 32 := Scalar.addi c0_i32_2386 v1798
  v1799.toNat
def k0_dev58 (d0 : Dev nD) : Nat :=
  let c0_i32_2402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2401 : BitVec 32 := 1#32
  let v1808 : BitVec 32 := Scalar.muli v5 c1_i32_2401
  let v1809 : BitVec 32 := Scalar.addi c0_i32_2402 v1808
  v1809.toNat
def k0_dev59 (d0 : Dev nD) : Nat :=
  let c0_i32_2415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2414 : BitVec 32 := 1#32
  let v1818 : BitVec 32 := Scalar.muli v7 c1_i32_2414
  let v1819 : BitVec 32 := Scalar.addi c0_i32_2415 v1818
  v1819.toNat
def k0_dev60 (d0 : Dev nD) : Nat :=
  let c0_i32_2429 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2428 : BitVec 32 := 1#32
  let v1828 : BitVec 32 := Scalar.muli v5 c1_i32_2428
  let v1829 : BitVec 32 := Scalar.addi c0_i32_2429 v1828
  v1829.toNat
def k0_dev61 (d0 : Dev nD) : Nat :=
  let c0_i32_2546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2545 : BitVec 32 := 1#32
  let v1907 : BitVec 32 := Scalar.muli v7 c1_i32_2545
  let v1908 : BitVec 32 := Scalar.addi c0_i32_2546 v1907
  v1908.toNat
def k0_dev62 (d0 : Dev nD) : Nat :=
  let c0_i32_2587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2586 : BitVec 32 := 1#32
  let v1935 : BitVec 32 := Scalar.muli v5 c1_i32_2586
  let v1936 : BitVec 32 := Scalar.addi c0_i32_2587 v1935
  v1936.toNat
def k0_dev63 (d0 : Dev nD) : Nat :=
  let c0_i32_2625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2624 : BitVec 32 := 1#32
  let v1963 : BitVec 32 := Scalar.muli v7 c1_i32_2624
  let v1964 : BitVec 32 := Scalar.addi c0_i32_2625 v1963
  v1964.toNat
def k0_dev64 (d0 : Dev nD) : Nat :=
  let c0_i32_2664 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2663 : BitVec 32 := 1#32
  let v1991 : BitVec 32 := Scalar.muli v5 c1_i32_2663
  let v1992 : BitVec 32 := Scalar.addi c0_i32_2664 v1991
  v1992.toNat
def k0_dev65 (d0 : Dev nD) : Nat :=
  let c0_i32_2671 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2670 : BitVec 32 := 1#32
  let v2001 : BitVec 32 := Scalar.muli v5 c1_i32_2670
  let v2002 : BitVec 32 := Scalar.addi c0_i32_2671 v2001
  v2002.toNat
def k0_dev66 (d0 : Dev nD) : Nat :=
  let c0_i32_2674 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2673 : BitVec 32 := 1#32
  let v2003 : BitVec 32 := Scalar.muli v7 c1_i32_2673
  let v2004 : BitVec 32 := Scalar.addi c0_i32_2674 v2003
  v2004.toNat
def k0_dev67 (d0 : Dev nD) : Nat :=
  let c0_i32_2787 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2786 : BitVec 32 := 1#32
  let v2074 : BitVec 32 := Scalar.muli v7 c1_i32_2786
  let v2075 : BitVec 32 := Scalar.addi c0_i32_2787 v2074
  v2075.toNat
def k0_dev68 (d0 : Dev nD) : Nat :=
  let c0_i32_2828 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2827 : BitVec 32 := 1#32
  let v2102 : BitVec 32 := Scalar.muli v5 c1_i32_2827
  let v2103 : BitVec 32 := Scalar.addi c0_i32_2828 v2102
  v2103.toNat
def k0_dev69 (d0 : Dev nD) : Nat :=
  let c0_i32_2866 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2865 : BitVec 32 := 1#32
  let v2130 : BitVec 32 := Scalar.muli v7 c1_i32_2865
  let v2131 : BitVec 32 := Scalar.addi c0_i32_2866 v2130
  v2131.toNat
def k0_dev70 (d0 : Dev nD) : Nat :=
  let c0_i32_2905 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2904 : BitVec 32 := 1#32
  let v2158 : BitVec 32 := Scalar.muli v5 c1_i32_2904
  let v2159 : BitVec 32 := Scalar.addi c0_i32_2905 v2158
  v2159.toNat
def k0_dev71 (d0 : Dev nD) : Nat :=
  let c0_i32_2912 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2911 : BitVec 32 := 1#32
  let v2168 : BitVec 32 := Scalar.muli v5 c1_i32_2911
  let v2169 : BitVec 32 := Scalar.addi c0_i32_2912 v2168
  v2169.toNat
def k0_dev72 (d0 : Dev nD) : Nat :=
  let c0_i32_2915 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2914 : BitVec 32 := 1#32
  let v2170 : BitVec 32 := Scalar.muli v7 c1_i32_2914
  let v2171 : BitVec 32 := Scalar.addi c0_i32_2915 v2170
  v2171.toNat
def k0_dev73 (d0 : Dev nD) : Nat :=
  let c0_i32_3055 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3054 : BitVec 32 := 1#32
  let v2301 : BitVec 32 := Scalar.muli v5 c1_i32_3054
  let v2302 : BitVec 32 := Scalar.addi c0_i32_3055 v2301
  v2302.toNat
def k0_dev74 (d0 : Dev nD) : Nat :=
  let c0_i32_3064 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3063 : BitVec 32 := 1#32
  let v2308 : BitVec 32 := Scalar.muli v7 c1_i32_3063
  let v2309 : BitVec 32 := Scalar.addi c0_i32_3064 v2308
  v2309.toNat
def k0_dev75 (d0 : Dev nD) : Nat :=
  let c0_i32_3192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3191 : BitVec 32 := 1#32
  let v2377 : BitVec 32 := Scalar.muli v7 c1_i32_3191
  let v2378 : BitVec 32 := Scalar.addi c0_i32_3192 v2377
  v2378.toNat
def k0_dev76 (d0 : Dev nD) : Nat :=
  let c0_i32_3201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3200 : BitVec 32 := 1#32
  let v2390 : BitVec 32 := Scalar.muli v5 c1_i32_3200
  let v2391 : BitVec 32 := Scalar.addi c0_i32_3201 v2390
  v2391.toNat
def k0_dev77 (d0 : Dev nD) : Nat :=
  let c0_i32_3212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3211 : BitVec 32 := 1#32
  let v2398 : BitVec 32 := Scalar.muli v7 c1_i32_3211
  let v2399 : BitVec 32 := Scalar.addi c0_i32_3212 v2398
  v2399.toNat
def k0_dev78 (d0 : Dev nD) : Nat :=
  let c0_i32_3221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3220 : BitVec 32 := 1#32
  let v2411 : BitVec 32 := Scalar.muli v5 c1_i32_3220
  let v2412 : BitVec 32 := Scalar.addi c0_i32_3221 v2411
  v2412.toNat
def k0_dev79 (d0 : Dev nD) : Nat :=
  let c0_i32_3232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3231 : BitVec 32 := 1#32
  let v2419 : BitVec 32 := Scalar.muli v7 c1_i32_3231
  let v2420 : BitVec 32 := Scalar.addi c0_i32_3232 v2419
  v2420.toNat
def k0_dev80 (d0 : Dev nD) : Nat :=
  let c0_i32_3241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3240 : BitVec 32 := 1#32
  let v2432 : BitVec 32 := Scalar.muli v5 c1_i32_3240
  let v2433 : BitVec 32 := Scalar.addi c0_i32_3241 v2432
  v2433.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .local _ .vmem, ⟨0, _⟩ => ⟨S4096x8192, .f32⟩
  | .local _ .vmem, ⟨1, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Ring.Program.lean ====
/-
The kernel as a program over named steps: one panel of the ring, its hops, the ring of the maxima and the
rescaling of the output, each written once and used at every panel, lane and half. `body_eq` says the printed
function is this program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen
open Idealize.ShloMosaic Idealize.ShloMosaic.TcCoe
open Idealize.SL Idealize.SL.Sem

variable {F : FTy → Type} [FloatOps F]

/-- A program of the kernel's thread. -/
abbrev KP (F : FTy → Type) [FloatOps F] (α : Type) : Type 1 := Prog (TpuEff nD τ sig (Elt F) Λ₀ .tc) α

/-! ## The buffers -/

abbrev xM : Memref sig .tc .vmem S4096x1024 .f32 := Memref.whole cc0_stg0_0
abbrev wM : Memref sig .tc .hbm S1024x8192 .f32 := Memref.whole main_arg1
abbrev oM : Memref sig .tc .hbm S1024x8192 .f32 := Memref.whole main_v1
abbrev wvM : Memref sig .tc .vmem S2x1024x1024 .f32 := Memref.whole cc0_scratch0
abbrev acM : Memref sig .tc .vmem S2x1024x1024 .f32 := Memref.whole cc0_scratch1
abbrev sdM : Memref sig .tc .vmem S2x2x1024x1024 .bf16 := Memref.whole cc0_scratch2
abbrev rvM : Memref sig .tc .vmem S2x2x1024x1024 .bf16 := Memref.whole cc0_scratch3
abbrev yM : Memref sig .tc .vmem S2x1024x1024 .f32 := Memref.whole cc0_scratch4
abbrev asM : Memref sig .tc .vmem S8x128 .f32 := Memref.whole cc0_scratch5
abbrev arM : Memref sig .tc .vmem S8x128 .f32 := Memref.whole cc0_scratch6

/-! ## The rectangles -/

/-- The slot a hop's transfer uses: hops alternate between two. -/
abbrev slot (g : ℕ) : Fin 2 := ⟨g % 2, Nat.mod_lt _ (by decide)⟩

theorem half_inb (d s b : Fin 2) : ∀ a, (![d.val, s.val, 512 * b.val, 0] : Fin 4 → ℕ) a + S1x1x512x1024.size a ≤ S2x2x1024x1024.size a := by
  revert d s b; decide
theorem slot_inb (d s : Fin 2) : ∀ a, (![d.val, s.val, 0, 0] : Fin 4 → ℕ) a + S1x1x1024x1024.size a ≤ S2x2x1024x1024.size a := by
  revert d s; decide
theorem lane_inb (d : Fin 2) : ∀ a, (![d.val, 0, 0] : Fin 3 → ℕ) a + S1x1024x1024.size a ≤ S2x1024x1024.size a := by
  revert d; decide
theorem laneHalf_inb (d b : Fin 2) : ∀ a, (![d.val, 512 * b.val, 0] : Fin 3 → ℕ) a + S1x512x1024.size a ≤ S2x1024x1024.size a := by
  revert d b; decide
theorem col_inb (t : Fin 8) : ∀ a, (![0, 1024 * t.val] : Fin 2 → ℕ) a + S1024x1024.size a ≤ S1024x8192.size a := by
  revert t; decide

/-- Half `b` of lane `d`'s slot `s`. -/
abbrev halfR (d s b : Fin 2) : Rect S2x2x1024x1024 := Rect.unit (s := S2x2x1024x1024) ![d.val, s.val, 512 * b.val, 0] S1x1x512x1024.size (half_inb d s b)
/-- The whole of lane `d`'s slot `s`. -/
abbrev slotR (d s : Fin 2) : Rect S2x2x1024x1024 := Rect.unit (s := S2x2x1024x1024) ![d.val, s.val, 0, 0] S1x1x1024x1024.size (slot_inb d s)
/-- Lane `d`'s tile of a two-lane buffer. -/
abbrev laneR (d : Fin 2) : Rect S2x1024x1024 := Rect.unit (s := S2x1024x1024) ![d.val, 0, 0] S1x1024x1024.size (lane_inb d)
/-- Half `b` of lane `d`'s tile. -/
abbrev laneHalfR (d b : Fin 2) : Rect S2x1024x1024 := Rect.unit (s := S2x1024x1024) ![d.val, 512 * b.val, 0] S1x512x1024.size (laneHalf_inb d b)
/-- The `t`-th tile of columns. -/
abbrev colR (t : Fin 8) : Rect S1024x8192 := Rect.unit (s := S1024x8192) ![0, 1024 * t.val] S1024x1024.size (col_inb t)
/-- The rows of `x` lane `d` multiplies at hop `h` on device `c`. -/
abbrev rowR (c : Dev nD) (d : Fin 2) (h : Fin 4) : Rect S4096x1024 :=
  match d with
  | 0 => Rect.unit (s := S4096x1024) (k0_off1 c (BitVec.ofNat 32 h.val)) S1024x1024.size (k0_off1_inb c h)
  | 1 => Rect.unit (s := S4096x1024) (k0_off2 c (BitVec.ofNat 32 h.val)) S1024x1024.size (k0_off2_inb c h)
abbrev wholeR : Rect S8x128 := Rect.unit (s := S8x128) ![0, 0] S8x128.size inb_S8x128_S8x128_0_0
abbrev firstR : Rect S8x128 := Rect.unit (s := S8x128) ![0, 0] S1x1.size inb_S8x128_S1x1_0_0

theorem half_packed (d s b : Fin 2) : (halfR d s b).PackedRows (EltTy.packing .bf16) := by revert d s b; decide
theorem slot_packed (d s : Fin 2) : (slotR d s).PackedRows (EltTy.packing .bf16) := by revert d s; decide

/-! ## The pieces a transfer moves -/

abbrev sdH (d s b : Fin 2) : Memref sig .tc .vmem S512x1024 .bf16 :=
  (sdM.slice (halfR d s b) (fun _ => rfl) : Memref sig .tc .vmem S1x1x512x1024 .bf16).squeeze S512x1024 squeezes_S1x1x512x1024_S512x1024
abbrev rvH (d s b : Fin 2) : Memref sig .tc .vmem S512x1024 .bf16 :=
  (rvM.slice (halfR d s b) (fun _ => rfl) : Memref sig .tc .vmem S1x1x512x1024 .bf16).squeeze S512x1024 squeezes_S1x1x512x1024_S512x1024
abbrev laneOf (M : Memref sig .tc .vmem S2x1024x1024 .f32) (d : Fin 2) : Memref sig .tc .vmem S1024x1024 .f32 :=
  (M.slice (laneR d) (fun _ => rfl) : Memref sig .tc .vmem S1x1024x1024 .f32).squeeze S1024x1024 squeezes_S1x1024x1024_S1024x1024
abbrev colOf (M : Memref sig .tc .hbm S1024x8192 .f32) (t : Fin 8) : Memref sig .tc .hbm S1024x1024 .f32 :=
  M.slice (colR t) (fun _ => rfl)

theorem sdH_exact (d s b : Fin 2) : (sdH d s b).view.WordExact :=
  ((Memref.isWhole_whole cc0_scratch2).wordExact_slice rfl _ (half_packed d s b).wholeWords).reshape _ _
theorem rvH_exact (d s b : Fin 2) : (rvH d s b).view.WordExact :=
  ((Memref.isWhole_whole cc0_scratch3).wordExact_slice rfl _ (half_packed d s b).wholeWords).reshape _ _
theorem laneOf_exact (M : Memref sig .tc .vmem S2x1024x1024 .f32) (d : Fin 2) : (laneOf M d).view.WordExact :=
  (View.wordExact_bits rfl).reshape _ _
theorem colOf_exact (M : Memref sig .tc .hbm S1024x8192 .f32) (t : Fin 8) : (colOf M t).view.WordExact := View.wordExact_bits rfl

/-! ## The semaphores -/

theorem hop_inb (d : Fin 2) (i : Fin 24) : ∀ a, (![d.val, i.val] : Fin 2 → ℕ) a + S1x1.size a ≤ S2x24.size a := by
  revert d i; decide
theorem two_inb (d : Fin 2) : ∀ a, (![d.val] : Fin 1 → ℕ) a + S1.size a ≤ S2.size a := by revert d; decide
theorem three_inb (h : Fin 3) : ∀ a, (![h.val] : Fin 1 → ℕ) a + S1.size a ≤ S3.size a := by revert h; decide

abbrev hopSem (A : DmaSems sig S2x24) (d : Fin 2) (i : Fin 24) : DmaSem sig :=
  ((A.slice (Rect.unit (s := S2x24) ![d.val, i.val] S1x1.size (hop_inb d i)) : DmaSems sig S1x1).squeeze S_ squeezes_S1x1_S_).sem
abbrev twoSem (A : DmaSems sig S2) (d : Fin 2) : DmaSem sig :=
  ((A.slice (Rect.unit (s := S2) ![d.val] S1.size (two_inb d)) : DmaSems sig S1).squeeze S_ squeezes_S1_S_).sem
abbrev threeSem (A : DmaSems sig S3) (h : Fin 3) : DmaSem sig :=
  ((A.slice (Rect.unit (s := S3) ![h.val] S1.size (three_inb h)) : DmaSems sig S1).squeeze S_ squeezes_S1_S_).sem

/-- The index of hop `g`'s half `b` among a lane's transfers. -/
abbrev hopIx (g : Fin 12) (b : Fin 2) : Fin 24 := ⟨2 * g.val + b.val, by omega⟩

abbrev sendS (d : Fin 2) (g : Fin 12) (b : Fin 2) : DmaSem sig := hopSem cc0_scratch7 d (hopIx g b)
abbrev recvS (d : Fin 2) (g : Fin 12) (b : Fin 2) : DmaSem sig := hopSem cc0_scratch8 d (hopIx g b)
abbrev asS (h : Fin 3) : DmaSem sig := threeSem cc0_scratch9 h
abbrev arS (h : Fin 3) : DmaSem sig := threeSem cc0_scratch10 h
abbrev wS (d : Fin 2) : DmaSem sig := twoSem cc0_scratch11 d
abbrev yS (d : Fin 2) : DmaSem sig := twoSem cc0_scratch12 d
abbrev creditS (d : Fin 2) : Sem sig := match d with | 0 => (cc0_scratch13 : Sems sig S_).sem | 1 => (cc0_scratch14 : Sems sig S_).sem
abbrev acreditS : Sem sig := (cc0_scratch15 : Sems sig S_).sem
abbrev barS : Sem sig := (SemArray.scalar (sig.barrier 0 rfl) : Sems sig S_).sem

/-! ## The devices -/

abbrev leftD (c : Dev nD) : Dev nD := ⟨k0_dev1 c, k0_dev1_lt c⟩
abbrev rightD (c : Dev nD) : Dev nD := ⟨k0_dev2 c, k0_dev2_lt c⟩
/-- The device a lane's transfers go to, -/
abbrev tgtD (d : Fin 2) (c : Dev nD) : Dev nD := match d with | 0 => rightD c | 1 => leftD c
/-- and the one they come from. -/
abbrev srcD (d : Fin 2) (c : Dev nD) : Dev nD := match d with | 0 => leftD c | 1 => rightD c

/-! ## The values -/

/-- The product of a block of rows by a panel of the weights, rounded for sending. -/
abbrev firstVal (x : Vec F S1024x1024 .f32) (w : Vec F S1x1024x1024 .f32) : FVec F S1x1x1024x1024 .bf16 := k0_pay1 x w
/-- The product, kept. -/
abbrev accVal (x : Vec F S1024x1024 .f32) (w : Vec F S1x1024x1024 .f32) : FVec F S1x1024x1024 .f32 := k0_pay3 x w
/-- The kept product and what came in, rounded for sending on. -/
abbrev addVal (a : Vec F S1x512x1024 .f32) (v : Vec F S1x1x512x1024 .bf16) : FVec F S1x1x512x1024 .bf16 := k0_pay5 a v
/-- The kept product and what came in: the finished sum. -/
abbrev yVal (a : Vec F S1x512x1024 .f32) (v : Vec F S1x1x512x1024 .bf16) : FVec F S1x512x1024 .f32 := k0_pay24 a v
/-- The largest magnitude so far with the finished sum's. -/
abbrev maxVal (m : F .f32) (a : Vec F S1x512x1024 .f32) (v : Vec F S1x1x512x1024 .bf16) : F .f32 := k0_pay25 m a v
/-- The rescaled tile. -/
abbrev outVal (sc iv : F .f32) (y : Vec F S1x1024x1024 .f32) : FVec F S1x1024x1024 .f32 := k0_pay141 sc iv y

/-! ## The steps -/

abbrev lift {α : Type} (e : TpuEff nD τ sig (Elt F) Λ₀ .tc α) : KP F α := Prog.lift e

/-- A copy from a column tile of a buffer in HBM into a lane. -/
def copyIn (M : Memref sig .tc .hbm S1024x8192 .f32) (t : Fin 8) (B : Memref sig .tc .vmem S2x1024x1024 .f32) (d : Fin 2) (s : DmaSem sig) : KP F PUnit :=
  lift (.enqueueDma (colOf M t) (.here (laneOf B d)) (.dma s) (colOf_exact M t) (laneOf_exact B d) ⟨Or.inl rfl, trivial⟩)
def waitIn (M : Memref sig .tc .hbm S1024x8192 .f32) (t : Fin 8) (B : Memref sig .tc .vmem S2x1024x1024 .f32) (d : Fin 2) (s : DmaSem sig) : KP F PUnit :=
  lift (.waitDma2 s (colOf M t) (laneOf B d) (colOf_exact M t) (laneOf_exact B d))
/-- A copy from a lane out to a column tile. -/
def copyOut (B : Memref sig .tc .vmem S2x1024x1024 .f32) (d : Fin 2) (M : Memref sig .tc .hbm S1024x8192 .f32) (t : Fin 8) (s : DmaSem sig) : KP F PUnit :=
  lift (.enqueueDma (laneOf B d) (.here (colOf M t)) (.dma s) (laneOf_exact B d) (colOf_exact M t) ⟨Or.inl rfl, trivial⟩)
def waitOut (B : Memref sig .tc .vmem S2x1024x1024 .f32) (d : Fin 2) (M : Memref sig .tc .hbm S1024x8192 .f32) (t : Fin 8) (s : DmaSem sig) : KP F PUnit :=
  lift (.waitDma2 s (laneOf B d) (colOf M t) (laneOf_exact B d) (colOf_exact M t))

/-- The panel of columns lane `d` works on in panel `p`. -/
abbrev colIx (d : Fin 2) (p : Fin 4) : Fin 8 := ⟨4 * d.val + p.val, by omega⟩

/-- Wait until hop `g`'s half has left. -/
def waitSend (d : Fin 2) (g : Fin 12) (b : Fin 2) : KP F PUnit :=
  lift (.waitDma2 (sendS d g b) (rvH d (slot g.val) b) (sdH d (slot g.val) b) (rvH_exact _ _ _) (sdH_exact _ _ _))
def waitRecv (d : Fin 2) (g : Fin 12) (b : Fin 2) : KP F PUnit :=
  lift (.waitDma2 (recvS d g b) (sdH d (slot g.val) b) (rvH d (slot g.val) b) (sdH_exact _ _ _) (rvH_exact _ _ _))

/-- Before a slot is filled for hop `g`, the hop that used it last has left. -/
def freeSlot (d : Fin 2) (g : ℕ) (hg : g < 14) : KP F PUnit :=
  if h : 2 ≤ g then do
    waitSend d ⟨g - 2, by omega⟩ 0
    waitSend d ⟨g - 2, by omega⟩ 1
  else pure ⟨⟩

/-- Send hop `g`'s half on; from the third hop on, only once the target has emptied the slot. -/
def sendHop (c : Dev nD) (d : Fin 2) (g : Fin 12) (b : Fin 2) : KP F PUnit := do
  if 2 ≤ g.val ∧ b.val = 0 then semWaitWord (creditS d) 1#32 else pure ⟨⟩
  lift (.enqueueDma (sdH d (slot g.val) b) (.remote (Dev.tc (tgtD d c)) (rvH d (slot g.val) b) (.dma (sendS d g b)))
    (.dma (recvS d g b)) (sdH_exact _ _ _) (rvH_exact _ _ _) ⟨⟨rfl, Or.inl rfl⟩, trivial⟩)

/-- Tell the device a lane comes from that a slot is empty again. -/
def giveCredit (c : Dev nD) (d : Fin 2) : KP F PUnit := semSignalWord (srcD d c) (creditS d) 1#32

def loadRows (c : Dev nD) (d : Fin 2) (h : Fin 4) : KP F (Vec F S1024x1024 .f32) :=
  match d with
  | 0 => lift (.load xM (rowR c 0 h).toLoadRect (View.loadsAt_vmem h_S1024x1024))
  | 1 => lift (.load xM (rowR c 1 h).toLoadRect (View.loadsAt_vmem h_S1024x1024))

/-- A panel's first product, into the slot its first hop sends. -/
def firstStep (c : Dev nD) (d : Fin 2) (s : Fin 2) : KP F PUnit := do
  let x ← loadRows c d 0
  let w : Vec F S1x1024x1024 .f32 ← lift (.load wvM (laneR d).toLoadRect (View.loadsAt_vmem h_S1x1024x1024))
  let _ : Vec F S1x1x1024x1024 .bf16 ← lift (.load sdM (slotR d s).toLoadRect (View.loadsAt_vmem h_S1x1x1024x1024))
  lift (.store sdM (slotR d s) (firstVal x w) Finset.univ
    (View.stores_vmem h_S1x1x1024x1024 ((Memref.isWhole_whole cc0_scratch2).storeExact_slice rfl _ (slot_packed d s)) (fun _ => rfl)) (.inl rfl))

/-- The product a hop adds to what comes in. -/
def accStep (c : Dev nD) (d : Fin 2) (h : Fin 4) : KP F PUnit := do
  let x ← loadRows c d h
  let w : Vec F S1x1024x1024 .f32 ← lift (.load wvM (laneR d).toLoadRect (View.loadsAt_vmem h_S1x1024x1024))
  let _ : Vec F S1x1024x1024 .f32 ← lift (.load acM (laneR d).toLoadRect (View.loadsAt_vmem h_S1x1024x1024))
  lift (.store acM (laneR d) (accVal x w) Finset.univ
    (View.stores_vmem_bits_univ h_S1x1024x1024 rfl) (.inl rfl))

/-- A hop's half: what came in is added and sent on. -/
def addStep (d : Fin 2) (g : Fin 12) (g' : Fin 12) (b : Fin 2) : KP F PUnit := do
  waitRecv d g b
  let a : Vec F S1x512x1024 .f32 ← lift (.load acM (laneHalfR d b).toLoadRect (View.loadsAt_vmem h_S1x512x1024))
  let v : Vec F S1x1x512x1024 .bf16 ← lift (.load rvM (halfR d (slot g.val) b).toLoadRect (View.loadsAt_vmem h_S1x1x512x1024))
  let _ : Vec F S1x1x512x1024 .bf16 ← lift (.load sdM (halfR d (slot g'.val) b).toLoadRect (View.loadsAt_vmem h_S1x1x512x1024))
  lift (.store sdM (halfR d (slot g'.val) b) (addVal a v) Finset.univ
    (View.stores_vmem h_S1x1x512x1024 ((Memref.isWhole_whole cc0_scratch2).storeExact_slice rfl _ (half_packed d _ b)) (fun _ => rfl)) (.inl rfl))

/-- A panel's last half: what came in completes the sum, whose magnitude is taken. -/
def lastStep (d : Fin 2) (g : Fin 12) (b : Fin 2) (m : F .f32) : KP F (F .f32) := do
  waitRecv d g b
  let a : Vec F S1x512x1024 .f32 ← lift (.load acM (laneHalfR d b).toLoadRect (View.loadsAt_vmem h_S1x512x1024))
  let v : Vec F S1x1x512x1024 .bf16 ← lift (.load rvM (halfR d (slot g.val) b).toLoadRect (View.loadsAt_vmem h_S1x1x512x1024))
  let _ : Vec F S1x512x1024 .f32 ← lift (.load yM (laneHalfR d b).toLoadRect (View.loadsAt_vmem h_S1x512x1024))
  lift (.store yM (laneHalfR d b) (yVal a v) Finset.univ
    (View.stores_vmem_bits_univ h_S1x512x1024 rfl) (.inl rfl))
  pure (maxVal m a v)

/-- Hop `j` of panel `p`, among all. -/
abbrev hopOf (p : Fin 4) (j : Fin 3) : Fin 12 := ⟨3 * p.val + j.val, by omega⟩

/-- Before a panel's sums are written, the last panel's have been copied out. -/
def freeY (d : Fin 2) (p : Fin 4) : KP F PUnit :=
  if h : 0 < p.val then waitOut yM d oM (colIx d ⟨p.val - 1, by omega⟩) (yS d) else pure ⟨⟩

/-- A middle hop of a panel. -/
def midHop (c : Dev nD) (p : Fin 4) (j : Fin 2) : KP F PUnit := do
  let g : Fin 12 := hopOf p j.castSucc
  let g' : Fin 12 := hopOf p j.succ
  accStep c 0 j.succ.castSucc
  accStep c 1 j.succ.castSucc
  freeSlot 0 g'.val (by omega)
  freeSlot 1 g'.val (by omega)
  addStep 0 g g' 0
  sendHop c 0 g' 0
  addStep 1 g g' 0
  sendHop c 1 g' 0
  addStep 0 g g' 1
  sendHop c 0 g' 1
  addStep 1 g g' 1
  sendHop c 1 g' 1
  giveCredit c 0
  giveCredit c 1

def firstHop (c : Dev nD) (p : Fin 4) : KP F PUnit := do
  let g : Fin 12 := hopOf p 0
  copyIn wM (colIx 0 p) wvM 0 (wS 0)
  copyIn wM (colIx 1 p) wvM 1 (wS 1)
  waitIn wM (colIx 0 p) wvM 0 (wS 0)
  freeSlot 0 g.val (by omega)
  firstStep c 0 (slot g.val)
  waitIn wM (colIx 1 p) wvM 1 (wS 1)
  freeSlot 1 g.val (by omega)
  firstStep c 1 (slot g.val)
  sendHop c 0 g 0
  sendHop c 1 g 0
  sendHop c 0 g 1
  sendHop c 1 g 1

def lastHop (c : Dev nD) (p : Fin 4) (m : F .f32) : KP F (F .f32) := do
  let g : Fin 12 := hopOf p 2
  accStep c 0 3
  accStep c 1 3
  freeY 0 p
  freeY 1 p
  let m ← lastStep 0 g 0 m
  let m ← lastStep 1 g 0 m
  let m ← lastStep 0 g 1 m
  let m ← lastStep 1 g 1 m
  giveCredit c 0
  copyOut yM 0 oM (colIx 0 p) (yS 0)
  giveCredit c 1
  copyOut yM 1 oM (colIx 1 p) (yS 1)
  pure m

/-- One panel of columns, both lanes. -/
def panel (c : Dev nD) (p : Fin 4) (m : F .f32) : KP F (F .f32) := do
  firstHop c p
  midHop c p 0
  midHop c p 1
  lastHop c p m

/-- The meeting of the neighbours at the start. -/
def handshake (c : Dev nD) : KP F PUnit := do
  semSignalWord (leftD c) barS 1#32
  semSignalWord (rightD c) barS 1#32
  semWaitWord barS 2#32

/-- After the last panel a lane's copies out and its last two hops have left. -/
def drain (d : Fin 2) : KP F PUnit := do
  waitOut yM d oM (colIx d 3) (yS d)
  freeSlot d 12 (by decide)
  freeSlot d 13 (by decide)

/-- One hop of the ring of the maxima. -/
def maxHop (c : Dev nD) (h : Fin 3) (m : F .f32) : KP F (F .f32) := do
  let _ : Vec F S8x128 .f32 ← lift (.load asM wholeR.toLoadRect (View.loadsAt_vmem h_S8x128))
  lift (.store asM wholeR (k0_pay131 m) Finset.univ (View.stores_vmem_bits_univ h_S8x128 rfl) (.inl rfl))
  if 0 < h.val then semWaitWord acreditS 1#32 else pure ⟨⟩
  lift (.enqueueDma asM (.remote (Dev.tc (rightD c)) arM (.dma (asS h))) (.dma (arS h))
    (Memref.isWhole_whole cc0_scratch5).wordExact (Memref.isWhole_whole cc0_scratch6).wordExact ⟨⟨rfl, Or.inl rfl⟩, trivial⟩)
  lift (.waitDma2 (arS h) asM arM (Memref.isWhole_whole cc0_scratch5).wordExact (Memref.isWhole_whole cc0_scratch6).wordExact)
  let v : Vec F S1x1 .f32 ← lift (.load arM firstR.toLoadRect (View.loadsAt_vmem h_S1x1))
  semSignalWord (leftD c) acreditS 1#32
  lift (.waitDma2 (asS h) arM asM (Memref.isWhole_whole cc0_scratch6).wordExact (Memref.isWhole_whole cc0_scratch5).wordExact)
  pure (k0_pay132 m v)

/-- The credits not taken by a transfer. -/
def lastCredits : KP F PUnit := do
  semWaitWord (creditS 0) 2#32
  semWaitWord (creditS 1) 2#32
  semWaitWord acreditS 1#32

/-! The rescaling: tile `t` goes through buffer `t % 4`. -/

abbrev bufM (b : Fin 4) : Memref sig .tc .vmem S2x1024x1024 .f32 := match b with | 0 => yM | 1 => yM | 2 => acM | 3 => acM
abbrev bufD (b : Fin 4) : Fin 2 := match b with | 0 => 0 | 1 => 1 | 2 => 0 | 3 => 1
abbrev bufS (b : Fin 4) : DmaSem sig := match b with | 0 => yS 0 | 1 => yS 1 | 2 => wS 0 | 3 => wS 1

/-- The tile of columns a buffer takes in round `r`. -/
abbrev tileIx (r : Fin 2) (b : Fin 4) : Fin 8 := ⟨4 * r.val + b.val, by omega⟩

def tileIn (r : Fin 2) (b : Fin 4) : KP F PUnit := copyIn oM (tileIx r b) (bufM b) (bufD b) (bufS b)
def tileWait (r : Fin 2) (b : Fin 4) : KP F PUnit := waitIn oM (tileIx r b) (bufM b) (bufD b) (bufS b)
def tileOut (r : Fin 2) (b : Fin 4) : KP F PUnit := copyOut (bufM b) (bufD b) oM (tileIx r b) (bufS b)
def tileDone (r : Fin 2) (b : Fin 4) : KP F PUnit := waitOut (bufM b) (bufD b) oM (tileIx r b) (bufS b)

/-- A tile rescaled in its buffer. -/
def scaleLane (B : Memref sig .tc .vmem S2x1024x1024 .f32) (hB : B.IsWhole) (d : Fin 2) (sc iv : F .f32) : KP F PUnit := do
  let y : Vec F S1x1024x1024 .f32 ← lift (.load B (laneR d).toLoadRect (View.loadsAt_vmem h_S1x1024x1024))
  let _ : Vec F S1x1024x1024 .f32 ← lift (.load B (laneR d).toLoadRect (View.loadsAt_vmem h_S1x1024x1024))
  lift (.store B (laneR d) (outVal sc iv y) Finset.univ (View.stores_vmem_bits_univ h_S1x1024x1024 rfl) (.inl rfl))

theorem bufM_whole (b : Fin 4) : (bufM b).IsWhole := match b with
  | 0 => Memref.isWhole_whole _ | 1 => Memref.isWhole_whole _ | 2 => Memref.isWhole_whole _ | 3 => Memref.isWhole_whole _

def tileStep (r : Fin 2) (b : Fin 4) (sc iv : F .f32) : KP F PUnit := do
  tileWait r b
  scaleLane (bufM b) (bufM_whole b) (bufD b) sc iv
  tileOut r b

def rescale (sc iv : F .f32) : KP F PUnit := do
  tileIn 0 0
  tileIn 0 1
  tileIn 0 2
  tileIn 0 3
  tileStep 0 0 sc iv
  tileDone 0 0
  tileIn 1 0
  tileStep 0 1 sc iv
  tileDone 0 1
  tileIn 1 1
  tileStep 0 2 sc iv
  tileDone 0 2
  tileIn 1 2
  tileStep 0 3 sc iv
  tileDone 0 3
  tileIn 1 3
  tileStep 1 0 sc iv
  tileStep 1 1 sc iv
  tileStep 1 2 sc iv
  tileStep 1 3 sc iv
  tileDone 1 0
  tileDone 1 1
  tileDone 1 2
  tileDone 1 3

/-- The kernel. -/
def ringBody : KP F PUnit := do
  let c : Dev nD ← lift .deviceId
  handshake c
  let m ← panel c 0 (Scalar.ofBits .f32 0x00000000#32)
  let m ← panel c 1 m
  let m ← panel c 2 m
  let m ← panel c 3 m
  drain 0
  drain 1
  let m ← maxHop c 0 m
  let m ← maxHop c 1 m
  let m ← maxHop c 2 m
  lastCredits
  rescale (Scalar.divf m (Scalar.ofBits .f32 0x43E00000#32)) (Scalar.divf (Scalar.ofBits .f32 0x43E00000#32) m)

set_option maxRecDepth 65536 in
theorem body_eq : cc0_body_skel (F := F) (Memref.whole cc0_stg0_0) (Memref.isWhole_whole _) (Memref.whole main_arg1) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _)
    cc0_scratch7 cc0_scratch8 cc0_scratch9 cc0_scratch10 cc0_scratch11 cc0_scratch12 cc0_scratch13 cc0_scratch14 cc0_scratch15 = ringBody (F := F) := by
  chain_rfl

end Cert.Ring

end
-- ==== Proof.Ring.Pieces.lean ====
/-
The logic of one device's run: triples over the kernel's steps, and buffers held piece by piece. A piece is
a memref owned at what it reads (`owns`); here are its loads, stores and local copies, and how pieces split and
join: two lanes to a buffer, two halves to a lane, eight column tiles to an array.
-/
module

public import proofs.«01_k».proof.Proof.Ring.Program
public import Idealize.ShloMosaic.Lib.Transfers
public import Idealize.ShloMosaic.Lib.Release
public import Idealize.ShloMosaic.Lib.Rounds
public import Idealize.ShloMosaic.Lib.Memref
public import Idealize.ShloMosaic.Lib.Pipeline.ValueKit.Geometry

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

/-! ## The logic -/

/-- A receive slot: the device, the lane, which of the two. -/
abbrev Key : Type := Dev nD × Fin 2 × Fin 2
abbrev UB : Type := URounds (GSem nD τ sig) ℕ
/-- The pipeline's resources, the rounds of the transfers' and credits' cells, the releases of the receive slots,
    the local copies' counters. -/
abbrev UU : Type := UR sig nD τ × (UB × (USlots Key × Counters))

local notation "𝕄" => MT nD τ sig ℕ (Elt F) ℕ UU ℕ

abbrev EP : Emb (UR sig nD τ) 𝕄 := embL
abbrev ERest : Emb (UB × (USlots Key × Counters)) 𝕄 := embR
abbrev ER : Emb UB 𝕄 := (Emb.inl : Emb UB (UB × (USlots Key × Counters))).trans ERest
abbrev ESlot : Emb (USlots Key) 𝕄 :=
  ((Emb.inl : Emb (USlots Key) (USlots Key × Counters)).trans (Emb.inr : Emb (USlots Key × Counters) (UB × (USlots Key × Counters)))).trans ERest
abbrev EC : UEmb Counters 𝕄 := countersEmb

abbrev 𝒱₀ : Variants := Variants.none

/-- The run of a piece of the kernel on device `c`. -/
abbrev WP (c : Dev nD) {α : Type} (p : KP F α) (Q : α → sProp 𝕄) : sProp 𝕄 :=
  wp frame (wpE (defs₀ (F := F)) 𝒱₀ (c : Thread nD τ) none) Set.univ p Q

/-- From `P` the piece runs on device `c`, to `Q`. -/
def Tri (c : Dev nD) {α : Type} (P : sProp 𝕄) (p : KP F α) (Q : α → sProp 𝕄) : Prop := P ⊢ WP c p Q

theorem Tri.bind {c : Dev nD} {α β : Type} {P : sProp 𝕄} {p : KP F α} {k : α → KP F β} {Q : α → sProp 𝕄} {R : β → sProp 𝕄}
    (h : Tri c P p Q) (hk : ∀ a, Tri c (Q a) (k a) R) : Tri c P (p >>= k) R := by
  unfold Tri WP at *
  rw [wp_bind]
  exact h.trans (wp_mono _ _ _ fun a => hk a)

/-- A triple in the middle of a run. -/
theorem Tri.use {c : Dev nD} {α β : Type} {P : sProp 𝕄} {p : KP F α} {Q : α → sProp 𝕄} (h : Tri c P p Q)
    {k : α → KP F β} {R : β → sProp 𝕄} : P ⊢ iprop((∀ a, Q a -∗ WP c (k a) R) -∗ WP c (p >>= k) R) := by
  unfold Tri WP at *
  rw [wp_bind]
  iintro HP Hk
  ihave H := h $$ HP
  iapply (wp_wand_r (Fr := frame) (wpE := wpE (defs₀ (F := F)) 𝒱₀ (c : Thread nD τ) none) (E := Set.univ) (Q := Q))
  isplitl [H]
  · iexact H
  · iexact Hk

/-- The same at the end of a run. -/
theorem Tri.use_last {c : Dev nD} {α : Type} {P : sProp 𝕄} {p : KP F α} {Q : α → sProp 𝕄} (h : Tri c P p Q)
    {R : α → sProp 𝕄} : P ⊢ iprop((∀ a, Q a -∗ R a) -∗ WP c p R) := by
  unfold Tri WP at *
  iintro HP Hk
  ihave H := h $$ HP
  iapply (wp_wand_r (Fr := frame) (wpE := wpE (defs₀ (F := F)) 𝒱₀ (c : Thread nD τ) none) (E := Set.univ) (Q := Q))
  isplitl [H]
  · iexact H
  · iexact Hk

theorem Tri.pure {c : Dev nD} {α : Type} {P : sProp 𝕄} {a : α} {Q : α → sProp 𝕄} (h : P ⊢ Q a) : Tri c P (Pure.pure a : KP F α) Q := by
  unfold Tri WP
  rw [Prog.pure_eq_ret, wp_ret]
  exact h.trans fupd_intro

theorem Tri.pre {c : Dev nD} {α : Type} {P P' : sProp 𝕄} {p : KP F α} {Q : α → sProp 𝕄} (h : P ⊢ P') (hp : Tri c P' p Q) : Tri c P p Q :=
  h.trans hp

theorem Tri.post {c : Dev nD} {α : Type} {P : sProp 𝕄} {p : KP F α} {Q Q' : α → sProp 𝕄} (hp : Tri c P p Q) (h : ∀ a, Q a ⊢ Q' a) : Tri c P p Q' :=
  BIBase.Entails.trans hp (wp_mono _ _ _ h)

/-- A rule in continuation form is a triple. -/
theorem Tri.of_op {c : Dev nD} {α : Type} {P : sProp 𝕄} {e : TpuEff nD τ sig (Elt F) Λ₀ .tc α} {Q : α → sProp 𝕄}
    (h : P ⊢ iprop((∀ a, Q a -∗ WP c (.ret a) Q) -∗ WP c (.op e .ret) Q)) : Tri c P (lift e) Q := by
  unfold Tri
  iintro HP
  iapply h $$ HP
  iintro %a HQ
  unfold WP
  rw [wp_ret]
  imodintro
  iexact HQ

/-! ## Pieces -/

section Owns

variable (c : Dev nD) {sp : Space} {s s' : Shape} {e : EltTy} (q : PosShare TreeShare)

/-- A piece at any contents. -/
def anyOf (m : Memref sig .tc sp s e) : sProp 𝕄 := iprop(∃ X, owns (c : Thread nD τ) m fullShare X)

instance anyOf_storable (m : Memref sig .tc sp s e) : BI.Storable (upEmb : UEmb _ 𝕄) (anyOf (F := F) c m) := by
  unfold anyOf; infer_instance

theorem anyOf_intro (m : Memref sig .tc sp s e) (X : s.Idx → Elt F e) : (owns (c : Thread nD τ) m fullShare X : sProp 𝕄) ⊢ anyOf c m := by
  unfold anyOf; iintro H; iexists X; iexact H

theorem owns_open (m : Memref sig .tc sp s e) (X : s.Idx → Elt F e) : (owns (c : Thread nD τ) m q X : sProp 𝕄)
    ⊢ iprop(∃ f, ⌜m.view.read (Elt F) f = X⌝ ∗ (m.view.loc (c : Thread nD τ) ↦[m.view.set]{q} f)) := by
  unfold owns; iintro H; iexact H

theorem owns_shut (m : Memref sig .tc sp s e) (X : s.Idx → Elt F e) (f : m.view.ty.Contents (Elt F)) (h : m.view.read (Elt F) f = X) :
    (m.view.loc (c : Thread nD τ) ↦[m.view.set]{q} f : sProp 𝕄) ⊢ owns (c : Thread nD τ) m q X := by
  subst h; exact owns_intro (c : Thread nD τ) m q f

/-- What a squeezed memref reads, at the unsqueezed shape, -/
abbrev unsq {α : Type} (h : s.Squeezes s') (Y : s'.Idx → α) : s.Idx → α := fun i => Y ((Shape.reshapeEquiv h.numel_eq).symm i)
/-- and the other way. -/
abbrev sqz {α : Type} (h : s.Squeezes s') (X : s.Idx → α) : s'.Idx → α := fun j => X (Shape.reshapeEquiv h.numel_eq j)

theorem unsq_sqz {α : Type} (h : s.Squeezes s') (X : s.Idx → α) : unsq h (sqz h X) = X := funext fun i => by
  show X (Shape.reshapeEquiv h.numel_eq ((Shape.reshapeEquiv h.numel_eq).symm i)) = X i
  rw [Equiv.apply_symm_apply]
theorem sqz_unsq {α : Type} (h : s.Squeezes s') (Y : s'.Idx → α) : sqz h (unsq h Y) = Y := funext fun j => by
  show Y ((Shape.reshapeEquiv h.numel_eq).symm (Shape.reshapeEquiv h.numel_eq j)) = Y j
  rw [Equiv.symm_apply_apply]

theorem owns_squeeze (m : Memref sig .tc sp s e) (h : s.Squeezes s') (X : s.Idx → Elt F e) :
    (owns (c : Thread nD τ) (m.squeeze s' h) q (sqz h X) : sProp 𝕄) = owns (c : Thread nD τ) m q X := by
  unfold owns
  refine congrArg _ (funext fun f => ?_)
  have h1 : ((m.squeeze s' h).view.read (Elt F) f = sqz h X) = (m.view.read (Elt F) f = X) := propext
    ⟨fun hf => by
      have h2 : sqz h (m.view.read (Elt F) f) = sqz h X := hf
      rw [← unsq_sqz h (m.view.read (Elt F) f), h2, unsq_sqz],
     fun hf => by subst hf; rfl⟩
  have h2 : (m.squeeze s' h).view.set = m.view.set := View.set_reshape ..
  rw [h1, h2]

theorem owns_squeeze' (m : Memref sig .tc sp s e) (h : s.Squeezes s') (Y : s'.Idx → Elt F e) :
    (owns (c : Thread nD τ) (m.squeeze s' h) q Y : sProp 𝕄) = owns (c : Thread nD τ) m q (unsq h Y) := by
  rw [← owns_squeeze c q m h, sqz_unsq]

end Owns

section Access

variable (c : Dev nD) {sp : Space} {s : Shape} {e : EltTy}

/-- Load a piece that is owned. -/
theorem tri_load (M : Memref sig .tc .vmem s e) (r : Rect s) (hr : ∀ a, r.stride a = 1) (hl : M.view.LoadsAt r.toLoadRect)
    (q : PosShare TreeShare) (X : r.shape.Idx → Elt F e) :
    Tri c (owns (c : Thread nD τ) (M.slice r hr) q X) (lift (.load M r.toLoadRect hl))
      (fun v => iprop(⌜v = X⌝ ∗ owns (c : Thread nD τ) (M.slice r hr) q X)) := by
  unfold Tri owns WP
  iintro ⟨%f, %hf, H⟩
  iapply (wp_load_rect 𝒱₀ (c : Thread nD τ) none Set.univ (m := M) (r := r) (Finset.Subset.refl _)) $$ H
  iintro H
  rw [wp_ret]; imodintro
  isplitr; · ipureintro; exact hf
  iexists f
  isplitr; · ipureintro; exact hf
  iexact H

/-- Store to a piece that is owned. -/
theorem tri_store (M : Memref sig .tc .vmem s e) (r : Rect s) (hr : ∀ a, r.stride a = 1) (w : r.shape.Idx → Elt F e) (hs) (hm)
    (X : r.shape.Idx → Elt F e) :
    Tri c (owns (c : Thread nD τ) (M.slice r hr) fullShare X) (lift (.store M r w Finset.univ hs hm))
      (fun _ => owns (c : Thread nD τ) (M.slice r hr) fullShare w) := by
  unfold Tri owns WP
  iintro ⟨%f, %hf, H⟩
  iapply (wp_store 𝒱₀ (c : Thread nD τ) none Set.univ (m := M) (r := r) (Mk := Finset.univ) (S := (M.access r).set) (Finset.Subset.refl _)) $$ H
  iintro H
  rw [wp_ret]; imodintro
  iexists _
  isplitr; swap
  · iexact H
  · ipureintro; exact View.read_write_univ ..

end Access

/-! ## Local copies -/

section Copies

variable (c : Dev nD)

/-- What a copy of a tile credits its semaphore. -/
abbrev NT : ℕ := (laneOf acM 0).view.dmaCredit

/-- A copy of a tile of columns into a lane. -/
theorem tri_copyIn (M : Memref sig .tc .hbm S1024x8192 .f32) (t : Fin 8) (B : Memref sig .tc .vmem S2x1024x1024 .f32) (d : Fin 2) (s : DmaSem sig)
    (q : PosShare TreeShare) (X : S1024x1024.Idx → Elt F .f32) :
    Tri c iprop(owns (c : Thread nD τ) (colOf M t) q X ∗ anyOf c (B.slice (laneR d) (fun _ => rfl)) ∗ semVal ((c : Thread nD τ), SemLoc.dma s) 0)
      (copyIn M t B d s)
      (fun _ => Flight EC (c : Thread nD τ) (.dma s) 0 NT
        iprop(owns (c : Thread nD τ) (B.slice (laneR d) (fun _ => rfl)) fullShare (unsq squeezes_S1x1024x1024_S1024x1024 X) ∗ owns (c : Thread nD τ) (colOf M t) q X)) := by
  unfold Tri copyIn WP anyOf
  iintro ⟨Hs, ⟨%Y, Hd⟩, Hv⟩
  ihave Hd := (Entails.of_eq (owns_squeeze c fullShare (B.slice (laneR d) (fun _ => rfl)) squeezes_S1x1024x1024_S1024x1024 Y).symm) $$ Hd
  ihave Hs := (owns_open c _ _ _) $$ Hs
  ihave Hd := (owns_open c _ _ _) $$ Hd
  icases Hs with ⟨%f, %hf, Hs⟩
  icases Hd with ⟨%g, %hg, Hd⟩
  iapply (wp_dmaLocal EC 𝒱₀ (c : Thread nD τ) none (via := .same) (src := colOf M t) (dst := laneOf B d) 0 NT rfl (View.dmaCredit_pos _ (by decide)) (Finset.Subset.refl _)) $$ [Hs Hd Hv]
  · isplitl [Hs]; · iexact Hs
    isplitl [Hd]; · iexact Hd
    iexact Hv
  iintro H
  rw [wp_ret]; imodintro
  iapply (Flight_mono (EC := EC) _) $$ H
  iintro ⟨Hd, Hs⟩
  isplitl [Hd]
  · iapply (Entails.of_eq (owns_squeeze' c fullShare (B.slice (laneR d) (fun _ => rfl)) squeezes_S1x1024x1024_S1024x1024 X))
    iapply (owns_shut c _ _ _ _ (by rw [View.read_write_univ]; exact hf)) $$ Hd
  · iapply (owns_shut c _ _ _ _ hf) $$ Hs

/-- A copy of a lane out to a tile of columns. -/
theorem tri_copyOut (M : Memref sig .tc .hbm S1024x8192 .f32) (t : Fin 8) (B : Memref sig .tc .vmem S2x1024x1024 .f32) (d : Fin 2) (s : DmaSem sig)
    (q : PosShare TreeShare) (X : S1x1024x1024.Idx → Elt F .f32) :
    Tri c iprop(owns (c : Thread nD τ) (B.slice (laneR d) (fun _ => rfl)) q X ∗ anyOf c (colOf M t) ∗ semVal ((c : Thread nD τ), SemLoc.dma s) 0)
      (copyOut B d M t s)
      (fun _ => Flight EC (c : Thread nD τ) (.dma s) 0 NT
        iprop(owns (c : Thread nD τ) (colOf M t) fullShare (sqz squeezes_S1x1024x1024_S1024x1024 X) ∗ owns (c : Thread nD τ) (B.slice (laneR d) (fun _ => rfl)) q X)) := by
  unfold Tri copyOut WP anyOf
  iintro ⟨Hs, ⟨%Y, Hd⟩, Hv⟩
  ihave Hs := (Entails.of_eq (owns_squeeze c q (B.slice (laneR d) (fun _ => rfl)) squeezes_S1x1024x1024_S1024x1024 X).symm) $$ Hs
  ihave Hs := (owns_open c _ _ _) $$ Hs
  ihave Hd := (owns_open c _ _ _) $$ Hd
  icases Hs with ⟨%f, %hf, Hs⟩
  icases Hd with ⟨%g, %hg, Hd⟩
  iapply (wp_dmaLocal EC 𝒱₀ (c : Thread nD τ) none (via := .same) (src := laneOf B d) (dst := colOf M t) 0 NT rfl (View.dmaCredit_pos _ (by decide)) (Finset.Subset.refl _)) $$ [Hs Hd Hv]
  · isplitl [Hs]; · iexact Hs
    isplitl [Hd]; · iexact Hd
    iexact Hv
  iintro H
  rw [wp_ret]; imodintro
  iapply (Flight_mono (EC := EC) _) $$ H
  iintro ⟨Hd, Hs⟩
  isplitl [Hd]
  · iapply (owns_shut c _ _ _ _ (by rw [View.read_write_univ]; exact hf)) $$ Hd
  · iapply (Entails.of_eq (owns_squeeze c q (B.slice (laneR d) (fun _ => rfl)) squeezes_S1x1024x1024_S1024x1024 X))
    iapply (owns_shut c _ _ _ _ hf) $$ Hs

end Copies

/-! ## Splitting and joining -/

section Parts

variable (c : Dev nD) {sp : Space} {s : Shape} {e : EltTy} (q : PosShare TreeShare)

/-- A slice of a slice is a slice. -/
theorem owns_slice_slice (M : Memref sig .tc sp s e) (off size off' size' off'' : Fin s.rank → ℕ) (inb) (inb' : ∀ a, off' a + size' a ≤ size a) (inb'')
    (h : ∀ a, off'' a = off a + off' a) (X : (⟨s.rank, size'⟩ : Shape).Idx → Elt F e) :
    (owns (c : Thread nD τ) ((M.slice (Rect.unit off size inb) (fun _ => rfl)).slice (Rect.unit (s := ⟨s.rank, size⟩) off' size' inb') (fun _ => rfl)) q X : sProp 𝕄)
      = owns (c : Thread nD τ) (M.slice (Rect.unit off'' size' inb'') (fun _ => rfl)) q X := by
  have hemb (j : (⟨s.rank, size'⟩ : Shape).Idx) : (Rect.unit off size inb).emb ((Rect.unit (s := ⟨s.rank, size⟩) off' size' inb').emb j) = (Rect.unit off'' size' inb'').emb j := by
    funext a
    refine Fin.ext ?_
    rw [ValueKit.rect_emb_unit_val, ValueKit.rect_emb_unit_val off'' size', h a]
    refine (congrArg (off a + ·) (ValueKit.rect_emb_unit_val (s := ⟨s.rank, size⟩) off' size' inb' j a)).trans ?_
    omega
  unfold owns
  refine congrArg _ (funext fun f => ?_)
  have h1 : ((M.slice (Rect.unit off size inb) (fun _ => rfl)).slice (Rect.unit (s := ⟨s.rank, size⟩) off' size' inb') (fun _ => rfl)).view.read (Elt F) f
      = (M.slice (Rect.unit off'' size' inb'') (fun _ => rfl)).view.read (Elt F) f := funext fun j => by
    show M.view.read (Elt F) f _ = M.view.read (Elt F) f _
    exact congrArg _ (hemb j)
  have h2 : ((M.slice (Rect.unit off size inb) (fun _ => rfl)).slice (Rect.unit (s := ⟨s.rank, size⟩) off' size' inb') (fun _ => rfl)).view.set
      = (M.slice (Rect.unit off'' size' inb'') (fun _ => rfl)).view.set := by
    unfold View.set
    refine congrArg (Finset.univ.map ·) (Function.Embedding.ext fun j => ?_)
    show M.view.emb _ = M.view.emb _
    exact congrArg _ (hemb j)
  rw [h1, h2]

variable (M : Memref sig .tc sp s e) {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)
include hd hcov

/-- A piece at any contents, cut into parts. -/
theorem any_split : (anyOf c M : sProp 𝕄) ⊢ bigSep Finset.univ fun t => anyOf c (M.slice (r t) (hr t)) := by
  unfold anyOf
  iintro ⟨%X, H⟩
  ihave H := (owns_rects (c : Thread nD τ) M fullShare r hr hd hcov X) $$ H
  iapply (show (bigSep Finset.univ fun t => owns (c : Thread nD τ) (M.slice (r t) (hr t)) fullShare (fun j => X ((r t).emb j)) : sProp 𝕄)
      ⊢ bigSep Finset.univ fun t => iprop(∃ X, owns (c : Thread nD τ) (M.slice (r t) (hr t)) fullShare X) from
    bigSep_mono fun t _ => anyOf_intro c (M.slice (r t) (hr t)) (fun j => X ((r t).emb j))) $$ H

/-- The parts, each at its own contents, put together. -/
theorem val_join (Y : (t : T) → (r t).shape.Idx → Elt F e) :
    (bigSep Finset.univ fun t => owns (c : Thread nD τ) (M.slice (r t) (hr t)) q (Y t) : sProp 𝕄)
      ⊢ iprop(∃ X, ⌜∀ t j, X ((r t).emb j) = Y t j⌝ ∗ owns (c : Thread nD τ) M q X) := by
  have hmem (i : s.Idx) : ∃ t, i ∈ (r t).set := by
    obtain ⟨t, -, ht⟩ := Finset.mem_biUnion.mp (hcov.symm ▸ Finset.mem_univ i)
    exact ⟨t, ht⟩
  have hX : ∃ X : s.Idx → Elt F e, ∀ t j, X ((r t).emb j) = Y t j := by
    classical
    refine ⟨fun i => Y (hmem i).choose (((r (hmem i).choose).exists_idx_of_mem (hmem i).choose_spec).choose), fun t j => ?_⟩
    have h1 := (hmem ((r t).emb j)).choose_spec
    have ht : (hmem ((r t).emb j)).choose = t := by
      by_contra hne
      exact Finset.disjoint_left.mp (hd _ _ hne) h1 ((r t).map_emb_univ ▸ Finset.mem_map_of_mem _ (Finset.mem_univ j))
    have key (t' : T) (e : t' = t) (h1 : (r t).emb j ∈ (r t').set) : Y t' (((r t').exists_idx_of_mem h1).choose) = Y t j := by
      subst e
      exact congrArg _ ((r t').emb.injective ((r t').exists_idx_of_mem h1).choose_spec)
    exact key _ ht h1
  obtain ⟨X, hX⟩ := hX
  iintro H
  iexists X
  isplitr; · ipureintro; exact hX
  iapply (owns_of_rects (c : Thread nD τ) M q r hr hd hcov X)
  obtain rfl : Y = fun t j => X ((r t).emb j) := funext fun t => funext fun j => (hX t j).symm
  iexact H

theorem any_join : (bigSep Finset.univ fun t => anyOf c (M.slice (r t) (hr t)) : sProp 𝕄) ⊢ anyOf c M := by
  unfold anyOf
  iintro H
  ihave H := (bigSep_exists_pi Finset.univ (fun (t : T) (X : (r t).shape.Idx → Elt F e) => (owns (c : Thread nD τ) (M.slice (r t) (hr t)) fullShare X : sProp 𝕄))) $$ H
  icases H with ⟨%Y, H⟩
  ihave H := (val_join c fullShare M r hr hd hcov Y) $$ H
  icases H with ⟨%X, -, H⟩
  iexists X
  iexact H

end Parts

/-! ## The kernel's parts -/

section Split

variable (c : Dev nD)

theorem sep2 (Φ : Fin 2 → sProp 𝕄) : bigSep Finset.univ Φ = iprop(Φ 0 ∗ Φ 1) := by
  rw [bigSep_univ_eq_bigSepL [0, 1] (by decide) (by decide), bigSepL_cons_cons, bigSepL_singleton]; rfl
theorem sep4 (Φ : Fin 2 × Fin 2 → sProp 𝕄) : bigSep Finset.univ Φ = iprop(Φ (0, 0) ∗ Φ (0, 1) ∗ Φ (1, 0) ∗ Φ (1, 1)) := by
  rw [bigSep_univ_eq_bigSepL [(0, 0), (0, 1), (1, 0), (1, 1)] (by decide) (by decide), bigSepL_cons_cons, bigSepL_cons_cons, bigSepL_cons_cons,
    bigSepL_singleton]; rfl

theorem laneR_disj : ∀ d d' : Fin 2, d ≠ d' → Disjoint (laneR d).set (laneR d').set := fun d d' h =>
  Rect.unit_disjoint (0 : Fin 3) (by revert d d'; decide)
theorem laneR_cov : (Finset.univ : Finset (Fin 2)).biUnion (fun d => (laneR d).set) = Finset.univ := by
  refine Finset.eq_univ_of_forall fun i => Finset.mem_biUnion.mpr ?_
  have h0 := (i 0).isLt; have h1 := (i 1).isLt; have h2 := (i 2).isLt
  refine ⟨⟨(i 0).val, h0⟩, Finset.mem_univ _, Rect.mem_set_unit.mpr fun a => ?_⟩
  fin_cases a
  · exact ⟨le_refl _, Nat.lt_succ_self _⟩
  · exact ⟨Nat.zero_le _, by simpa using h1⟩
  · exact ⟨Nat.zero_le _, by simpa using h2⟩

theorem subR_inb (b : Fin 2) : ∀ a, (![0, 512 * b.val, 0] : Fin 3 → ℕ) a + S1x512x1024.size a ≤ S1x1024x1024.size a := by revert b; decide
/-- Half `b` of a tile. -/
abbrev subR (b : Fin 2) : Rect S1x1024x1024 := Rect.unit (s := S1x1024x1024) ![0, 512 * b.val, 0] S1x512x1024.size (subR_inb b)
theorem subR_disj : ∀ b b' : Fin 2, b ≠ b' → Disjoint (subR b).set (subR b').set := fun b b' h =>
  Rect.unit_disjoint (1 : Fin 3) (by revert b b'; decide)
theorem subR_cov : (Finset.univ : Finset (Fin 2)).biUnion (fun b => (subR b).set) = Finset.univ := by
  refine Finset.eq_univ_of_forall fun i => Finset.mem_biUnion.mpr ?_
  have h0 : (i 0).val < 1 := (i 0).isLt
  have h1 : (i 1).val < 1024 := (i 1).isLt
  have h2 : (i 2).val < 1024 := (i 2).isLt
  refine ⟨⟨(i 1).val / 512, by omega⟩, Finset.mem_univ _, Rect.mem_set_unit.mpr fun a => ?_⟩
  fin_cases a
  · exact ⟨Nat.zero_le _, by simpa using h0⟩
  · refine ⟨?_, ?_⟩
    · show 512 * ((i 1).val / 512) ≤ (i 1).val; omega
    · show (i 1).val < 512 * ((i 1).val / 512) + 512; omega
  · exact ⟨Nat.zero_le _, by simpa using h2⟩

theorem subS_inb (b : Fin 2) : ∀ a, (![0, 0, 512 * b.val, 0] : Fin 4 → ℕ) a + S1x1x512x1024.size a ≤ S1x1x1024x1024.size a := by revert b; decide
/-- Half `b` of a slot. -/
abbrev subS (b : Fin 2) : Rect S1x1x1024x1024 := Rect.unit (s := S1x1x1024x1024) ![0, 0, 512 * b.val, 0] S1x1x512x1024.size (subS_inb b)
theorem subS_disj : ∀ b b' : Fin 2, b ≠ b' → Disjoint (subS b).set (subS b').set := fun b b' h =>
  Rect.unit_disjoint (2 : Fin 4) (by revert b b'; decide)
theorem subS_cov : (Finset.univ : Finset (Fin 2)).biUnion (fun b => (subS b).set) = Finset.univ := by
  refine Finset.eq_univ_of_forall fun i => Finset.mem_biUnion.mpr ?_
  have h0 : (i 0).val < 1 := (i 0).isLt
  have h1 : (i 1).val < 1 := (i 1).isLt
  have h2 : (i 2).val < 1024 := (i 2).isLt
  have h3 : (i 3).val < 1024 := (i 3).isLt
  refine ⟨⟨(i 2).val / 512, by omega⟩, Finset.mem_univ _, Rect.mem_set_unit.mpr fun a => ?_⟩
  fin_cases a
  · exact ⟨Nat.zero_le _, by simpa using h0⟩
  · exact ⟨Nat.zero_le _, by simpa using h1⟩
  · refine ⟨?_, ?_⟩
    · show 512 * ((i 2).val / 512) ≤ (i 2).val; omega
    · show (i 2).val < 512 * ((i 2).val / 512) + 512; omega
  · exact ⟨Nat.zero_le _, by simpa using h3⟩

theorem slotR_disj : ∀ x x' : Fin 2 × Fin 2, x ≠ x' → Disjoint (slotR x.1 x.2).set (slotR x'.1 x'.2).set := fun x x' h => by
  obtain ⟨d, s⟩ := x; obtain ⟨d', s'⟩ := x'
  by_cases hd : d = d'
  · subst hd
    exact Rect.unit_disjoint (1 : Fin 4) (by have : s ≠ s' := fun e => h (by rw [e]); clear h; revert d s s'; decide)
  · exact Rect.unit_disjoint (0 : Fin 4) (by clear h; revert d d' s s'; decide)
theorem slotR_cov : (Finset.univ : Finset (Fin 2 × Fin 2)).biUnion (fun x => (slotR x.1 x.2).set) = Finset.univ := by
  refine Finset.eq_univ_of_forall fun i => Finset.mem_biUnion.mpr ?_
  have h0 : (i 0).val < 2 := (i 0).isLt
  have h1 : (i 1).val < 2 := (i 1).isLt
  have h2 : (i 2).val < 1024 := (i 2).isLt
  have h3 : (i 3).val < 1024 := (i 3).isLt
  refine ⟨(⟨(i 0).val, h0⟩, ⟨(i 1).val, h1⟩), Finset.mem_univ _, Rect.mem_set_unit.mpr fun a => ?_⟩
  fin_cases a
  · exact ⟨le_refl _, Nat.lt_succ_self _⟩
  · exact ⟨le_refl _, Nat.lt_succ_self _⟩
  · exact ⟨Nat.zero_le _, by simpa using h2⟩
  · exact ⟨Nat.zero_le _, by simpa using h3⟩

theorem colR_disj : ∀ t t' : Fin 8, t ≠ t' → Disjoint (colR t).set (colR t').set := fun t t' h =>
  Rect.unit_disjoint (1 : Fin 2) (by revert t t'; decide)
theorem colR_cov : (Finset.univ : Finset (Fin 8)).biUnion (fun t => (colR t).set) = Finset.univ := by
  refine Finset.eq_univ_of_forall fun i => Finset.mem_biUnion.mpr ?_
  have h0 : (i 0).val < 1024 := (i 0).isLt
  have h1 : (i 1).val < 8192 := (i 1).isLt
  refine ⟨⟨(i 1).val / 1024, by omega⟩, Finset.mem_univ _, Rect.mem_set_unit.mpr fun a => ?_⟩
  fin_cases a
  · exact ⟨Nat.zero_le _, by simpa using h0⟩
  · refine ⟨?_, ?_⟩
    · show 1024 * ((i 1).val / 1024) ≤ (i 1).val; omega
    · show (i 1).val < 1024 * ((i 1).val / 1024) + 1024; omega

/-- A lane of a two-lane buffer, and its halves. -/
abbrev laneS (M : Memref sig .tc .vmem S2x1024x1024 .f32) (d : Fin 2) : Memref sig .tc .vmem S1x1024x1024 .f32 := M.slice (laneR d) (fun _ => rfl)
abbrev laneHS (M : Memref sig .tc .vmem S2x1024x1024 .f32) (d b : Fin 2) : Memref sig .tc .vmem S1x512x1024 .f32 := M.slice (laneHalfR d b) (fun _ => rfl)
/-- A slot of the transfers' buffers, and its halves. -/
abbrev slotS (M : Memref sig .tc .vmem S2x2x1024x1024 .bf16) (d s : Fin 2) : Memref sig .tc .vmem S1x1x1024x1024 .bf16 := M.slice (slotR d s) (fun _ => rfl)
abbrev slotHS (M : Memref sig .tc .vmem S2x2x1024x1024 .bf16) (d s b : Fin 2) : Memref sig .tc .vmem S1x1x512x1024 .bf16 := M.slice (halfR d s b) (fun _ => rfl)

theorem lane_half_eq (M : Memref sig .tc .vmem S2x1024x1024 .f32) (d b : Fin 2) (q : PosShare TreeShare) (X : S1x512x1024.Idx → Elt F .f32) :
    (owns (c : Thread nD τ) ((laneS M d).slice (subR b) (fun _ => rfl)) q X : sProp 𝕄) = owns (c : Thread nD τ) (laneHS M d b) q X :=
  owns_slice_slice c q M _ _ _ _ _ _ _ _ (fun a => by fin_cases a <;> simp) X

theorem slot_half_eq (M : Memref sig .tc .vmem S2x2x1024x1024 .bf16) (d s b : Fin 2) (q : PosShare TreeShare) (X : S1x1x512x1024.Idx → Elt F .bf16) :
    (owns (c : Thread nD τ) ((slotS M d s).slice (subS b) (fun _ => rfl)) q X : sProp 𝕄) = owns (c : Thread nD τ) (slotHS M d s b) q X :=
  owns_slice_slice c q M _ _ _ _ _ _ _ _ (fun a => by fin_cases a <;> simp) X

/-- Half `b` of a tile's contents. -/
abbrev halfOf (X : S1x1024x1024.Idx → Elt F .f32) (b : Fin 2) : S1x512x1024.Idx → Elt F .f32 := fun j => X ((subR b).emb j)
abbrev shalfOf (X : S1x1x1024x1024.Idx → Elt F .bf16) (b : Fin 2) : S1x1x512x1024.Idx → Elt F .bf16 := fun j => X ((subS b).emb j)

theorem lane_split (M : Memref sig .tc .vmem S2x1024x1024 .f32) (d : Fin 2) (X : S1x1024x1024.Idx → Elt F .f32) :
    (owns (c : Thread nD τ) (laneS M d) fullShare X : sProp 𝕄)
      ⊢ iprop(owns (c : Thread nD τ) (laneHS M d 0) fullShare (halfOf X 0) ∗ owns (c : Thread nD τ) (laneHS M d 1) fullShare (halfOf X 1)) := by
  refine (owns_rects (c : Thread nD τ) (laneS M d) fullShare subR (fun _ _ => rfl) subR_disj subR_cov X).trans ?_
  rw [sep2, lane_half_eq, lane_half_eq]
  exact BI.Entails.refl _

theorem lane_join_val (M : Memref sig .tc .vmem S2x1024x1024 .f32) (d : Fin 2) (Y : Fin 2 → S1x512x1024.Idx → Elt F .f32) :
    iprop(owns (c : Thread nD τ) (laneHS M d 0) fullShare (Y 0) ∗ owns (c : Thread nD τ) (laneHS M d 1) fullShare (Y 1))
      ⊢ (iprop(∃ X, ⌜∀ b, halfOf X b = Y b⌝ ∗ owns (c : Thread nD τ) (laneS M d) fullShare X) : sProp 𝕄) := by
  have h := val_join (F := F) c fullShare (laneS M d) subR (fun _ _ => rfl) subR_disj subR_cov Y
  rw [sep2, lane_half_eq, lane_half_eq] at h
  refine h.trans ?_
  iintro ⟨%X, %hX, H⟩
  iexists X
  isplitr; · ipureintro; exact fun b => funext fun j => hX b j
  iexact H

theorem slot_split (M : Memref sig .tc .vmem S2x2x1024x1024 .bf16) (d s : Fin 2) (X : S1x1x1024x1024.Idx → Elt F .bf16) :
    (owns (c : Thread nD τ) (slotS M d s) fullShare X : sProp 𝕄)
      ⊢ iprop(owns (c : Thread nD τ) (slotHS M d s 0) fullShare (shalfOf X 0) ∗ owns (c : Thread nD τ) (slotHS M d s 1) fullShare (shalfOf X 1)) := by
  refine (owns_rects (c : Thread nD τ) (slotS M d s) fullShare subS (fun _ _ => rfl) subS_disj subS_cov X).trans ?_
  rw [sep2, slot_half_eq, slot_half_eq]
  exact BI.Entails.refl _

theorem slot_join (M : Memref sig .tc .vmem S2x2x1024x1024 .bf16) (d s : Fin 2) :
    iprop(anyOf c (slotHS M d s 0) ∗ anyOf c (slotHS M d s 1)) ⊢ (anyOf c (slotS M d s) : sProp 𝕄) := by
  have h := any_join (F := F) c (slotS M d s) subS (fun _ _ => rfl) subS_disj subS_cov
  rw [sep2] at h
  unfold anyOf at h ⊢
  simp only [slot_half_eq] at h
  exact h

/-- The halves of a slot, at any contents. -/
def slotAny (M : Memref sig .tc .vmem S2x2x1024x1024 .bf16) (d s : Fin 2) : sProp 𝕄 :=
  iprop(anyOf c (slotHS M d s 0) ∗ anyOf c (slotHS M d s 1))

instance slotAny_storable (M : Memref sig .tc .vmem S2x2x1024x1024 .bf16) (d s : Fin 2) : BI.Storable (upEmb : UEmb _ 𝕄) (slotAny (F := F) c M d s) := by
  unfold slotAny; infer_instance

theorem slotAny_split (M : Memref sig .tc .vmem S2x2x1024x1024 .bf16) (d s : Fin 2) : (anyOf c (slotS M d s) : sProp 𝕄) ⊢ slotAny c M d s := by
  unfold slotAny
  conv_lhs => unfold anyOf
  iintro ⟨%X, H⟩
  ihave H := (slot_split c M d s X) $$ H
  icases H with ⟨H0, H1⟩
  isplitl [H0]
  · iapply (anyOf_intro c _ _) $$ H0
  · iapply (anyOf_intro c _ _) $$ H1

/-- A whole buffer is its reference's memory. -/
theorem whole_intro (b : Ref sig .tc) (f : b.ty.Contents (Elt F)) (q : PosShare TreeShare) :
    ((((c : Thread nD τ).loc b) ↦{q} f) : sProp 𝕄) ⊢ owns (c : Thread nD τ) (Memref.whole b) q f := by
  unfold owns
  iintro H
  iexists f
  isplitr; · ipureintro; exact View.read_whole ..
  simp only [Memref.view_whole, View.set_whole]
  iexact H
theorem whole_elim (b : Ref sig .tc) (f : b.ty.Contents (Elt F)) (q : PosShare TreeShare) :
    (owns (c : Thread nD τ) (Memref.whole b) q f : sProp 𝕄) ⊢ (((c : Thread nD τ).loc b) ↦{q} f) := by
  unfold owns
  iintro ⟨%g, %hg, H⟩
  simp only [Memref.view_whole, View.set_whole, View.read_whole] at hg ⊢
  subst hg
  iexact H

/-- The four slots of a transfers' buffer. -/
theorem slots_split (M : Memref sig .tc .vmem S2x2x1024x1024 .bf16) :
    (anyOf c M : sProp 𝕄) ⊢ iprop((slotAny c M 0 0 ∗ slotAny c M 0 1) ∗ slotAny c M 1 0 ∗ slotAny c M 1 1) := by
  refine (any_split (F := F) c M (fun x : Fin 2 × Fin 2 => slotR x.1 x.2) (fun _ _ => rfl) slotR_disj slotR_cov).trans ?_
  refine (bigSep_mono fun x _ => slotAny_split c M x.1 x.2).trans ?_
  rw [sep4]
  show (iprop(slotAny c M 0 0 ∗ slotAny c M 0 1 ∗ slotAny c M 1 0 ∗ slotAny c M 1 1) : sProp 𝕄) ⊢ _
  iintro ⟨H0, H1, H2, H3⟩
  isplitl [H0 H1]
  · isplitl [H0]; · iexact H0
    iexact H1
  · isplitl [H2]; · iexact H2
    iexact H3

theorem slots_join (M : Memref sig .tc .vmem S2x2x1024x1024 .bf16) :
    iprop((slotAny c M 0 0 ∗ slotAny c M 0 1) ∗ slotAny c M 1 0 ∗ slotAny c M 1 1) ⊢ (anyOf c M : sProp 𝕄) := by
  refine BIBase.Entails.trans ?_ (any_join (F := F) c M (fun x : Fin 2 × Fin 2 => slotR x.1 x.2) (fun _ _ => rfl) slotR_disj slotR_cov)
  refine BIBase.Entails.trans ?_ (bigSep_mono fun x _ => slot_join c M x.1 x.2)
  rw [sep4]
  unfold slotAny
  iintro ⟨⟨H0, H1⟩, H2, H3⟩
  isplitl [H0]; · iexact H0
  isplitl [H1]; · iexact H1
  isplitl [H2]; · iexact H2
  iexact H3

theorem lanes_split (M : Memref sig .tc .vmem S2x1024x1024 .f32) : (anyOf c M : sProp 𝕄) ⊢ iprop(anyOf c (laneS M 0) ∗ anyOf c (laneS M 1)) := by
  refine (any_split (F := F) c M laneR (fun _ _ => rfl) laneR_disj laneR_cov).trans ?_
  rw [sep2]
theorem lanes_join (M : Memref sig .tc .vmem S2x1024x1024 .f32) : iprop(anyOf c (laneS M 0) ∗ anyOf c (laneS M 1)) ⊢ (anyOf c M : sProp 𝕄) := by
  refine BIBase.Entails.trans ?_ (any_join (F := F) c M laneR (fun _ _ => rfl) laneR_disj laneR_cov)
  rw [sep2]

/-- Two halves as one tile. -/
def joinH (Y : Fin 2 → S1x512x1024.Idx → Elt F .f32) : S1x1024x1024.Idx → Elt F .f32 := fun i =>
  Y ⟨(i 1).val / 512, by have : (i 1).val < 1024 := (i 1).isLt; omega⟩
    (fun a => match a with
      | ⟨0, _⟩ => i 0
      | ⟨1, _⟩ => (⟨(i 1).val % 512, Nat.mod_lt _ (by decide)⟩ : Fin 512)
      | ⟨2, _⟩ => i 2)

theorem halfOf_joinH (Y : Fin 2 → S1x512x1024.Idx → Elt F .f32) (b : Fin 2) : halfOf (joinH Y) b = Y b := funext fun j => by
  have h0 : (j 0).val < 1 := (j 0).isLt
  have h1 : (j 1).val < 512 := (j 1).isLt
  have e (a : Fin 3) : (((subR b).emb j) a).val = (![0, 512 * b.val, 0] : Fin 3 → ℕ) a + (j a).val := ValueKit.rect_emb_unit_val ..
  have e1 : (((subR b).emb j) 1).val = 512 * b.val + (j 1).val := e 1
  unfold halfOf joinH
  have hb : (⟨(((subR b).emb j) 1).val / 512, by have : (((subR b).emb j) 1).val < 1024 := (((subR b).emb j) 1).isLt; omega⟩ : Fin 2) = b :=
    Fin.ext (by show (((subR b).emb j) 1).val / 512 = b.val; rw [e1]; omega)
  rw [hb]
  refine congrArg (Y b) (funext fun a => Fin.ext ?_)
  fin_cases a
  · show (((subR b).emb j) 0).val = _; rw [e 0]; show 0 + (j 0).val = (j 0).val; omega
  · show (((subR b).emb j) 1).val % 512 = (j 1).val; rw [e1]; omega
  · show (((subR b).emb j) 2).val = _; rw [e 2]; show 0 + (j 2).val = (j 2).val; omega

theorem ext_halves {X X' : S1x1024x1024.Idx → Elt F .f32} (h : ∀ b, halfOf X b = halfOf X' b) : X = X' := funext fun i => by
  obtain ⟨b, -, hb⟩ := Finset.mem_biUnion.mp (subR_cov.symm ▸ Finset.mem_univ i)
  obtain ⟨j, rfl⟩ := (subR b).exists_idx_of_mem hb
  exact congrFun (h b) j

theorem lane_join (M : Memref sig .tc .vmem S2x1024x1024 .f32) (d : Fin 2) (Y : Fin 2 → S1x512x1024.Idx → Elt F .f32) :
    iprop(owns (c : Thread nD τ) (laneHS M d 0) fullShare (Y 0) ∗ owns (c : Thread nD τ) (laneHS M d 1) fullShare (Y 1))
      ⊢ (owns (c : Thread nD τ) (laneS M d) fullShare (joinH Y) : sProp 𝕄) := by
  refine (lane_join_val c M d Y).trans ?_
  iintro ⟨%X, %hX, H⟩
  obtain rfl : X = joinH Y := ext_halves fun b => (hX b).trans (halfOf_joinH Y b).symm
  iexact H

/-- Load a half of a lane that is owned. -/
theorem tri_load_half (M : Memref sig .tc .vmem S2x1024x1024 .f32) (d b : Fin 2) (hl : M.view.LoadsAt (laneHalfR d b).toLoadRect) (X : S1x1024x1024.Idx → Elt F .f32) :
    Tri c (owns (c : Thread nD τ) (laneS M d) fullShare X) (lift (.load M (laneHalfR d b).toLoadRect hl))
      (fun v => iprop(⌜v = halfOf X b⌝ ∗ owns (c : Thread nD τ) (laneS M d) fullShare X)) := by
  have back : iprop(owns (c : Thread nD τ) (laneHS M d 0) fullShare (halfOf X 0) ∗ owns (c : Thread nD τ) (laneHS M d 1) fullShare (halfOf X 1))
      ⊢ (owns (c : Thread nD τ) (laneS M d) fullShare X : sProp 𝕄) := by
    refine (lane_join c M d (fun b => halfOf X b)).trans (Entails.of_eq ?_)
    rw [show joinH (fun b => halfOf X b) = X from ext_halves fun b => halfOf_joinH _ b]
  have key := tri_load c M (laneHalfR d b) (fun _ => rfl) hl fullShare (halfOf X b)
  unfold Tri
  iintro H
  ihave H := (lane_split c M d X) $$ H
  icases H with ⟨H0, H1⟩
  obtain rfl | rfl : b = 0 ∨ b = 1 := by omega
  · iapply (Tri.use_last key) $$ H0
    iintro %v ⟨%hv, H0⟩
    isplitr; · ipureintro; exact hv
    iapply back
    isplitl [H0]; · iexact H0
    iexact H1
  · iapply (Tri.use_last key) $$ H1
    iintro %v ⟨%hv, H1⟩
    isplitr; · ipureintro; exact hv
    iapply back
    isplitl [H0]; · iexact H0
    iexact H1

end Split

end Cert.Ring

end
-- ==== Proof.Ring.Protocol.lean ====
/-
How the devices agree. What every piece holds at every moment (`Snd`, `Ylane`, `mr`); the cells of the semaphores that
cross devices, their duties and what each hands over; the order in which a device pays what it owes; the levels that
let every wait be met.
-/
module

public import proofs.«01_k».proof.Proof.Ring.Pieces

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-! ## The contents -/

section Contents

variable (x : Dev nD → S4096x1024.Idx → Elt F .f32) (w : Dev nD → S1024x8192.Idx → Elt F .f32)

/-- The rows device `c` multiplies in lane `d` at hop `h`. -/
def Xr (c : Dev nD) (d : Fin 2) (h : Fin 4) : S1024x1024.Idx → Elt F .f32 :=
  match d with
  | 0 => fun j => x c ((rowR c 0 h).emb j)
  | 1 => fun j => x c ((rowR c 1 h).emb j)
/-- The columns of lane `d`'s panel `p`. -/
def Wc (c : Dev nD) (d : Fin 2) (p : Fin 4) : S1x1024x1024.Idx → Elt F .f32 :=
  unsq squeezes_S1x1024x1024_S1024x1024 fun j => w c ((colR (colIx d p)).emb j)
/-- The product at hop `h`. -/
def Ac (c : Dev nD) (d : Fin 2) (p h : Fin 4) : S1x1024x1024.Idx → Elt F .f32 := accVal (Xr x c d h) (Wc w c d p)

/-- What device `c` sends at hop `j` of panel `p`. -/
def Snd (d : Fin 2) (p : Fin 4) (b : Fin 2) : ℕ → Dev nD → S1x1x512x1024.Idx → Elt F .bf16
  | 0, c => shalfOf (firstVal (Xr x c d 0) (Wc w c d p)) b
  | j + 1, c => addVal (halfOf (Ac x w c d p ⟨(j + 1) % 4, Nat.mod_lt _ (by decide)⟩) b) (Snd d p b j (srcD d c))

/-- The same, by the hop's place among all. -/
def SndG (d : Fin 2) (g : Fin 12) (b : Fin 2) (c : Dev nD) : S1x1x512x1024.Idx → Elt F .bf16 :=
  Snd x w d ⟨g.val / 3, by omega⟩ b (g.val % 3) c

/-- The finished sums of panel `p`. -/
def Yh (c : Dev nD) (d : Fin 2) (p : Fin 4) (b : Fin 2) : S1x512x1024.Idx → Elt F .f32 :=
  yVal (halfOf (Ac x w c d p 3) b) (Snd x w d p b 2 (srcD d c))
def Ylane (c : Dev nD) (d : Fin 2) (p : Fin 4) : S1x1024x1024.Idx → Elt F .f32 := joinH (Yh x w c d p)
/-- The tile of columns as it is first written out. -/
def Ytile (c : Dev nD) (d : Fin 2) (p : Fin 4) : S1024x1024.Idx → Elt F .f32 := sqz squeezes_S1x1024x1024_S1024x1024 (Ylane x w c d p)

/-- The largest magnitude with one more half's. -/
def mHalf (c : Dev nD) (p : Fin 4) (d b : Fin 2) (m : F .f32) : F .f32 :=
  maxVal m (halfOf (Ac x w c d p 3) b) (Snd x w d p b 2 (srcD d c))
/-- The largest magnitude with one more panel's. -/
def mPanel (c : Dev nD) (p : Fin 4) (m : F .f32) : F .f32 :=
  mHalf x w c p 1 1 (mHalf x w c p 0 1 (mHalf x w c p 1 0 (mHalf x w c p 0 0 m)))
/-- A device's own largest magnitude, before panel `p`, -/
def mLoc (c : Dev nD) : ℕ → F .f32
  | 0 => Scalar.ofBits .f32 0x00000000#32
  | p + 1 => mPanel x w c ⟨p % 4, Nat.mod_lt _ (by decide)⟩ (mLoc c p)
/-- and the largest of the devices', before hop `h` of the ring. -/
def mr : ℕ → Dev nD → F .f32
  | 0, c => mLoc x w c 4
  | h + 1, c => k0_pay132 (mr h c) (fun j => k0_pay131 (mr h (leftD c)) (firstR.emb j))
def scF (c : Dev nD) : F .f32 := Scalar.divf (mr x w 3 c) (Scalar.ofBits .f32 0x43E00000#32)
def ivF (c : Dev nD) : F .f32 := Scalar.divf (Scalar.ofBits .f32 0x43E00000#32) (mr x w 3 c)
/-- The rescaled tile. -/
def Otile (c : Dev nD) (t : Fin 8) : S1024x1024.Idx → Elt F .f32 :=
  sqz squeezes_S1x1024x1024_S1024x1024 (outVal (scF x w c) (ivF x w c) (Ylane x w c ⟨t.val / 4, by omega⟩ ⟨t.val % 4, by omega⟩))

end Contents

/-! ## The cells -/

/-- A semaphore that crosses devices. -/
inductive Kind
  | bar | cr (d : Fin 2) | ac
  | snd (d : Fin 2) (g : Fin 12) (b : Fin 2) | rcv (d : Fin 2) (g : Fin 12) (b : Fin 2)
  | am (h : Fin 3) | ar (h : Fin 3)
  deriving DecidableEq

abbrev Hop : Type := Fin 2 × Fin 12 × Fin 2
abbrev KindSum : Type := Fin 1 ⊕ Fin 2 ⊕ Fin 1 ⊕ Hop ⊕ Hop ⊕ Fin 3 ⊕ Fin 3

def kindEquiv : KindSum ≃ Kind where
  toFun
    | .inl _ => .bar
    | .inr (.inl d) => .cr d
    | .inr (.inr (.inl _)) => .ac
    | .inr (.inr (.inr (.inl (d, g, b)))) => .snd d g b
    | .inr (.inr (.inr (.inr (.inl (d, g, b))))) => .rcv d g b
    | .inr (.inr (.inr (.inr (.inr (.inl h))))) => .am h
    | .inr (.inr (.inr (.inr (.inr (.inr h))))) => .ar h
  invFun
    | .bar => .inl 0
    | .cr d => .inr (.inl d)
    | .ac => .inr (.inr (.inl 0))
    | .snd d g b => .inr (.inr (.inr (.inl (d, g, b))))
    | .rcv d g b => .inr (.inr (.inr (.inr (.inl (d, g, b)))))
    | .am h => .inr (.inr (.inr (.inr (.inr (.inl h)))))
    | .ar h => .inr (.inr (.inr (.inr (.inr (.inr h)))))
  left_inv := by
    rintro (x | x | x | x | x | x | x)
    · exact congrArg Sum.inl (Subsingleton.elim _ _)
    · rfl
    · exact congrArg (fun z => Sum.inr (Sum.inr (Sum.inl z))) (Subsingleton.elim _ _)
    · rfl
    · rfl
    · rfl
    · rfl
  right_inv := by rintro (_ | _ | _ | _ | _ | _ | _) <;> rfl

instance : Fintype Kind := Fintype.ofEquiv KindSum kindEquiv

abbrev semOf : Kind → SemLoc sig
  | .bar => .reg barS
  | .cr d => .reg (creditS d)
  | .ac => .reg acreditS
  | .snd d g b => .dma (sendS d g b)
  | .rcv d g b => .dma (recvS d g b)
  | .am h => .dma (asS h)
  | .ar h => .dma (arS h)

/-- The kind of a semaphore, from its number. -/
def kindOf : SemLoc sig → Option Kind
  | .reg s => if s.val = 0 then some (.cr 0) else if s.val = 1 then some (.cr 1) else if s.val = 2 then some .ac else if s.val = 3 then some .bar else none
  | .dma s =>
    if 1 ≤ s.val ∧ s.val < 49 then
      some (.snd ⟨(s.val - 1) / 24 % 2, Nat.mod_lt _ (by decide)⟩ ⟨(s.val - 1) % 24 / 2, by omega⟩ ⟨(s.val - 1) % 2, Nat.mod_lt _ (by decide)⟩)
    else if 49 ≤ s.val ∧ s.val < 97 then
      some (.rcv ⟨(s.val - 49) / 24 % 2, Nat.mod_lt _ (by decide)⟩ ⟨(s.val - 49) % 24 / 2, by omega⟩ ⟨(s.val - 49) % 2, Nat.mod_lt _ (by decide)⟩)
    else if 97 ≤ s.val ∧ s.val < 100 then some (.am ⟨(s.val - 97) % 3, Nat.mod_lt _ (by decide)⟩)
    else if 100 ≤ s.val ∧ s.val < 103 then some (.ar ⟨(s.val - 100) % 3, Nat.mod_lt _ (by decide)⟩)
    else none

theorem sendS_val (d g b) : (sendS d g b).val = 1 + 24 * d.val + 2 * g.val + b.val := by revert d g b; decide
theorem recvS_val (d g b) : (recvS d g b).val = 49 + 24 * d.val + 2 * g.val + b.val := by revert d g b; decide

theorem kindOf_semOf (k : Kind) : kindOf (semOf k) = some k := by
  cases k with
  | bar => rfl
  | cr d => revert d; decide
  | ac => rfl
  | snd d g b => revert d g b; decide
  | rcv d g b => revert d g b; decide
  | am h => revert h; decide
  | ar h => revert h; decide

theorem semOf_inj : Function.Injective semOf := fun k k' h => by
  have := kindOf_semOf k
  rw [h, kindOf_semOf] at this
  exact (Option.some.inj this).symm

/-- A device's cell. -/
abbrev cell (c : Dev nD) (k : Kind) : GSem nD τ sig := ((c : Thread nD τ), semOf k)

theorem cell_inj : Function.Injective (fun x : Dev nD × Kind => cell x.1 x.2) := fun ⟨c, k⟩ ⟨c', k'⟩ h => by
  have h1 : c = c' := congrArg (fun g : GSem nD τ sig => g.1.1) h
  have h2 : k = k' := semOf_inj (congrArg (fun g : GSem nD τ sig => g.2) h)
  rw [h1, h2]

/-- What a half's transfer credits, -/
abbrev NH : ℕ := (rvH 0 0 0).view.dmaCredit
/-- and what a transfer of a maximum does. -/
abbrev NA : ℕ := (arM).view.dmaCredit

def kAmt : Kind → ℕ
  | .bar => 1 | .cr _ => 1 | .ac => 1 | .snd .. => NH | .rcv .. => NH | .am _ => NA | .ar _ => NA

theorem NH_pos : 0 < NH := View.dmaCredit_pos _ (by decide)
theorem NA_pos : 0 < NA := View.dmaCredit_pos _ (by decide)
theorem kAmt_pos (k : Kind) : 0 < kAmt k := by
  cases k <;> first | exact Nat.one_pos | exact NH_pos | exact NA_pos

def kDut : Kind → ℕ → Finset ℕ
  | .bar, r => if r = 0 then {0, 1} else ∅
  | .cr _, r => if r = 0 then Finset.range 12 else ∅
  | .ac, r => if r < 3 then {0} else ∅
  | .snd .., r => if r = 0 then {0} else ∅
  | .rcv .., r => if r = 0 then {0} else ∅
  | .am _, r => if r = 0 then {0} else ∅
  | .ar _, r => if r = 0 then {0} else ∅

/-- Device `c` has emptied lane `d`'s slot after each of its first `n` hops. -/
def Fact (c : Dev nD) (d : Fin 2) (n : ℕ) : sProp 𝕄 :=
  bigSep (Finset.range n) fun g => released ESlot ((c, d, slot g) : Key) (g / 2 + 2)

/-- Device `c`'s two slots of lane `d` are empty to begin with. -/
def Empty0 (c : Dev nD) (d : Fin 2) : sProp 𝕄 :=
  iprop(released ESlot ((c, d, 0) : Key) 1 ∗ released ESlot ((c, d, 1) : Key) 1)

section Sched

variable (x : Dev nD → S4096x1024.Idx → Elt F .f32) (w : Dev nD → S1024x8192.Idx → Elt F .f32)

/-- What a duty's payment hands device `c`. -/
def kPay (c : Dev nD) (k : Kind) (r i : ℕ) : sProp 𝕄 :=
  match k with
  | .bar => if i = 0 then iprop(Empty0 (rightD c) 0 ∗ anyOf (rightD c) arM) else Empty0 (leftD c) 1
  | .cr d => Fact (tgtD d c) d (i + 1)
  | .ac => if r < 2 then anyOf (rightD c) arM else iprop(emp)
  | .snd d g b => anyOf c (slotHS sdM d (slot g.val) b)
  | .rcv d g b => owns (c : Thread nD τ) (slotHS rvM d (slot g.val) b) fullShare (SndG x w d g b (srcD d c))
  | .am _ => anyOf c asM
  | .ar h => iprop(owns (c : Thread nD τ) arM fullShare (k0_pay131 (mr x w h.val (leftD c))) ∗ reached ER (cell (leftD c) .ac) h.val)

instance kPay_storable (c : Dev nD) (k : Kind) (r i : ℕ) : BI.Storable (upEmb : UEmb _ 𝕄) (kPay x w c k r i) := by
  unfold kPay Empty0 Fact
  cases k <;> dsimp only <;> (repeat' split) <;> infer_instance

def ringRd : Rounds.Schedule (GSem nD τ sig) ℕ 𝕄 where
  duties g r := (kindOf g.2).elim ∅ (kDut · r)
  unitless _ := False
  amount g _ _ := (kindOf g.2).elim 1 kAmt
  payload g r i := (kindOf g.2).elim iprop(emp) fun k => kPay x w g.1.1 k r i
  amount_pos g _ _ _ := by
    cases kindOf g.2 with
    | none => exact Nat.one_pos
    | some k => exact kAmt_pos k

instance ringRd_payload_storable (g : GSem nD τ sig) (r : ℕ) (d : ℕ) :
    BI.Storable (upEmb : UEmb _ 𝕄) ((ringRd (F := F) x w).payload g r d) := by
  show BI.Storable upEmb ((kindOf g.2).elim iprop(emp) fun k => kPay x w g.1.1 k r d)
  cases kindOf g.2 with
  | none => exact inferInstanceAs (BI.Storable upEmb iprop(emp))
  | some k => exact kPay_storable x w g.1.1 k r d

theorem duties_cell (c : Dev nD) (k : Kind) (r : ℕ) : (ringRd (F := F) x w).duties (cell c k) r = kDut k r := by
  show (kindOf (semOf k)).elim ∅ (kDut · r) = _; rw [kindOf_semOf]; rfl
theorem amount_cell (c : Dev nD) (k : Kind) (r i : ℕ) : (ringRd (F := F) x w).amount (cell c k) r i = kAmt k := by
  show (kindOf (semOf k)).elim 1 kAmt = _; rw [kindOf_semOf]; rfl
theorem payload_cell (c : Dev nD) (k : Kind) (r i : ℕ) : (ringRd (F := F) x w).payload (cell c k) r i = kPay x w c k r i := by
  show (kindOf (semOf k)).elim iprop(emp) (fun k' => kPay x w c k' r i) = _; rw [kindOf_semOf]; rfl
theorem expect_cell (c : Dev nD) (k : Kind) (r : ℕ) : (ringRd (F := F) x w).expect (cell c k) r = (kDut k r).card * kAmt k := by
  unfold Schedule.expect Schedule.amountOf
  rw [duties_cell, Finset.sum_congr rfl fun i _ => amount_cell x w c k r i, Finset.sum_const, smul_eq_mul]

/-- A cell's last round. -/
def kEnd : Kind → ℕ
  | .ac => 3
  | _ => 1
theorem duties_end (c : Dev nD) (k : Kind) (r : ℕ) (hr : kEnd k ≤ r) : (ringRd (F := F) x w).duties (cell c k) r = ∅ := by
  rw [duties_cell]
  cases k <;> simp only [kEnd] at hr <;> simp only [kDut] <;> rw [if_neg (by omega)]

end Sched

/-! ## What a device owes, in the order it pays -/

inductive Item
  | barL | barR | rc (d : Fin 2) (g : Fin 12) (b : Fin 2) | cr (d : Fin 2) (g : Fin 12) | ar (h : Fin 3) | ac (h : Fin 3)
  deriving DecidableEq

def Item.cell (c : Dev nD) : Item → GSem nD τ sig
  | .barL => Ring.cell (leftD c) .bar
  | .barR => Ring.cell (rightD c) .bar
  | .rc d g b => Ring.cell (tgtD d c) (.rcv d g b)
  | .cr d _ => Ring.cell (srcD d c) (.cr d)
  | .ar h => Ring.cell (rightD c) (.ar h)
  | .ac _ => Ring.cell (leftD c) .ac
/-- The index a payment is made at. -/
def Item.ix : Item → ℕ
  | .cr _ g => g.val + 2
  | .ac h => h.val
  | _ => 0
def Item.amt : Item → ℕ
  | .rc .. => NH
  | .ar _ => NA
  | _ => 1
def Item.lvl : Item → ℕ
  | .barL => 1
  | .barR => 1
  | .rc _ g _ => 2 * g.val + 2
  | .cr _ g => 2 * g.val + 5
  | .ar h => 100 + 2 * h.val
  | .ac h => 101 + 2 * h.val

/-- The levels of the cells. -/
def kLvl : Kind → ℕ → ℕ
  | .bar, _ => 1
  | .cr _, ι => 2 * ι + 1
  | .ac, ι => 101 + 2 * ι
  | .snd .., _ => 0
  | .rcv _ g _, _ => 2 * g.val + 2
  | .am _, _ => 0
  | .ar h, _ => 100 + 2 * h.val

def L (g : GSem nD τ sig) : Finset ℕ := if g.1.2 = .tc then Finset.range 14 else ∅
def lv (g : GSem nD τ sig) (ι : ℕ) : ℕ := (kindOf g.2).elim 0 (kLvl · ι)

theorem lv_cell (c : Dev nD) (k : Kind) (ι : ℕ) : lv (cell c k) ι = kLvl k ι := by
  show (kindOf (semOf k)).elim 0 (kLvl · ι) = _; rw [kindOf_semOf]; rfl
theorem L_tc (c : Dev nD) (sm : SemLoc sig) : L ((c : Thread nD τ), sm) = Finset.range 14 := if_pos rfl

theorem Item.lv_eq (c : Dev nD) (it : Item) : lv (it.cell c) it.ix = it.lvl := by
  cases it with
  | barL => exact lv_cell (leftD c) .bar _
  | barR => exact lv_cell (rightD c) .bar _
  | rc d g b => exact lv_cell (tgtD d c) (.rcv d g b) _
  | cr d g => exact (lv_cell (srcD d c) (.cr d) _).trans (by simp only [kLvl, Item.ix, Item.lvl]; omega)
  | ar h => exact lv_cell (rightD c) (.ar h) _
  | ac h => exact lv_cell (leftD c) .ac _
theorem Item.tc (c : Dev nD) (it : Item) : (it.cell c).1.2 = .tc := by cases it <;> rfl
theorem Item.ix_lt (it : Item) : it.ix < 14 := by cases it <;> simp only [Item.ix] <;> omega

/-- The payments of a hop `j` of panel `p` that is sent on. -/
def hopItems (p : Fin 4) (j : Fin 2) : List Item :=
  [.rc 0 (hopOf p j.succ) 0, .rc 1 (hopOf p j.succ) 0, .rc 0 (hopOf p j.succ) 1, .rc 1 (hopOf p j.succ) 1,
    .cr 0 (hopOf p j.castSucc), .cr 1 (hopOf p j.castSucc)]
def panelItems (p : Fin 4) : List Item :=
  [.rc 0 (hopOf p 0) 0, .rc 1 (hopOf p 0) 0, .rc 0 (hopOf p 0) 1, .rc 1 (hopOf p 0) 1] ++ hopItems p 0 ++ hopItems p 1
    ++ [.cr 0 (hopOf p 2), .cr 1 (hopOf p 2)]
def allItems : List Item :=
  [.barL, .barR] ++ panelItems 0 ++ panelItems 1 ++ panelItems 2 ++ panelItems 3
    ++ [.ar 0, .ac 0, .ar 1, .ac 1, .ar 2, .ac 2]

/-- What is owed for a list of payments, the first on the outside. -/
def owedL (c : Dev nD) : List Item → CellTallies nD τ sig ℕ
  | [] => 0
  | it :: l => owedL c l + tallyAt (it.cell c) it.ix it.amt

theorem owedL_pos {c : Dev nD} {l : List Item} {g : GSem nD τ sig} {ι : ℕ} (h : 0 < owedL c l g ι) : ∃ it ∈ l, it.cell c = g ∧ it.ix = ι := by
  induction l with
  | nil => exact absurd h (Nat.lt_irrefl 0)
  | cons it l ih =>
    unfold owedL at h
    rw [Pi.add_apply, Finsupp.add_apply, tallyAt_apply] at h
    by_cases hi : g = it.cell c ∧ ι = it.ix
    · exact ⟨it, List.mem_cons_self, hi.1.symm, hi.2.symm⟩
    · rw [if_neg hi, Nat.add_zero] at h
      obtain ⟨it', hm, he⟩ := ih h
      exact ⟨it', List.mem_cons_of_mem _ hm, he⟩

/-- Device `c` has made its first `n` payments. -/
def owesN (c : Dev nD) (n : ℕ) : sProp 𝕄 := iprop(∃ W, owes (c : Thread nD τ) (owedL c (allItems.drop n)) W)

/-- A wait is allowed when what is still owed is at higher levels. -/
theorem mayWait (c : Dev nD) (sm : SemLoc sig) (ι n : ℕ) (hι : ι < 14)
    (h : ∀ it ∈ allItems.drop n, lv ((c : Thread nD τ), sm) ι < it.lvl) :
    (levAts L lv : sProp 𝕄) ⊢ MayWait (c : Thread nD τ) sm ι (owedL c (allItems.drop n)) := by
  refine MayOwe.of_cut (L := L) (lev := lv) (lv ((c : Thread nD τ), sm) ι) (fun p hp => ?_) (fun g ι' hg => ?_) (fun p hp => ?_) (fun g ι' hg => ?_)
  · rw [Finset.mem_singleton.mp hp, L_tc]; exact Finset.mem_range.mpr hι
  · obtain ⟨it, -, rfl, rfl⟩ := owedL_pos hg
    unfold L; rw [if_pos (it.tc c)]; exact Finset.mem_range.mpr it.ix_lt
  · rw [Finset.mem_singleton.mp hp]
  · obtain ⟨it, hm, rfl, rfl⟩ := owedL_pos hg
    rw [it.lv_eq]; exact h it hm

theorem drop_item {n : ℕ} {it : Item} (h : allItems[n]? = some it) : allItems.drop n = it :: allItems.drop (n + 1) := by
  obtain ⟨hn, rfl⟩ := List.getElem?_eq_some_iff.mp h
  exact List.drop_eq_getElem_cons hn

theorem owed_item (c : Dev nD) {n : ℕ} {it : Item} (h : allItems[n]? = some it) :
    owedL c (allItems.drop n) = owedL c (allItems.drop (n + 1)) + tallyAt (it.cell c) it.ix it.amt := by rw [drop_item h]; rfl

/-- Everything owed is at a level above zero. -/
theorem lvl_pos (it : Item) : 0 < it.lvl := by cases it <;> simp only [Item.lvl] <;> omega

end Cert.Ring

end
-- ==== Proof.Ring.Steps.lean ====
/-
The steps of one device's run, each from what it needs to what it leaves.
-/
module

public import proofs.«01_k».proof.Proof.Ring.Protocol

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (x : Dev nD → S4096x1024.Idx → Elt F .f32) (w : Dev nD → S1024x8192.Idx → Elt F .f32)
  (K : Dev nD × Kind → ℕ) (ιs : Key → ℕ)

/-- What every device knows: the cells, that their first rounds have begun, the receive slots, the levels. -/
def Ctx : sProp 𝕄 :=
  iprop(bigSep Finset.univ (fun y : Dev nD × Kind => cellInv ER (ringRd x w) (K y) (cell y.1 y.2))
    ∗ bigSep Finset.univ (fun y : Dev nD × Kind => reached ER (cell y.1 y.2) 0)
    ∗ bigSep Finset.univ (fun k : Key => slotInv ESlot (ιs k) k (slotAny (F := F) k.1 rvM k.2.1 k.2.2))
    ∗ levAts L lv)

instance Ctx_persistent : BI.Persistent (Ctx (F := F) x w K ιs) := by unfold Ctx; infer_instance

theorem univ_elim {I : Type} [Fintype I] [DecidableEq I] (Φ : I → sProp 𝕄) (i : I) : bigSep Finset.univ Φ ⊢ Φ i := bigSep_elim (Finset.mem_univ i)

theorem ctx_inv (c : Dev nD) (k : Kind) : Ctx (F := F) x w K ιs ⊢ cellInv ER (ringRd x w) (K (c, k)) (cell c k) := by
  unfold Ctx
  iintro ⟨H, -⟩
  iapply (univ_elim (fun y : Dev nD × Kind => cellInv ER (ringRd x w) (K y) (cell y.1 y.2)) (c, k)) $$ H
theorem ctx_reached (c : Dev nD) (k : Kind) : Ctx (F := F) x w K ιs ⊢ reached ER (cell c k) 0 := by
  unfold Ctx
  iintro ⟨-, H, -⟩
  iapply (univ_elim (fun y : Dev nD × Kind => reached ER (cell y.1 y.2) 0) (c, k)) $$ H
theorem ctx_slot (k : Key) : Ctx (F := F) x w K ιs ⊢ slotInv ESlot (ιs k) k (slotAny k.1 rvM k.2.1 k.2.2) := by
  unfold Ctx
  iintro ⟨-, -, H, -⟩
  iapply (univ_elim (fun k : Key => slotInv ESlot (ιs k) k (slotAny (F := F) k.1 rvM k.2.1 k.2.2)) k) $$ H
theorem ctx_lev : Ctx (F := F) x w K ιs ⊢ levAts L lv := by
  unfold Ctx
  iintro ⟨-, -, -, H⟩
  iexact H

/-! ## Waits and payments -/

/-- A wait for the one payment of a cell, after which it is closed. -/
theorem tri_waitOne (c : Dev nD) (k : Kind) {e : TpuEff nD τ sig (Elt F) Λ₀ .tc PUnit}
    (hw : ∀ Kt : PUnit → sProp 𝕄, wpE (defs₀ (F := F)) 𝒱₀ (c : Thread nD τ) none Set.univ e Kt = waitSpec (c : Thread nD τ) Set.univ (semOf k) (kAmt k) Kt)
    (hd : kDut k 0 = {0}) (hend : kEnd k = 1) (n : ℕ) (hl : ∀ it ∈ allItems.drop n, kLvl k 0 < it.lvl) :
    Tri c iprop(Ctx x w K ιs ∗ owesN c n ∗ atPos ER (cell c k) 0 ∅ 0 ∗ cred (tallyAt (cell c k) 0 (kAmt k)))
      (lift e) (fun _ => iprop(owesN c n ∗ semVal (cell c k) 0 ∗ kPay x w c k 0 0)) := by
  unfold Tri WP lift Prog.lift owesN
  iintro ⟨#HC, ⟨%W, HO⟩, Hat, Hc⟩
  iapply (Rounds.wp_wait_rest_token 𝒱₀ ER (ringRd x w) (c : Thread nD τ) none (κ := K (c, k)) hw (Set.mem_univ _) 0
    (O := owedL c (allItems.drop n)) (W := W) (R := 0) (m := 0) (T := ∅) (by rw [expect_cell, hd, Finset.card_singleton]; omega)) $$ [Hc HO Hat]
  · isplitr; · iapply (ctx_inv x w K ιs c k) $$ HC
    isplitl [Hc]; · iexact Hc
    isplitl [HO]; · iexact HO
    isplitr
    · iapply (mayWait c (semOf k) 0 n (by decide) (fun it hm => by have := hl it hm; rwa [← lv_cell c k 0] at this))
      iapply (ctx_lev x w K ιs) $$ HC
    iexact Hat
  iintro ⟨HO, Hat, -, Hp⟩
  rw [wp_ret]
  imod (cell_close ER (ringRd x w) (κ := K (c, k)) (Es := Set.univ) (Set.mem_univ _) (fun h => h) (R := 1)
    (fun r hr => duties_end x w c k r (by omega))) $$ [Hat] with Hv
  · isplitr; · iapply (ctx_inv x w K ιs c k) $$ HC
    iexact Hat
  imodintro
  isplitl [HO]; · iexists _; iexact HO
  isplitl [Hv]; · iexact Hv
  iapply (Entails.of_eq (show bigSep ((ringRd (F := F) x w).duties (cell c k) 0 \ ∅) (fun d => (ringRd (F := F) x w).payload (cell c k) 0 d) = kPay x w c k 0 0 by
    rw [Finset.sdiff_empty, duties_cell, hd, bigSep_singleton, payload_cell])) $$ Hp

/-- A unit signalled to another device's cell. -/
theorem tri_pay (c c' : Dev nD) (k : Kind) (s : Sem sig) (hs : semOf k = .reg s) (r i n : ℕ) {it : Item} (hit : allItems[n]? = some it)
    (hcell : it.cell c = cell c' k) (hamt : it.amt = 1) (hk : kAmt k = 1) (hi : i ∈ kDut k r) :
    Tri c iprop(Ctx x w K ιs ∗ owesN c n ∗ dutyTok ER (cell c' k) r i ∗ kPay x w c' k r i ∗ reached ER (cell c' k) r)
      (semSignalWord c' s 1#32) (fun _ => owesN c (n + 1)) := by
  have e : cell c' k = ((c' : Thread nD τ), SemLoc.reg s) := by unfold cell; rw [hs]
  have hp := payload_cell x w c' k r i
  have hm := duties_cell x w c' k r
  have ha := amount_cell x w c' k r i
  have hI := ctx_inv (F := F) x w K ιs c' k
  unfold Tri WP semSignalWord owesN
  rw [e] at hp hm ha hI hcell ⊢
  iintro ⟨#HC, ⟨%W, HO⟩, Ht, Hp, Hr⟩
  ihave HO := (Entails.of_eq (congrArg (fun T => (owes (c : Thread nD τ) T W : sProp 𝕄)) (owed_item c hit))) $$ HO
  rw [hcell, hamt]
  iapply (Rounds.wp_signal 𝒱₀ ER (ringRd x w) (c : Thread nD τ) none (dst := (c' : Thread nD τ)) (κ := K (c', k)) (d := i)
      (by rw [hm]; exact hi) (ha.trans (hk.trans (by decide))) it.ix (owedL c (allItems.drop (n + 1))) rfl) $$ [HO Ht Hp Hr]
  · isplitr; · iapply hI $$ HC
    isplitl [HO]; · iexact HO
    isplitl [Ht]; · iexact Ht
    isplitl [Hp]; · rw [hp]; iexact Hp
    iexact Hr
  iintro HO
  rw [wp_ret]
  imodintro
  iexists _; iexact HO

/-- A wait for a local copy. -/
theorem tri_waitLocal (c : Dev nD) (s : DmaSem sig) {sp sp' : Space} {s₁ s₂ : Shape} {e₁ e₂ : EltTy}
    {src : Memref sig .tc sp' s₂ e₂} {dst : Memref sig .tc sp s₁ e₁} {hsrc : src.view.WordExact} {hdst : dst.view.WordExact}
    (hN : dst.view.dmaCredit = NT) (hs : kindOf (.dma s) = none) (n : ℕ) (D : sProp 𝕄) :
    Tri c iprop(Ctx x w K ιs ∗ owesN c n ∗ Flight EC (c : Thread nD τ) (.dma s) 0 NT D)
      (lift (.waitDma2 s src dst hsrc hdst)) (fun _ => iprop(owesN c n ∗ semVal ((c : Thread nD τ), SemLoc.dma s) 0 ∗ D)) := by
  unfold Tri WP lift Prog.lift owesN
  iintro ⟨#HC, ⟨%W, HO⟩, Hf⟩
  iapply (wp_waitLocalO EC 𝒱₀ (c : Thread nD τ) none 0 hN (O := owedL c (allItems.drop n)) (W := W)) $$ [Hf HO]
  · isplitl [Hf]; · iexact Hf
    isplitl [HO]; · iexact HO
    iapply (mayWait c (.dma s) 0 n (by decide) (fun it _ => by
      rw [show lv ((c : Thread nD τ), SemLoc.dma s) 0 = 0 from by show (kindOf (.dma s)).elim 0 _ = 0; rw [hs]; rfl]
      exact lvl_pos it))
    iapply (ctx_lev x w K ιs) $$ HC
  iintro ⟨HD, Hv, HO⟩
  rw [wp_ret]
  imodintro
  isplitl [HO]; · iexists _; iexact HO
  isplitl [Hv]; · iexact Hv
  iexact HD

/-! ## The hops' transfers -/

/-- Hop `g`'s half has been sent and not yet waited for. -/
def Pend (c : Dev nD) (d : Fin 2) (g : Fin 12) (b : Fin 2) : sProp 𝕄 :=
  iprop(atPos ER (cell c (.snd d g b)) 0 ∅ 0 ∗ cred (tallyAt (cell c (.snd d g b)) 0 NH))

/-- The same, for a wait for a transfer. -/
theorem tri_waitDma (c : Dev nD) (k : Kind) {s s' : Shape} {e e' : EltTy} (src : Memref sig .tc .vmem s e) (dst : Memref sig .tc .vmem s' e')
    (hsrc : src.view.WordExact) (hdst : dst.view.WordExact) (S : DmaSem sig) (hs : semOf k = .dma S) (hN : dst.view.dmaCredit = kAmt k)
    (hd : kDut k 0 = {0}) (hend : kEnd k = 1) (n : ℕ) (hl : ∀ it ∈ allItems.drop n, kLvl k 0 < it.lvl) :
    Tri c iprop(Ctx x w K ιs ∗ owesN c n ∗ atPos ER (cell c k) 0 ∅ 0 ∗ cred (tallyAt (cell c k) 0 (kAmt k)))
      (lift (.waitDma2 S src dst hsrc hdst)) (fun _ => iprop(owesN c n ∗ semVal (cell c k) 0 ∗ kPay x w c k 0 0)) :=
  tri_waitOne x w K ιs c k (fun Kt => by rw [wpE_waitDma2_eq, hs, hN]) hd hend n hl

theorem tri_waitSend (c : Dev nD) (d : Fin 2) (g : Fin 12) (b : Fin 2) (n : ℕ) :
    Tri c iprop(Ctx x w K ιs ∗ owesN c n ∗ Pend c d g b) (waitSend d g b)
      (fun _ => iprop(owesN c n ∗ semVal (cell c (.snd d g b)) 0 ∗ anyOf c (slotHS sdM d (slot g.val) b))) := by
  unfold Pend
  exact tri_waitDma x w K ιs c (.snd d g b) (rvH d (slot g.val) b) (sdH d (slot g.val) b) (rvH_exact _ _ _) (sdH_exact _ _ _) (sendS d g b) rfl rfl rfl rfl n
    (fun it _ => lvl_pos it)

theorem tri_waitRecv (c : Dev nD) (d : Fin 2) (g : Fin 12) (b : Fin 2) (n : ℕ) (hl : ∀ it ∈ allItems.drop n, 2 * g.val + 2 < it.lvl) :
    Tri c iprop(Ctx x w K ιs ∗ owesN c n ∗ atPos ER (cell c (.rcv d g b)) 0 ∅ 0 ∗ cred (tallyAt (cell c (.rcv d g b)) 0 NH)) (waitRecv d g b)
      (fun _ => iprop(owesN c n ∗ semVal (cell c (.rcv d g b)) 0
        ∗ owns (c : Thread nD τ) (slotHS rvM d (slot g.val) b) fullShare (SndG x w d g b (srcD d c)))) :=
  tri_waitDma x w K ιs c (.rcv d g b) (sdH d (slot g.val) b) (rvH d (slot g.val) b) (sdH_exact _ _ _) (rvH_exact _ _ _) (recvS d g b) rfl rfl rfl rfl n hl

/-- A lane's slot before hop `g` fills it: free, or its last transfer still out. -/
def Free (c : Dev nD) (d : Fin 2) (g : ℕ) : sProp 𝕄 :=
  if h : 2 ≤ g ∧ g < 14 then iprop(Pend c d ⟨g - 2, by omega⟩ 0 ∗ Pend c d ⟨g - 2, by omega⟩ 1) else slotAny c sdM d (slot g)
/-- The semaphores closed on the way. -/
def SVs (c : Dev nD) (d : Fin 2) (g : ℕ) : sProp 𝕄 :=
  if h : 2 ≤ g ∧ g < 14 then iprop(semVal (cell c (.snd d ⟨g - 2, by omega⟩ 0)) 0 ∗ semVal (cell c (.snd d ⟨g - 2, by omega⟩ 1)) 0) else iprop(emp)

theorem tri_freeSlot (c : Dev nD) (d : Fin 2) (g : ℕ) (hg : g < 14) (n : ℕ) :
    Tri c iprop(Ctx x w K ιs ∗ owesN c n ∗ Free c d g) (freeSlot d g hg)
      (fun _ => iprop(owesN c n ∗ SVs c d g ∗ slotAny c sdM d (slot g))) := by
  unfold freeSlot Free SVs
  by_cases h : 2 ≤ g
  · rw [dif_pos h, dif_pos ⟨h, hg⟩, dif_pos ⟨h, hg⟩]
    have hg2 : g - 2 < 12 := by omega
    have hs : slot (g - 2) = slot g := Fin.ext (by show (g - 2) % 2 = g % 2; omega)
    unfold Tri slotAny
    iintro ⟨#HC, HO, HP0, HP1⟩
    iapply (Tri.use (tri_waitSend x w K ιs c d ⟨g - 2, hg2⟩ 0 n)) $$ [HO HP0]
    · isplitr; · iexact HC
      isplitl [HO]; · iexact HO
      iexact HP0
    iintro %_ ⟨HO, HV0, HA0⟩
    iapply (Tri.use_last (tri_waitSend x w K ιs c d ⟨g - 2, hg2⟩ 1 n)) $$ [HO HP1]
    · isplitr; · iexact HC
      isplitl [HO]; · iexact HO
      iexact HP1
    iintro %_ ⟨HO, HV1, HA1⟩
    isplitl [HO]; · iexact HO
    isplitl [HV0 HV1]
    · isplitl [HV0]; · iexact HV0
      iexact HV1
    rw [show slot (g - 2) = slot g from hs]
    isplitl [HA0]; · iexact HA0
    iexact HA1
  · rw [dif_neg h, dif_neg (fun h' => h h'.1), dif_neg (fun h' => h h'.1)]
    refine Tri.pure ?_
    iintro ⟨-, HO, H⟩
    isplitl [HO]; · iexact HO
    isplitr; · iempintro
    iexact H

/-- A transfer to another device's buffer, both cells paid once; `P` goes along. -/
theorem tri_remote (c c' : Dev nD) {s : Shape} {e : EltTy} (src dst : Memref sig .tc .vmem s e) {hsrc : src.view.WordExact} {hdst : dst.view.WordExact}
    (k₁ k₂ : Kind) (sS rS : DmaSem sig) (h₁ : semOf k₁ = .dma sS) (h₂ : semOf k₂ = .dma rS)
    {hsc : dst.view.ref.isScScratch = false} {hsem : DmaTarget.Typed .vmem (.dma rS : SemLoc sig) (.remote (c' : Thread nD τ) dst (.dma sS) hsc)}
    (hN₁ : dst.view.amount (.dma rS : SemLoc sig) = kAmt k₁) (hN₂ : kAmt k₁ = kAmt k₂)
    (hd₁ : 0 ∈ kDut k₁ 0) (hd₂ : 0 ∈ kDut k₂ 0) (n : ℕ) {it : Item} (hit : allItems[n]? = some it) (hcell : it.cell c = cell c' k₂)
    (hamt : it.amt = kAmt k₂) (X : s.Idx → Elt F e) (P : sProp 𝕄)
    (hp₁ : (owns (c : Thread nD τ) src fullShare X : sProp 𝕄) ⊢ kPay x w c k₁ 0 0)
    (hp₂ : iprop(owns (c' : Thread nD τ) dst fullShare X ∗ P) ⊢ kPay x w c' k₂ 0 0) :
    Tri c iprop(Ctx x w K ιs ∗ owesN c n ∗ owns (c : Thread nD τ) src fullShare X ∗ anyOf c' dst ∗ P
        ∗ dutyTok ER (cell c k₁) 0 0 ∗ dutyTok ER (cell c' k₂) 0 0)
      (lift (.enqueueDma src (.remote (c' : Thread nD τ) dst (.dma sS) hsc) (.dma rS) hsrc hdst hsem))
      (fun _ => iprop(owesN c (n + 1) ∗ cred (tallyAt (cell c k₁) 0 (kAmt k₁)))) := by
  have e₁ : cell c k₁ = ((c : Thread nD τ), SemLoc.dma sS) := by unfold cell; rw [h₁]
  have e₂ : cell c' k₂ = ((c' : Thread nD τ), SemLoc.dma rS) := by unfold cell; rw [h₂]
  have hm₁ := duties_cell x w c k₁ 0
  have hm₂ := duties_cell x w c' k₂ 0
  have ha₁ := amount_cell x w c k₁ 0 0
  have ha₂ := amount_cell x w c' k₂ 0 0
  have hq₁ := payload_cell x w c k₁ 0 0
  have hq₂ := payload_cell x w c' k₂ 0 0
  have hI₁ := ctx_inv (F := F) x w K ιs c k₁
  have hI₂ := ctx_inv (F := F) x w K ιs c' k₂
  have hr₁ := ctx_reached (F := F) x w K ιs c k₁
  have hr₂ := ctx_reached (F := F) x w K ιs c' k₂
  unfold Tri WP lift Prog.lift owesN anyOf
  rw [e₁] at hm₁ ha₁ hq₁ hI₁ hr₁
  rw [e₂] at hm₂ ha₂ hq₂ hI₂ hr₂ hcell
  rw [e₁, e₂]
  iintro ⟨#HC, ⟨%W, HO⟩, Hs, ⟨%Y, Hd⟩, HP, Ht1, Ht2⟩
  ihave HO := (Entails.of_eq (congrArg (fun T => (owes (c : Thread nD τ) T W : sProp 𝕄)) (owed_item c hit))) $$ HO
  rw [hcell, hamt]
  ihave Hs := (owns_open c fullShare src X) $$ Hs
  ihave Hd := (owns_open c' fullShare dst Y) $$ Hd
  icases Hs with ⟨%f, %hf, Hs⟩
  icases Hd with ⟨%f', %hf', Hd⟩
  iapply (Rounds.wp_send_pointsTo_with 𝒱₀ ER (ringRd x w) (c : Thread nD τ) none (c' := (c' : Thread nD τ)) (src := src) (dst := dst) (sS := .dma sS) (sem := .dma rS) (F := P)
    (κ₁ := K (c, k₁)) (κ₂ := K (c', k₂)) (r₁ := 0) (r₂ := 0) (d₁ := 0) (d₂ := 0) (fs := f) (fd := f') (q := fullShare)
    (by rw [hm₁]; exact hd₁) (by rw [hm₂]; exact hd₂) it.ix 0 (kAmt k₁) hN₁ ha₁ (ha₂.trans hN₂.symm)
    (owedL c (allItems.drop (n + 1))) (by rw [hN₂]) (W := W)
    (by rw [hq₁]; exact BIBase.Entails.trans (owns_shut c fullShare src X f hf) hp₁)
    (by
      rw [hq₂]
      refine BIBase.Entails.trans (sep_mono_left ?_) hp₂
      exact owns_shut c' fullShare dst X _ (by rw [View.read_write_univ]; exact hf))) $$ [HO Hs Hd HP Ht1 Ht2]
  · isplitr; · iapply hI₁ $$ HC
    isplitr; · iapply hI₂ $$ HC
    isplitl [Hs]; · iexact Hs
    isplitl [Hd HP]
    · isplitl [Hd]; · iexact Hd
      iexact HP
    isplitl [HO]; · iexact HO
    isplitl [Ht1]; · iexact Ht1
    isplitr; · iapply hr₁ $$ HC
    isplitl [Ht2]; · iexact Ht2
    iapply hr₂ $$ HC
  iintro ⟨Hc, HO⟩
  rw [wp_ret]
  imodintro
  isplitl [HO]; · iexists _; iexact HO
  iexact Hc

end Cert.Ring

end
-- ==== Proof.Ring.Hops.lean ====
/-
The steps of one device's run, each from what it needs to what it leaves.
-/
module

public import proofs.«01_k».proof.Proof.Ring.Steps

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (x : Dev nD → S4096x1024.Idx → Elt F .f32) (w : Dev nD → S1024x8192.Idx → Elt F .f32)
  (K : Dev nD × Kind → ℕ) (ιs : Key → ℕ)

/-! ## Slots -/

theorem anyOf_excl (c : Dev nD) {sp : Space} {s : Shape} {e : EltTy} (m : Memref sig .tc sp s e) (i : s.Idx) :
    iprop(anyOf c m ∗ anyOf c m) ⊢ (False : sProp 𝕄) := by
  have hi : m.view.emb i ∈ m.view.set := Finset.mem_map_of_mem _ (Finset.mem_univ i)
  unfold anyOf owns
  iintro ⟨⟨%X, %f, -, H⟩, ⟨%Y, %g, -, H'⟩⟩
  iapply (pointsTo_overlap_false (ℓ := m.view.loc (c : Thread nD τ)) (I := m.view.set) (J := m.view.set) (q := fullShare) (f := f) (g := g) hi hi)
  isplitl [H]; · iexact H
  iexact H'

theorem slotAny_excl (c : Dev nD) (M : Memref sig .tc .vmem S2x2x1024x1024 .bf16) (d s : Fin 2) :
    iprop(slotAny c M d s ∗ slotAny c M d s) ⊢ (False : sProp 𝕄) := by
  unfold slotAny
  iintro ⟨⟨H, -⟩, ⟨H', -⟩⟩
  iapply (anyOf_excl c (slotHS M d s 0) (fun a => ⟨0, by revert a; decide⟩))
  isplitl [H]; · iexact H
  iexact H'

instance Fact_persistent (c : Dev nD) (d : Fin 2) (n : ℕ) : BI.Persistent (Fact c d n : sProp 𝕄) := by unfold Fact; infer_instance
instance Empty0_persistent (c : Dev nD) (d : Fin 2) : BI.Persistent (Empty0 c d : sProp 𝕄) := by unfold Empty0; infer_instance

theorem Fact_zero (c : Dev nD) (d : Fin 2) : (emp : sProp 𝕄) ⊢ Fact c d 0 := by
  unfold Fact; rw [Finset.range_zero, bigSep_empty]; exact BI.Entails.refl _
theorem Fact_succ (c : Dev nD) (d : Fin 2) (n : ℕ) :
    iprop(Fact c d n ∗ released ESlot ((c, d, slot n) : Key) (n / 2 + 2)) ⊢ (Fact c d (n + 1) : sProp 𝕄) := by
  have e : (Fact c d (n + 1) : sProp 𝕄) = iprop(released ESlot ((c, d, slot n) : Key) (n / 2 + 2) ∗ Fact c d n) := by
    unfold Fact
    rw [Finset.range_add_one, bigSep_insert Finset.notMem_range_self]
    rfl
  rw [e]
  iintro ⟨H, H'⟩
  isplitl [H']; · iexact H'
  iexact H
theorem Fact_get (c : Dev nD) (d : Fin 2) (n g : ℕ) (h : g < n) : (Fact c d n : sProp 𝕄) ⊢ released ESlot ((c, d, slot g) : Key) (g / 2 + 2) := by
  unfold Fact
  exact bigSep_elim (Φ := fun g => released ESlot ((c, d, slot g) : Key) (g / 2 + 2)) (Finset.mem_range.mpr h)

theorem slot_add_two (g : ℕ) : slot (g + 2) = slot g := Fin.ext (by show (g + 2) % 2 = g % 2; omega)

/-- Where the reader of lane `d`'s two slots stands before hop `g` is taken in. -/
def Rds (c : Dev nD) (d : Fin 2) (g : ℕ) : sProp 𝕄 :=
  iprop(readerAt ESlot ((c, d, slot g) : Key) (g / 2 + 1) ∗ readerAt ESlot ((c, d, slot (g + 1)) : Key) ((g + 1) / 2 + 1))

/-- The credits a lane has taken, and what came with the payments known of. -/
def CrSt (c : Dev nD) (d : Fin 2) (j : ℕ) : sProp 𝕄 :=
  iprop(∃ S : Finset ℕ, ⌜S ⊆ Finset.range 12 ∧ j ≤ S.card⌝ ∗ atPos ER (cell c (.cr d)) 0 S j ∗ bigSep S fun i => Fact (tgtD d c) d (i + 1))

theorem tri_giveCredit (c : Dev nD) (d : Fin 2) (g : Fin 12) (n : ℕ) (hit : allItems[n]? = some (.cr d g)) :
    Tri c iprop(Ctx x w K ιs ∗ owesN c n ∗ Rds c d g.val ∗ Fact c d g.val ∗ slotAny c rvM d (slot g.val) ∗ dutyTok ER (cell (srcD d c) (.cr d)) 0 g.val)
      (giveCredit c d) (fun _ => iprop(owesN c (n + 1) ∗ Rds c d (g.val + 1) ∗ Fact c d (g.val + 1))) := by
  have htgt : tgtD d (srcD d c) = c := by clear hit; revert c d; decide
  have hs : slot (g.val + 1 + 1) = slot g.val := slot_add_two _
  have hn : (g.val + 1 + 1) / 2 + 1 = g.val / 2 + 1 + 1 := by omega
  have hk := ctx_slot (F := F) x w K ιs ((c, d, slot g.val) : Key)
  have hpay := tri_pay x w K ιs c (srcD d c) (.cr d) (creditS d) rfl 0 g.val n hit rfl rfl rfl (by show g.val ∈ (if 0 = 0 then Finset.range 12 else ∅); rw [if_pos rfl]; exact Finset.mem_range.mpr g.isLt)
  unfold Rds
  rw [hs, hn]
  unfold Tri WP giveCredit
  iintro ⟨#HC, HO, ⟨Hr, Hr'⟩, #HF, HS, Ht⟩
  imod (slot_release ESlot (ι := ιs ((c, d, slot g.val) : Key)) (k := ((c, d, slot g.val) : Key)) (Es := Set.univ) (S := slotAny c rvM d (slot g.val)) (Set.mem_univ _)
    (slotAny_excl c rvM d (slot g.val)) (g.val / 2 + 1)) $$ [Hr HS] with ⟨Hr, #Hrel⟩
  · isplitr; · iapply hk $$ HC
    isplitl [Hr]; · iexact Hr
    iexact HS
  ihave #HF' := (Fact_succ c d g.val) $$ [HF Hrel]
  · isplitr; · iexact HF
    iexact Hrel
  iapply (Tri.use_last hpay) $$ [HO Ht]
  · isplitr; · iexact HC
    isplitl [HO]; · iexact HO
    isplitl [Ht]; · iexact Ht
    isplitr
    · iapply (show (Fact c d (g.val + 1) : sProp 𝕄) ⊢ kPay x w (srcD d c) (.cr d) 0 g.val from Entails.of_eq (by
        show Fact c d (g.val + 1) = Fact (tgtD d (srcD d c)) d (g.val + 1)
        rw [htgt])) $$ HF'
    · iapply (ctx_reached x w K ιs (srcD d c) (.cr d)) $$ HC
  iintro %_ HO
  isplitl [HO]; · iexact HO
  isplitl [Hr Hr']
  · isplitl [Hr']; · iexact Hr'
    iexact Hr
  iexact HF'

theorem tri_credit (c : Dev nD) (d : Fin 2) (g : ℕ) (hg : 2 ≤ g) (hg' : g < 14) (n : ℕ) (hl : ∀ it ∈ allItems.drop n, 2 * g + 1 < it.lvl) :
    Tri c iprop(Ctx x w K ιs ∗ owesN c n ∗ CrSt c d (g - 2) ∗ cred (tallyAt (cell c (.cr d)) g 1))
      (semWaitWord (creditS d) 1#32)
      (fun _ => iprop(owesN c n ∗ CrSt c d (g + 1 - 2) ∗ released ESlot ((tgtD d c, d, slot g) : Key) (g / 2 + 1))) := by
  have hdut : (ringRd (F := F) x w).duties (cell c (.cr d)) 0 = Finset.range 12 := duties_cell x w c (.cr d) 0
  have hexp : (ringRd (F := F) x w).expect (cell c (.cr d)) 0 = 12 := (expect_cell x w c (.cr d) 0).trans rfl
  have hmw := mayWait (F := F) c (SemLoc.reg (creditS d)) g n hg' (fun it hm => by have := hl it hm; rwa [show lv ((c : Thread nD τ), SemLoc.reg (creditS d)) g = 2 * g + 1 from lv_cell c (.cr d) g])
  have hI := ctx_inv (F := F) x w K ιs c (.cr d)
  unfold Tri WP semWaitWord owesN CrSt
  iintro ⟨#HC, ⟨%W, HO⟩, ⟨%T, %hT, Hat, #HT⟩, Hc⟩
  iapply (Rounds.wp_wait 𝒱₀ ER (ringRd x w) (c : Thread nD τ) none (sm := SemLoc.reg (creditS d)) (k' := 1) (κ := K (c, .cr d)) (Es := Set.univ) (fun Kt => rfl) (Set.mem_univ _)
    (cr := Finsupp.single g 1) {(SemLoc.reg (creditS d), g)} (O := owedL c (allItems.drop n)) (W := W) (R := 0) (m := g - 2) (T := T)
    (Idealize.SL.Util.total_single _ _) (by
      intro p hp
      obtain ⟨i, hi, rfl⟩ := Finset.mem_image.mp hp
      rw [Finset.mem_singleton.mp (Finsupp.support_single_subset hi)]
      exact Finset.mem_singleton_self _)) $$ [Hc HO Hat]
  · isplitr; · iapply hI $$ HC
    isplitl [Hc]; · iexact Hc
    isplitl [HO]; · iexact HO
    isplitr
    · iapply hmw
      iapply (ctx_lev x w K ιs) $$ HC
    iexact Hat
  iintro %S ⟨%hS, HO, Hat, Hp⟩
  rw [wp_ret]
  imodintro
  isplitl [HO]; · iexists _; iexact HO
  obtain ⟨hTS, hSd, hcard⟩ := hS
  have hSd : S ⊆ Finset.range 12 := hdut ▸ hSd
  have hcard : g - 2 + 1 + (Finset.range 12 \ S).card ≤ 12 := by
    have h := hcard
    erw [hdut, hexp] at h
    exact h
  have hc12 : (Finset.range 12 \ S).card = 12 - S.card := by rw [Finset.card_sdiff_of_subset hSd, Finset.card_range]
  have hle : S.card ≤ 12 := (Finset.card_le_card hSd).trans (Finset.card_range 12).le
  have hj : g + 1 - 2 ≤ S.card := by omega
  have hk : ∃ k ∈ S, g - 2 ≤ k := by
    by_contra hne
    have hsub : S ⊆ Finset.range (g - 2) := fun k hk => Finset.mem_range.mpr (by by_contra h; exact hne ⟨k, hk, by omega⟩)
    have := (Finset.card_le_card hsub).trans (Finset.card_range _).le
    omega
  obtain ⟨k, hkS, hk⟩ := hk
  ihave #Hp' := (show (bigSep (S \ T) (fun i => (ringRd (F := F) x w).payload (cell c (.cr d)) 0 i) : sProp 𝕄) ⊢ bigSep (S \ T) fun i => Fact (tgtD d c) d (i + 1) from
    bigSep_mono fun i _ => Entails.of_eq (payload_cell x w c (.cr d) 0 i)) $$ Hp
  ihave #HS := (show iprop((bigSep T fun i => Fact (tgtD d c) d (i + 1)) ∗ bigSep (S \ T) fun i => Fact (tgtD d c) d (i + 1)) ⊢ (bigSep S fun i => Fact (tgtD d c) d (i + 1) : sProp 𝕄) from
    (bigSep_sep_union T (S \ T)).trans (Entails.of_eq (congrArg (fun Z => bigSep Z fun i => Fact (tgtD d c) d (i + 1)) (Finset.union_sdiff_of_subset hTS)))) $$ [HT Hp']
  · isplitr; · iexact HT
    iexact Hp'
  isplitl [Hat]
  · iexists S
    isplitr; · ipureintro; exact ⟨hSd, hj⟩
    rw [show g + 1 - 2 = g - 2 + 1 by omega]
    isplitl [Hat]; · iexact Hat
    iexact HS
  · have e1 : slot (g - 2) = slot g := Fin.ext (by show (g - 2) % 2 = g % 2; omega)
    have e2 : (g - 2) / 2 + 2 = g / 2 + 1 := by omega
    rw [← e1, ← e2]
    iapply (Fact_get (tgtD d c) d (k + 1) (g - 2) (by omega))
    iapply (show (bigSep S fun i => Fact (tgtD d c) d (i + 1) : sProp 𝕄) ⊢ Fact (tgtD d c) d (k + 1) from bigSep_elim (Φ := fun i => Fact (tgtD d c) d (i + 1)) hkS) $$ HS

/-! ## Sending a hop -/

/-- What a hop needs to use the target's slot. -/
def GTok (c : Dev nD) (d : Fin 2) (g : Fin 12) : sProp 𝕄 :=
  iprop((if 2 ≤ g.val then cred (tallyAt (cell c (.cr d)) g.val 1) else released ESlot ((tgtD d c, d, slot g.val) : Key) (g.val / 2 + 1))
    ∗ writeTok ESlot ((tgtD d c, d, slot g.val) : Key) (g.val / 2 + 1))
/-- What the transfer of a half needs. -/
def XTok (c : Dev nD) (d : Fin 2) (g : Fin 12) (b : Fin 2) : sProp 𝕄 :=
  iprop(dutyTok ER (cell c (.snd d g b)) 0 0 ∗ dutyTok ER (cell (tgtD d c) (.rcv d g b)) 0 0 ∗ atPos ER (cell c (.snd d g b)) 0 ∅ 0)

theorem tri_xfer (c : Dev nD) (d : Fin 2) (g : Fin 12) (b : Fin 2) (n : ℕ) (hit : allItems[n]? = some (.rc d g b)) :
    Tri c iprop(Ctx x w K ιs ∗ owesN c n ∗ owns (c : Thread nD τ) (slotHS sdM d (slot g.val) b) fullShare (SndG x w d g b c)
        ∗ anyOf (tgtD d c) (slotHS rvM d (slot g.val) b) ∗ XTok c d g b)
      (lift (.enqueueDma (sdH d (slot g.val) b) (.remote (Dev.tc (tgtD d c)) (rvH d (slot g.val) b) (.dma (sendS d g b)))
        (.dma (recvS d g b)) (sdH_exact _ _ _) (rvH_exact _ _ _) ⟨⟨rfl, Or.inl rfl⟩, trivial⟩))
      (fun _ => iprop(owesN c (n + 1) ∗ Pend c d g b)) := by
  have hsrc : srcD d (tgtD d c) = c := by clear hit; revert c d; decide
  have h := tri_remote x w K ιs c (tgtD d c) (sdH d (slot g.val) b) (rvH d (slot g.val) b) (hsrc := sdH_exact _ _ _) (hdst := rvH_exact _ _ _)
    (.snd d g b) (.rcv d g b) (sendS d g b) (recvS d g b) rfl rfl (hsc := rfl) (hsem := ⟨⟨rfl, Or.inl rfl⟩, trivial⟩) rfl rfl
    (Finset.mem_singleton_self 0) (Finset.mem_singleton_self 0) n hit rfl rfl (sqz squeezes_S1x1x512x1024_S512x1024 (SndG x w d g b c)) iprop(emp)
    (by
      rw [owns_squeeze]
      exact anyOf_intro c _ _)
    (by
      rw [owns_squeeze]
      show _ ⊢ (owns ((tgtD d c : Dev nD) : Thread nD τ) (slotHS rvM d (slot g.val) b) fullShare (SndG x w d g b (srcD d (tgtD d c))) : sProp 𝕄)
      rw [hsrc]
      iintro ⟨H, -⟩
      iexact H)
  unfold XTok Pend Tri
  iintro ⟨#HC, HO, Hs, Hd, Ht1, Ht2, Hat⟩
  iapply (Tri.use_last h) $$ [HO Hs Hd Ht1 Ht2]
  · isplitr; · iexact HC
    isplitl [HO]; · iexact HO
    isplitl [Hs]; · iapply (Entails.of_eq (owns_squeeze c fullShare (slotHS sdM d (slot g.val) b) squeezes_S1x1x512x1024_S512x1024 _).symm) $$ Hs
    isplitl [Hd]
    · unfold anyOf
      icases Hd with ⟨%Y, Hd⟩
      iexists (sqz squeezes_S1x1x512x1024_S512x1024 Y)
      iapply (Entails.of_eq (owns_squeeze (tgtD d c) fullShare (slotHS rvM d (slot g.val) b) squeezes_S1x1x512x1024_S512x1024 _).symm) $$ Hd
    isplitr; · iempintro
    isplitl [Ht1]; · iexact Ht1
    iexact Ht2
  iintro %_ ⟨HO, Hc⟩
  isplitl [HO]; · iexact HO
  isplitl [Hat]; · iexact Hat
  iexact Hc

/-- The first half of a hop: the target's slot is taken, the half sent, the rest of the slot kept. -/
theorem tri_send0 (c : Dev nD) (d : Fin 2) (g : Fin 12) (n : ℕ) (hit : allItems[n]? = some (.rc d g 0))
    (hl : ∀ it ∈ allItems.drop n, 2 * g.val + 1 < it.lvl) :
    Tri c iprop(Ctx x w K ιs ∗ owesN c n ∗ owns (c : Thread nD τ) (slotHS sdM d (slot g.val) 0) fullShare (SndG x w d g 0 c)
        ∗ CrSt c d (g.val - 2) ∗ GTok c d g ∗ XTok c d g 0)
      (sendHop c d g 0)
      (fun _ => iprop(owesN c (n + 1) ∗ CrSt c d (g.val + 1 - 2) ∗ anyOf (tgtD d c) (slotHS rvM d (slot g.val) 1) ∗ Pend c d g 0)) := by
  have hk := ctx_slot (F := F) x w K ιs ((tgtD d c, d, slot g.val) : Key)
  have fin := tri_xfer x w K ιs c d g 0 n hit
  have take : iprop(Ctx x w K ιs ∗ released ESlot ((tgtD d c, d, slot g.val) : Key) (g.val / 2 + 1) ∗ writeTok ESlot ((tgtD d c, d, slot g.val) : Key) (g.val / 2 + 1))
      ⊢ (|={Set.univ}=> slotAny (tgtD d c) rvM d (slot g.val) : sProp 𝕄) := by
    iintro ⟨#HC, Hr, Ht⟩
    iapply (slot_take ESlot (ι := ιs ((tgtD d c, d, slot g.val) : Key)) (k := ((tgtD d c, d, slot g.val) : Key)) (Es := Set.univ)
      (S := slotAny (tgtD d c) rvM d (slot g.val)) (Set.mem_univ _) (g.val / 2 + 1)) $$ [Hr Ht]
    isplitr; · iapply hk $$ HC
    isplitl [Hr]; · iexact Hr
    iexact Ht
  have fin' : Tri c iprop(Ctx x w K ιs ∗ owesN c n ∗ owns (c : Thread nD τ) (slotHS sdM d (slot g.val) 0) fullShare (SndG x w d g 0 c)
        ∗ released ESlot ((tgtD d c, d, slot g.val) : Key) (g.val / 2 + 1) ∗ writeTok ESlot ((tgtD d c, d, slot g.val) : Key) (g.val / 2 + 1) ∗ XTok c d g 0)
      (lift (.enqueueDma (sdH d (slot g.val) 0) (.remote (Dev.tc (tgtD d c)) (rvH d (slot g.val) 0) (.dma (sendS d g 0)))
        (.dma (recvS d g 0)) (sdH_exact _ _ _) (rvH_exact _ _ _) ⟨⟨rfl, Or.inl rfl⟩, trivial⟩))
      (fun _ => iprop(owesN c (n + 1) ∗ anyOf (tgtD d c) (slotHS rvM d (slot g.val) 1) ∗ Pend c d g 0)) := by
    unfold Tri WP
    iintro ⟨#HC, HO, Hs, Hr, Ht, HX⟩
    imod take $$ [Hr Ht] with HS
    · isplitr; · iexact HC
      isplitl [Hr]; · iexact Hr
      iexact Ht
    unfold slotAny
    icases HS with ⟨H0, H1⟩
    iapply (Tri.use_last fin) $$ [HO Hs H0 HX]
    · isplitr; · iexact HC
      isplitl [HO]; · iexact HO
      isplitl [Hs]; · iexact Hs
      isplitl [H0]; · iexact H0
      iexact HX
    iintro %_ ⟨HO, HP⟩
    isplitl [HO]; · iexact HO
    isplitl [H1]; · iexact H1
    iexact HP
  unfold sendHop GTok Tri
  by_cases h : 2 ≤ g.val
  · rw [if_pos h, if_pos ⟨h, rfl⟩]
    iintro ⟨#HC, HO, Hs, Hcr, ⟨Hc, Ht⟩, HX⟩
    iapply (Tri.use (tri_credit x w K ιs c d g.val h (by omega) n hl)) $$ [HO Hcr Hc]
    · isplitr; · iexact HC
      isplitl [HO]; · iexact HO
      isplitl [Hcr]; · iexact Hcr
      iexact Hc
    iintro %_ ⟨HO, Hcr, Hr⟩
    iapply (Tri.use_last fin') $$ [HO Hs Hr Ht HX]
    · isplitr; · iexact HC
      isplitl [HO]; · iexact HO
      isplitl [Hs]; · iexact Hs
      isplitl [Hr]; · iexact Hr
      isplitl [Ht]; · iexact Ht
      iexact HX
    iintro %_ ⟨HO, H1, HP⟩
    isplitl [HO]; · iexact HO
    isplitl [Hcr]; · iexact Hcr
    isplitl [H1]; · iexact H1
    iexact HP
  · rw [if_neg h, if_neg (fun h' => h h'.1), show g.val + 1 - 2 = g.val - 2 by omega]
    iintro ⟨#HC, HO, Hs, Hcr, ⟨Hr, Ht⟩, HX⟩
    iapply (Tri.use_last fin') $$ [HO Hs Hr Ht HX]
    · isplitr; · iexact HC
      isplitl [HO]; · iexact HO
      isplitl [Hs]; · iexact Hs
      isplitl [Hr]; · iexact Hr
      isplitl [Ht]; · iexact Ht
      iexact HX
    iintro %_ ⟨HO, H1, HP⟩
    isplitl [HO]; · iexact HO
    isplitl [Hcr]; · iexact Hcr
    isplitl [H1]; · iexact H1
    iexact HP

theorem tri_send1 (c : Dev nD) (d : Fin 2) (g : Fin 12) (n : ℕ) (hit : allItems[n]? = some (.rc d g 1)) :
    Tri c iprop(Ctx x w K ιs ∗ owesN c n ∗ owns (c : Thread nD τ) (slotHS sdM d (slot g.val) 1) fullShare (SndG x w d g 1 c)
        ∗ anyOf (tgtD d c) (slotHS rvM d (slot g.val) 1) ∗ XTok c d g 1)
      (sendHop c d g 1) (fun _ => iprop(owesN c (n + 1) ∗ Pend c d g 1)) := by
  have fin := tri_xfer x w K ιs c d g 1 n hit
  unfold sendHop
  rw [if_neg (fun h => absurd h.2 (by decide))]
  exact fin

end Cert.Ring

end
-- ==== Proof.Ring.Compute.lean ====
/-
The products, and what a device does with a half that comes in.
-/
module

public import proofs.«01_k».proof.Proof.Ring.Hops

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (x : Dev nD → S4096x1024.Idx → Elt F .f32) (w : Dev nD → S1024x8192.Idx → Elt F .f32)
  (K : Dev nD × Kind → ℕ) (ιs : Key → ℕ)

/-! ## Products -/

/-- Load a part of a piece that is owned. -/
theorem tri_load_part (c : Dev nD) {s : Shape} {e : EltTy} (M : Memref sig .tc .vmem s e) (r : Rect s) (hl : M.view.LoadsAt r.toLoadRect)
    (q : PosShare TreeShare) (X : s.Idx → Elt F e) :
    Tri c (owns (c : Thread nD τ) M q X) (lift (.load M r.toLoadRect hl))
      (fun v => iprop(⌜v = fun j => X (r.emb j)⌝ ∗ owns (c : Thread nD τ) M q X)) := by
  unfold Tri owns WP
  iintro ⟨%f, %hf, H⟩
  iapply (wp_load_rect 𝒱₀ (c : Thread nD τ) none Set.univ (m := M) (r := r) (S := M.view.set) (View.set_slice_subset M.view r)) $$ H
  iintro H
  rw [wp_ret]; imodintro
  isplitr
  · ipureintro
    subst hf
    rfl
  iexists f
  isplitr; · ipureintro; exact hf
  iexact H

theorem tri_loadRows (c : Dev nD) (d : Fin 2) (h : Fin 4) :
    Tri c (owns (c : Thread nD τ) xM fullShare (x c)) (loadRows (F := F) c d h)
      (fun v => iprop(⌜v = Xr x c d h⌝ ∗ owns (c : Thread nD τ) xM fullShare (x c))) := by
  obtain rfl | rfl : d = 0 ∨ d = 1 := by omega
  · exact tri_load_part c xM (rowR c 0 h) _ fullShare (x c)
  · exact tri_load_part c xM (rowR c 1 h) _ fullShare (x c)

/-- What is read and kept: the rows and a lane of the weights. -/
def In (c : Dev nD) (d : Fin 2) (p : Fin 4) : sProp 𝕄 :=
  iprop(owns (c : Thread nD τ) xM fullShare (x c) ∗ owns (c : Thread nD τ) (laneS wvM d) fullShare (Wc w c d p))

theorem tri_firstStep (c : Dev nD) (d : Fin 2) (p : Fin 4) (s : Fin 2) :
    Tri c iprop(In x w c d p ∗ slotAny c sdM d s) (firstStep c d s)
      (fun _ => iprop(In x w c d p ∗ owns (c : Thread nD τ) (slotHS sdM d s 0) fullShare (Snd x w d p 0 0 c)
        ∗ owns (c : Thread nD τ) (slotHS sdM d s 1) fullShare (Snd x w d p 1 0 c))) := by
  unfold Tri firstStep In
  iintro ⟨⟨Hx, Hw⟩, Hs⟩
  ihave Hs := (show (slotAny c sdM d s : sProp 𝕄) ⊢ iprop(∃ X, owns (c : Thread nD τ) (slotS sdM d s) fullShare X) from slot_join c sdM d s) $$ Hs
  icases Hs with ⟨%X, Hs⟩
  iapply (Tri.use (tri_loadRows x c d 0)) $$ Hx
  iintro %xv ⟨%hx, Hx⟩
  subst hx
  iapply (Tri.use (tri_load c wvM (laneR d) (fun _ => rfl) (View.loadsAt_vmem h_S1x1024x1024) fullShare (Wc w c d p))) $$ Hw
  iintro %wv ⟨%hw, Hw⟩
  subst hw
  iapply (Tri.use (tri_load c sdM (slotR d s) (fun _ => rfl) (View.loadsAt_vmem h_S1x1x1024x1024) fullShare X)) $$ Hs
  iintro %sv ⟨-, Hs⟩
  iapply (Tri.use_last (tri_store c sdM (slotR d s) (fun _ => rfl) (firstVal (Xr x c d 0) (Wc w c d p))
    (View.stores_vmem h_S1x1x1024x1024 ((Memref.isWhole_whole cc0_scratch2).storeExact_slice rfl _ (slot_packed d s)) (fun _ => rfl)) (.inl rfl) X)) $$ Hs
  iintro %_ Hs
  isplitl [Hx Hw]
  · isplitl [Hx]; · iexact Hx
    iexact Hw
  iapply (slot_split c sdM d s (firstVal (Xr x c d 0) (Wc w c d p))) $$ Hs

theorem tri_accStep (c : Dev nD) (d : Fin 2) (p h : Fin 4) :
    Tri c iprop(In x w c d p ∗ anyOf c (laneS acM d)) (accStep c d h)
      (fun _ => iprop(In x w c d p ∗ owns (c : Thread nD τ) (laneS acM d) fullShare (Ac x w c d p h))) := by
  unfold Tri accStep In anyOf
  iintro ⟨⟨Hx, Hw⟩, ⟨%X, Hs⟩⟩
  iapply (Tri.use (tri_loadRows x c d h)) $$ Hx
  iintro %xv ⟨%hx, Hx⟩
  subst hx
  iapply (Tri.use (tri_load c wvM (laneR d) (fun _ => rfl) (View.loadsAt_vmem h_S1x1024x1024) fullShare (Wc w c d p))) $$ Hw
  iintro %wv ⟨%hw, Hw⟩
  subst hw
  iapply (Tri.use (tri_load c acM (laneR d) (fun _ => rfl) (View.loadsAt_vmem h_S1x1024x1024) fullShare X)) $$ Hs
  iintro %sv ⟨-, Hs⟩
  iapply (Tri.use_last (tri_store c acM (laneR d) (fun _ => rfl) (accVal (Xr x c d h) (Wc w c d p))
    (View.stores_vmem_bits_univ h_S1x1024x1024 rfl) (.inl rfl) X)) $$ Hs
  iintro %_ Hs
  isplitl [Hx Hw]
  · isplitl [Hx]; · iexact Hx
    iexact Hw
  iexact Hs

/-! ## Taking a half in -/

/-- What taking a half in needs. -/
def RTok (c : Dev nD) (d : Fin 2) (g : Fin 12) (b : Fin 2) : sProp 𝕄 :=
  iprop(atPos ER (cell c (.rcv d g b)) 0 ∅ 0 ∗ cred (tallyAt (cell c (.rcv d g b)) 0 NH))

theorem SndG_hop (d : Fin 2) (p : Fin 4) (j : Fin 3) (b : Fin 2) (c : Dev nD) : SndG x w d (hopOf p j) b c = Snd x w d p b j.val c := by
  have h1 : (⟨(hopOf p j).val / 3, by have := (hopOf p j).isLt; omega⟩ : Fin 4) = p := Fin.ext (by show (3 * p.val + j.val) / 3 = p.val; omega)
  have h2 : (hopOf p j).val % 3 = j.val := by show (3 * p.val + j.val) % 3 = j.val; omega
  unfold SndG
  rw [h1, h2]

/-- The last hop's index. -/
theorem tri_addStep (c : Dev nD) (d : Fin 2) (p : Fin 4) (j : Fin 2) (b : Fin 2) (n : ℕ)
    (hl : ∀ it ∈ allItems.drop n, 2 * (hopOf p j.castSucc).val + 2 < it.lvl) :
    Tri c iprop(Ctx x w K ιs ∗ owesN c n ∗ RTok c d (hopOf p j.castSucc) b
        ∗ owns (c : Thread nD τ) (laneS acM d) fullShare (Ac x w c d p j.succ.castSucc) ∗ anyOf c (slotHS sdM d (slot (hopOf p j.succ).val) b))
      (addStep d (hopOf p j.castSucc) (hopOf p j.succ) b)
      (fun _ => iprop(owesN c n ∗ semVal (cell c (.rcv d (hopOf p j.castSucc) b)) 0
        ∗ owns (c : Thread nD τ) (laneS acM d) fullShare (Ac x w c d p j.succ.castSucc)
        ∗ anyOf c (slotHS rvM d (slot (hopOf p j.castSucc).val) b)
        ∗ owns (c : Thread nD τ) (slotHS sdM d (slot (hopOf p j.succ).val) b) fullShare (SndG x w d (hopOf p j.succ) b c))) := by
  have hv : SndG x w d (hopOf p j.succ) b c = addVal (halfOf (Ac x w c d p j.succ.castSucc) b) (SndG x w d (hopOf p j.castSucc) b (srcD d c)) := by
    rw [SndG_hop, SndG_hop]
    show addVal (halfOf (Ac x w c d p ⟨(j.val + 1) % 4, _⟩) b) (Snd x w d p b j.val (srcD d c)) = _
    rw [show (⟨(j.val + 1) % 4, Nat.mod_lt _ (by decide)⟩ : Fin 4) = j.succ.castSucc from Fin.ext (by show (j.val + 1) % 4 = j.val + 1; omega)]
    rfl
  rw [hv]
  conv in anyOf c (slotHS sdM d _ b) => unfold anyOf
  unfold Tri addStep RTok
  iintro ⟨#HC, HO, ⟨Hat, Hc⟩, Ha, ⟨%X, Hs⟩⟩
  iapply (Tri.use (tri_waitRecv x w K ιs c d (hopOf p j.castSucc) b n hl)) $$ [HO Hat Hc]
  · isplitr; · iexact HC
    isplitl [HO]; · iexact HO
    isplitl [Hat]; · iexact Hat
    iexact Hc
  iintro %_ ⟨HO, HV, Hr⟩
  iapply (Tri.use (tri_load_half c acM d b (View.loadsAt_vmem h_S1x512x1024) (Ac x w c d p j.succ.castSucc))) $$ Ha
  iintro %av ⟨%ha, Ha⟩
  subst ha
  iapply (Tri.use (tri_load c rvM (halfR d (slot (hopOf p j.castSucc).val) b) (fun _ => rfl) (View.loadsAt_vmem h_S1x1x512x1024) fullShare (SndG x w d (hopOf p j.castSucc) b (srcD d c)))) $$ Hr
  iintro %rv ⟨%hr, Hr⟩
  subst hr
  iapply (Tri.use (tri_load c sdM (halfR d (slot (hopOf p j.succ).val) b) (fun _ => rfl) (View.loadsAt_vmem h_S1x1x512x1024) fullShare X)) $$ Hs
  iintro %sv ⟨-, Hs⟩
  iapply (Tri.use_last (tri_store c sdM (halfR d (slot (hopOf p j.succ).val) b) (fun _ => rfl)
    (addVal (halfOf (Ac x w c d p j.succ.castSucc) b) (SndG x w d (hopOf p j.castSucc) b (srcD d c)))
    (View.stores_vmem h_S1x1x512x1024 ((Memref.isWhole_whole cc0_scratch2).storeExact_slice rfl _ (half_packed d _ b)) (fun _ => rfl)) (.inl rfl) X)) $$ Hs
  iintro %_ Hs
  isplitl [HO]; · iexact HO
  isplitl [HV]; · iexact HV
  isplitl [Ha]; · iexact Ha
  isplitl [Hr]; · iapply (anyOf_intro c _ _) $$ Hr
  iexact Hs

theorem tri_lastStep (c : Dev nD) (d : Fin 2) (p : Fin 4) (b : Fin 2) (m : F .f32) (n : ℕ)
    (hl : ∀ it ∈ allItems.drop n, 2 * (hopOf p 2).val + 2 < it.lvl) :
    Tri c iprop(Ctx x w K ιs ∗ owesN c n ∗ RTok c d (hopOf p 2) b
        ∗ owns (c : Thread nD τ) (laneS acM d) fullShare (Ac x w c d p 3) ∗ anyOf c (laneHS yM d b))
      (lastStep d (hopOf p 2) b m)
      (fun m' => iprop(⌜m' = mHalf x w c p d b m⌝ ∗ owesN c n ∗ semVal (cell c (.rcv d (hopOf p 2) b)) 0
        ∗ owns (c : Thread nD τ) (laneS acM d) fullShare (Ac x w c d p 3)
        ∗ anyOf c (slotHS rvM d (slot (hopOf p 2).val) b)
        ∗ owns (c : Thread nD τ) (laneHS yM d b) fullShare (Yh x w c d p b))) := by
  have hv : SndG x w d (hopOf p 2) b (srcD d c) = Snd x w d p b 2 (srcD d c) := SndG_hop x w d p 2 b _
  conv in anyOf c (laneHS yM d b) => unfold anyOf
  unfold Tri lastStep RTok
  iintro ⟨#HC, HO, ⟨Hat, Hc⟩, Ha, ⟨%X, Hs⟩⟩
  iapply (Tri.use (tri_waitRecv x w K ιs c d (hopOf p 2) b n hl)) $$ [HO Hat Hc]
  · isplitr; · iexact HC
    isplitl [HO]; · iexact HO
    isplitl [Hat]; · iexact Hat
    iexact Hc
  iintro %_ ⟨HO, HV, Hr⟩
  rw [hv]
  iapply (Tri.use (tri_load_half c acM d b (View.loadsAt_vmem h_S1x512x1024) (Ac x w c d p 3))) $$ Ha
  iintro %av ⟨%ha, Ha⟩
  subst ha
  iapply (Tri.use (tri_load c rvM (halfR d (slot (hopOf p 2).val) b) (fun _ => rfl) (View.loadsAt_vmem h_S1x1x512x1024) fullShare (Snd x w d p b 2 (srcD d c)))) $$ Hr
  iintro %rv ⟨%hr, Hr⟩
  subst hr
  iapply (Tri.use (tri_load c yM (laneHalfR d b) (fun _ => rfl) (View.loadsAt_vmem h_S1x512x1024) fullShare X)) $$ Hs
  iintro %sv ⟨-, Hs⟩
  iapply (Tri.use (tri_store c yM (laneHalfR d b) (fun _ => rfl) (Yh x w c d p b)
    (View.stores_vmem_bits_univ h_S1x512x1024 rfl) (.inl rfl) X)) $$ Hs
  iintro %_ Hs
  unfold WP
  rw [Prog.pure_eq_ret, wp_ret]
  imodintro
  isplitr; · ipureintro; rfl
  isplitl [HO]; · iexact HO
  isplitl [HV]; · iexact HV
  isplitl [Ha]; · iexact Ha
  isplitl [Hr]; · iapply (anyOf_intro c _ _) $$ Hr
  iexact Hs

end Cert.Ring

end
-- ==== Proof.Ring.Panel.lean ====
/-
The hops of a panel, both lanes at once.
-/
module

public import proofs.«01_k».proof.Proof.Ring.Compute

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (x : Dev nD → S4096x1024.Idx → Elt F .f32) (w : Dev nD → S1024x8192.Idx → Elt F .f32)
  (K : Dev nD × Kind → ℕ) (ιs : Key → ℕ)

/-! ## A panel's hops -/

/-- A lane before hop `g` is sent. -/
def S0 (c : Dev nD) (d : Fin 2) (g : ℕ) : sProp 𝕄 :=
  iprop(Free c d g ∗ Free c d (g + 1) ∗ CrSt c d (g - 2) ∗ Rds c d g ∗ Fact c d g)
/-- A lane once hop `g` has been sent, before it is taken in. -/
def S1 (c : Dev nD) (d : Fin 2) (g : ℕ) : sProp 𝕄 :=
  iprop(Free c d (g + 1) ∗ Free c d (g + 2) ∗ CrSt c d (g + 1 - 2) ∗ Rds c d g ∗ Fact c d g)
/-- What sending a hop needs, -/
def STok (c : Dev nD) (d : Fin 2) (g : Fin 12) : sProp 𝕄 := iprop(GTok c d g ∗ XTok c d g 0 ∗ XTok c d g 1)
/-- and taking one in. -/
def RTk (c : Dev nD) (d : Fin 2) (g : Fin 12) : sProp 𝕄 :=
  iprop(RTok c d g 0 ∗ RTok c d g 1 ∗ dutyTok ER (cell (srcD d c) (.cr d)) 0 g.val)
def RDone (c : Dev nD) (d : Fin 2) (g : Fin 12) : sProp 𝕄 := iprop(semVal (cell c (.rcv d g 0)) 0 ∗ semVal (cell c (.rcv d g 1)) 0)

theorem Free_pend (c : Dev nD) (d : Fin 2) (g : Fin 12) : iprop(Pend c d g 0 ∗ Pend c d g 1) ⊢ (Free c d (g.val + 2) : sProp 𝕄) := by
  unfold Free
  rw [dif_pos ⟨by omega, by omega⟩]
  exact BI.Entails.refl _

theorem slotAny_mk (c : Dev nD) (M : Memref sig .tc .vmem S2x2x1024x1024 .bf16) (d s : Fin 2) :
    iprop(anyOf c (slotHS M d s 0) ∗ anyOf c (slotHS M d s 1)) ⊢ (slotAny c M d s : sProp 𝕄) := BI.Entails.refl _

/-- The two lanes' weights and products' buffers. -/
def Bufs (c : Dev nD) (p : Fin 4) : sProp 𝕄 :=
  iprop(owns (c : Thread nD τ) xM fullShare (x c)
    ∗ (owns (c : Thread nD τ) (laneS wvM 0) fullShare (Wc w c 0 p) ∗ anyOf c (laneS acM 0))
    ∗ owns (c : Thread nD τ) (laneS wvM 1) fullShare (Wc w c 1 p) ∗ anyOf c (laneS acM 1))

theorem tri_midHop (c : Dev nD) (p : Fin 4) (j : Fin 2) :
    Tri c iprop(Ctx x w K ιs ∗ owesN c (6 + 18 * p.val + 6 * j.val) ∗ Bufs x w c p
        ∗ (S1 c 0 (hopOf p j.castSucc).val ∗ STok c 0 (hopOf p j.succ) ∗ RTk c 0 (hopOf p j.castSucc))
        ∗ (S1 c 1 (hopOf p j.castSucc).val ∗ STok c 1 (hopOf p j.succ) ∗ RTk c 1 (hopOf p j.castSucc)))
      (midHop c p j)
      (fun _ => iprop(owesN c (12 + 18 * p.val + 6 * j.val) ∗ Bufs x w c p
        ∗ (S1 c 0 (hopOf p j.succ).val ∗ SVs c 0 (hopOf p j.succ).val ∗ RDone c 0 (hopOf p j.castSucc))
        ∗ (S1 c 1 (hopOf p j.succ).val ∗ SVs c 1 (hopOf p j.succ).val ∗ RDone c 1 (hopOf p j.castSucc)))) := by
  have e (d : Fin 2) : (S1 c d (hopOf p j.castSucc).val : sProp 𝕄) = iprop(Free c d (hopOf p j.succ).val ∗ Free c d ((hopOf p j.succ).val + 1)
      ∗ CrSt c d ((hopOf p j.succ).val - 2) ∗ Rds c d (hopOf p j.castSucc).val ∗ Fact c d (hopOf p j.castSucc).val) := rfl
  have acc (d : Fin 2) := tri_accStep x w c d p j.succ.castSucc
  have free (d : Fin 2) := tri_freeSlot x w K ιs c d (hopOf p j.succ).val (by omega) (6 + 18 * p.val + 6 * j.val)
  have add00 := tri_addStep x w K ιs c 0 p j 0 (6 + 18 * p.val + 6 * j.val) (by clear acc free e; revert p j; decide)
  have add10 := tri_addStep x w K ιs c 1 p j 0 (6 + 18 * p.val + 6 * j.val + 1) (by clear acc free e add00; revert p j; decide)
  have add01 := tri_addStep x w K ιs c 0 p j 1 (6 + 18 * p.val + 6 * j.val + 2) (by clear acc free e add00 add10; revert p j; decide)
  have add11 := tri_addStep x w K ιs c 1 p j 1 (6 + 18 * p.val + 6 * j.val + 3) (by clear acc free e add00 add10 add01; revert p j; decide)
  have snd00 := tri_send0 x w K ιs c 0 (hopOf p j.succ) (6 + 18 * p.val + 6 * j.val) (by clear acc free e add00 add10 add01 add11; revert p j; decide)
    (by clear acc free e add00 add10 add01 add11; revert p j; decide)
  have snd10 := tri_send0 x w K ιs c 1 (hopOf p j.succ) (6 + 18 * p.val + 6 * j.val + 1) (by clear acc free e add00 add10 add01 add11 snd00; revert p j; decide)
    (by clear acc free e add00 add10 add01 add11 snd00; revert p j; decide)
  have snd01 := tri_send1 x w K ιs c 0 (hopOf p j.succ) (6 + 18 * p.val + 6 * j.val + 2) (by clear acc free e add00 add10 add01 add11 snd00 snd10; revert p j; decide)
  have snd11 := tri_send1 x w K ιs c 1 (hopOf p j.succ) (6 + 18 * p.val + 6 * j.val + 3) (by clear acc free e add00 add10 add01 add11 snd00 snd10 snd01; revert p j; decide)
  have cr0 := tri_giveCredit x w K ιs c 0 (hopOf p j.castSucc) (6 + 18 * p.val + 6 * j.val + 4) (by clear acc free e add00 add10 add01 add11 snd00 snd10 snd01 snd11; revert p j; decide)
  have cr1 := tri_giveCredit x w K ιs c 1 (hopOf p j.castSucc) (6 + 18 * p.val + 6 * j.val + 5) (by clear acc free e add00 add10 add01 add11 snd00 snd10 snd01 snd11 cr0; revert p j; decide)
  rw [show 12 + 18 * p.val + 6 * j.val = 6 + 18 * p.val + 6 * j.val + 5 + 1 by omega]
  rw [e 0, e 1]
  unfold Tri midHop Bufs STok RTk RDone
  unfold In at acc
  iintro ⟨#HC, HO, ⟨Hx, ⟨Hw0, Ha0⟩, Hw1, Ha1⟩, ⟨⟨Hf0, Hn0, Hcr0, Hrd0, Hft0⟩, ⟨Hg0, Hx00, Hx01⟩, Hr00, Hr01, Hd0⟩, ⟨Hf1, Hn1, Hcr1, Hrd1, Hft1⟩, ⟨Hg1, Hx10, Hx11⟩, Hr10, Hr11, Hd1⟩
  iapply (Tri.use (acc 0)) $$ [Hx Hw0 Ha0]
  · isplitl [Hx Hw0]
    · isplitl [Hx]; · iexact Hx
      iexact Hw0
    iexact Ha0
  iintro %_ ⟨⟨Hx, Hw0⟩, Ha0⟩
  iapply (Tri.use (acc 1)) $$ [Hx Hw1 Ha1]
  · isplitl [Hx Hw1]
    · isplitl [Hx]; · iexact Hx
      iexact Hw1
    iexact Ha1
  iintro %_ ⟨⟨Hx, Hw1⟩, Ha1⟩
  iapply (Tri.use (free 0)) $$ [HO Hf0]
  · isplitr; · iexact HC
    isplitl [HO]; · iexact HO
    iexact Hf0
  iintro %_ ⟨HO, Hsv0, Hs0⟩
  iapply (Tri.use (free 1)) $$ [HO Hf1]
  · isplitr; · iexact HC
    isplitl [HO]; · iexact HO
    iexact Hf1
  iintro %_ ⟨HO, Hsv1, Hs1⟩
  unfold slotAny
  icases Hs0 with ⟨Hs00, Hs01⟩
  icases Hs1 with ⟨Hs10, Hs11⟩
  iapply (Tri.use (add00)) $$ [HO Hr00 Ha0 Hs00]
  · isplitr; · iexact HC
    isplitl [HO]; · iexact HO
    isplitl [Hr00]; · iexact Hr00
    isplitl [Ha0]; · iexact Ha0
    iexact Hs00
  iintro %_ ⟨HO, Hv00, Ha0, Hq00, Hs00⟩
  iapply (Tri.use (snd00)) $$ [HO Hs00 Hcr0 Hg0 Hx00]
  · isplitr; · iexact HC
    isplitl [HO]; · iexact HO
    isplitl [Hs00]; · iexact Hs00
    isplitl [Hcr0]; · iexact Hcr0
    isplitl [Hg0]; · iexact Hg0
    iexact Hx00
  iintro %_ ⟨HO, Hcr0, Ht0, Hp00⟩
  iapply (Tri.use (add10)) $$ [HO Hr10 Ha1 Hs10]
  · isplitr; · iexact HC
    isplitl [HO]; · iexact HO
    isplitl [Hr10]; · iexact Hr10
    isplitl [Ha1]; · iexact Ha1
    iexact Hs10
  iintro %_ ⟨HO, Hv10, Ha1, Hq10, Hs10⟩
  iapply (Tri.use (snd10)) $$ [HO Hs10 Hcr1 Hg1 Hx10]
  · isplitr; · iexact HC
    isplitl [HO]; · iexact HO
    isplitl [Hs10]; · iexact Hs10
    isplitl [Hcr1]; · iexact Hcr1
    isplitl [Hg1]; · iexact Hg1
    iexact Hx10
  iintro %_ ⟨HO, Hcr1, Ht1, Hp10⟩
  iapply (Tri.use (add01)) $$ [HO Hr01 Ha0 Hs01]
  · isplitr; · iexact HC
    isplitl [HO]; · iexact HO
    isplitl [Hr01]; · iexact Hr01
    isplitl [Ha0]; · iexact Ha0
    iexact Hs01
  iintro %_ ⟨HO, Hv01, Ha0, Hq01, Hs01⟩
  iapply (Tri.use (snd01)) $$ [HO Hs01 Ht0 Hx01]
  · isplitr; · iexact HC
    isplitl [HO]; · iexact HO
    isplitl [Hs01]; · iexact Hs01
    isplitl [Ht0]; · iexact Ht0
    iexact Hx01
  iintro %_ ⟨HO, Hp01⟩
  iapply (Tri.use (add11)) $$ [HO Hr11 Ha1 Hs11]
  · isplitr; · iexact HC
    isplitl [HO]; · iexact HO
    isplitl [Hr11]; · iexact Hr11
    isplitl [Ha1]; · iexact Ha1
    iexact Hs11
  iintro %_ ⟨HO, Hv11, Ha1, Hq11, Hs11⟩
  iapply (Tri.use (snd11)) $$ [HO Hs11 Ht1 Hx11]
  · isplitr; · iexact HC
    isplitl [HO]; · iexact HO
    isplitl [Hs11]; · iexact Hs11
    isplitl [Ht1]; · iexact Ht1
    iexact Hx11
  iintro %_ ⟨HO, Hp11⟩
  ihave Hq0 := (slotAny_mk c rvM 0 (slot (hopOf p j.castSucc).val)) $$ [Hq00 Hq01]
  · isplitl [Hq00]; · iexact Hq00
    iexact Hq01
  ihave Hq1 := (slotAny_mk c rvM 1 (slot (hopOf p j.castSucc).val)) $$ [Hq10 Hq11]
  · isplitl [Hq10]; · iexact Hq10
    iexact Hq11
  iapply (Tri.use (cr0)) $$ [HO Hrd0 Hft0 Hq0 Hd0]
  · isplitr; · iexact HC
    isplitl [HO]; · iexact HO
    isplitl [Hrd0]; · iexact Hrd0
    isplitl [Hft0]; · iexact Hft0
    isplitl [Hq0]; · iexact Hq0
    iexact Hd0
  iintro %_ ⟨HO, Hrd0, Hft0⟩
  iapply (Tri.use_last (cr1)) $$ [HO Hrd1 Hft1 Hq1 Hd1]
  · isplitr; · iexact HC
    isplitl [HO]; · iexact HO
    isplitl [Hrd1]; · iexact Hrd1
    isplitl [Hft1]; · iexact Hft1
    isplitl [Hq1]; · iexact Hq1
    iexact Hd1
  iintro %_ ⟨HO, Hrd1, Hft1⟩
  ihave Hp0 := (Free_pend c 0 (hopOf p j.succ)) $$ [Hp00 Hp01]
  · isplitl [Hp00]; · iexact Hp00
    iexact Hp01
  ihave Hp1 := (Free_pend c 1 (hopOf p j.succ)) $$ [Hp10 Hp11]
  · isplitl [Hp10]; · iexact Hp10
    iexact Hp11
  ihave Ha0 := (anyOf_intro c _ _) $$ Ha0
  ihave Ha1 := (anyOf_intro c _ _) $$ Ha1
  unfold S1
  isplitl [HO]; · iexact HO
  isplitl [Hx Hw0 Ha0 Hw1 Ha1]
  · isplitl [Hx]; · iexact Hx
    isplitl [Hw0 Ha0]
    · isplitl [Hw0]; · iexact Hw0
      iexact Ha0
    isplitl [Hw1]; · iexact Hw1
    iexact Ha1
  isplitl [Hn0 Hp0 Hcr0 Hrd0 Hft0 Hsv0 Hv00 Hv01]
  · isplitl [Hn0 Hp0 Hcr0 Hrd0 Hft0]
    · isplitl [Hn0]; · iexact Hn0
      isplitl [Hp0]; · iexact Hp0
      isplitl [Hcr0]; · iexact Hcr0
      isplitl [Hrd0]; · iexact Hrd0
      iexact Hft0
    isplitl [Hsv0]; · iexact Hsv0
    isplitl [Hv00]; · iexact Hv00
    iexact Hv01
  isplitl [Hn1 Hp1 Hcr1 Hrd1 Hft1]
  · isplitl [Hn1]; · iexact Hn1
    isplitl [Hp1]; · iexact Hp1
    isplitl [Hcr1]; · iexact Hcr1
    isplitl [Hrd1]; · iexact Hrd1
    iexact Hft1
  isplitl [Hsv1]; · iexact Hsv1
  isplitl [Hv10]; · iexact Hv10
  iexact Hv11

/-- Lane `d`'s columns of the weights in panel `p`. -/
def WTile (c : Dev nD) (d : Fin 2) (p : Fin 4) : sProp 𝕄 :=
  owns (c : Thread nD τ) (colOf wM (colIx d p)) fullShare fun j => w c ((colR (colIx d p)).emb j)

theorem tri_copyW (c : Dev nD) (d : Fin 2) (p : Fin 4) :
    Tri c iprop(WTile w c d p ∗ anyOf c (laneS wvM d) ∗ semVal ((c : Thread nD τ), SemLoc.dma (wS d)) 0) (copyIn wM (colIx d p) wvM d (wS d))
      (fun _ => Flight EC (c : Thread nD τ) (.dma (wS d)) 0 NT iprop(owns (c : Thread nD τ) (laneS wvM d) fullShare (Wc w c d p) ∗ WTile w c d p)) :=
  tri_copyIn c wM (colIx d p) wvM d (wS d) fullShare _

theorem wS_none (d : Fin 2) : kindOf (.dma (wS d)) = none := by revert d; decide
theorem yS_none (d : Fin 2) : kindOf (.dma (yS d)) = none := by revert d; decide

theorem tri_firstHop (c : Dev nD) (p : Fin 4) :
    Tri c iprop(Ctx x w K ιs ∗ owesN c (2 + 18 * p.val) ∗ owns (c : Thread nD τ) xM fullShare (x c)
        ∗ (WTile w c 0 p ∗ anyOf c (laneS wvM 0) ∗ semVal ((c : Thread nD τ), SemLoc.dma (wS 0)) 0 ∗ S0 c 0 (hopOf p 0).val ∗ STok c 0 (hopOf p 0))
        ∗ (WTile w c 1 p ∗ anyOf c (laneS wvM 1) ∗ semVal ((c : Thread nD τ), SemLoc.dma (wS 1)) 0 ∗ S0 c 1 (hopOf p 0).val ∗ STok c 1 (hopOf p 0)))
      (firstHop c p)
      (fun _ => iprop(owesN c (6 + 18 * p.val) ∗ owns (c : Thread nD τ) xM fullShare (x c)
        ∗ (WTile w c 0 p ∗ owns (c : Thread nD τ) (laneS wvM 0) fullShare (Wc w c 0 p) ∗ semVal ((c : Thread nD τ), SemLoc.dma (wS 0)) 0 ∗ S1 c 0 (hopOf p 0).val ∗ SVs c 0 (hopOf p 0).val)
        ∗ (WTile w c 1 p ∗ owns (c : Thread nD τ) (laneS wvM 1) fullShare (Wc w c 1 p) ∗ semVal ((c : Thread nD τ), SemLoc.dma (wS 1)) 0 ∗ S1 c 1 (hopOf p 0).val ∗ SVs c 1 (hopOf p 0).val))) := by
  have cp (d : Fin 2) := tri_copyW w c d p
  have wt (d : Fin 2) := tri_waitLocal x w K ιs c (wS d) (src := colOf wM (colIx d p)) (dst := laneOf wvM d) (hsrc := colOf_exact _ _) (hdst := laneOf_exact _ _) rfl (wS_none d) (2 + 18 * p.val)
    iprop(owns (c : Thread nD τ) (laneS wvM d) fullShare (Wc w c d p) ∗ WTile w c d p)
  have fst (d : Fin 2) := tri_firstStep x w c d p (slot (hopOf p 0).val)
  have free (d : Fin 2) := tri_freeSlot x w K ιs c d (hopOf p 0).val (by omega) (2 + 18 * p.val)
  have snd00 := tri_send0 x w K ιs c 0 (hopOf p 0) (2 + 18 * p.val) (by clear cp wt fst free; revert p; decide) (by clear cp wt fst free; revert p; decide)
  have snd10 := tri_send0 x w K ιs c 1 (hopOf p 0) (2 + 18 * p.val + 1) (by clear cp wt fst free snd00; revert p; decide) (by clear cp wt fst free snd00; revert p; decide)
  have snd01 := tri_send1 x w K ιs c 0 (hopOf p 0) (2 + 18 * p.val + 2) (by clear cp wt fst free snd00 snd10; revert p; decide)
  have snd11 := tri_send1 x w K ιs c 1 (hopOf p 0) (2 + 18 * p.val + 3) (by clear cp wt fst free snd00 snd10 snd01; revert p; decide)
  have hv (d b : Fin 2) : SndG x w d (hopOf p 0) b c = Snd x w d p b 0 c := SndG_hop x w d p 0 b c
  rw [hv] at snd00 snd10 snd01 snd11
  rw [show 6 + 18 * p.val = 2 + 18 * p.val + 3 + 1 by omega]
  unfold Tri firstHop STok S0
  unfold In at fst
  iintro ⟨#HC, HO, Hx, ⟨Ht0, Hw0, Hv0, ⟨Hf0, Hn0, Hcr0, Hrd0, Hft0⟩, Hg0, Hx00, Hx01⟩, Ht1, Hw1, Hv1, ⟨Hf1, Hn1, Hcr1, Hrd1, Hft1⟩, Hg1, Hx10, Hx11⟩
  iapply (Tri.use (cp 0)) $$ [Ht0 Hw0 Hv0]
  · isplitl [Ht0]; · iexact Ht0
    isplitl [Hw0]; · iexact Hw0
    iexact Hv0
  iintro %_ Hw0
  iapply (Tri.use (cp 1)) $$ [Ht1 Hw1 Hv1]
  · isplitl [Ht1]; · iexact Ht1
    isplitl [Hw1]; · iexact Hw1
    iexact Hv1
  iintro %_ Hw1
  iapply (Tri.use (wt 0)) $$ [HO Hw0]
  · isplitr; · iexact HC
    isplitl [HO]; · iexact HO
    iexact Hw0
  iintro %_ ⟨HO, Hv0, Hw0, Ht0⟩
  iapply (Tri.use (free 0)) $$ [HO Hf0]
  · isplitr; · iexact HC
    isplitl [HO]; · iexact HO
    iexact Hf0
  iintro %_ ⟨HO, Hsv0, Hs0⟩
  iapply (Tri.use (fst 0)) $$ [Hx Hw0 Hs0]
  · isplitl [Hx Hw0]
    · isplitl [Hx]; · iexact Hx
      iexact Hw0
    iexact Hs0
  iintro %_ ⟨⟨Hx, Hw0⟩, Hs00, Hs01⟩
  iapply (Tri.use (wt 1)) $$ [HO Hw1]
  · isplitr; · iexact HC
    isplitl [HO]; · iexact HO
    iexact Hw1
  iintro %_ ⟨HO, Hv1, Hw1, Ht1⟩
  iapply (Tri.use (free 1)) $$ [HO Hf1]
  · isplitr; · iexact HC
    isplitl [HO]; · iexact HO
    iexact Hf1
  iintro %_ ⟨HO, Hsv1, Hs1⟩
  iapply (Tri.use (fst 1)) $$ [Hx Hw1 Hs1]
  · isplitl [Hx Hw1]
    · isplitl [Hx]; · iexact Hx
      iexact Hw1
    iexact Hs1
  iintro %_ ⟨⟨Hx, Hw1⟩, Hs10, Hs11⟩
  iapply (Tri.use (snd00)) $$ [HO Hs00 Hcr0 Hg0 Hx00]
  · isplitr; · iexact HC
    isplitl [HO]; · iexact HO
    isplitl [Hs00]; · iexact Hs00
    isplitl [Hcr0]; · iexact Hcr0
    isplitl [Hg0]; · iexact Hg0
    iexact Hx00
  iintro %_ ⟨HO, Hcr0, Ht0', Hp00⟩
  iapply (Tri.use (snd10)) $$ [HO Hs10 Hcr1 Hg1 Hx10]
  · isplitr; · iexact HC
    isplitl [HO]; · iexact HO
    isplitl [Hs10]; · iexact Hs10
    isplitl [Hcr1]; · iexact Hcr1
    isplitl [Hg1]; · iexact Hg1
    iexact Hx10
  iintro %_ ⟨HO, Hcr1, Ht1', Hp10⟩
  iapply (Tri.use (snd01)) $$ [HO Hs01 Ht0' Hx01]
  · isplitr; · iexact HC
    isplitl [HO]; · iexact HO
    isplitl [Hs01]; · iexact Hs01
    isplitl [Ht0']; · iexact Ht0'
    iexact Hx01
  iintro %_ ⟨HO, Hp01⟩
  iapply (Tri.use_last (snd11)) $$ [HO Hs11 Ht1' Hx11]
  · isplitr; · iexact HC
    isplitl [HO]; · iexact HO
    isplitl [Hs11]; · iexact Hs11
    isplitl [Ht1']; · iexact Ht1'
    iexact Hx11
  iintro %_ ⟨HO, Hp11⟩
  ihave Hp0 := (Free_pend c 0 (hopOf p 0)) $$ [Hp00 Hp01]
  · isplitl [Hp00]; · iexact Hp00
    iexact Hp01
  ihave Hp1 := (Free_pend c 1 (hopOf p 0)) $$ [Hp10 Hp11]
  · isplitl [Hp10]; · iexact Hp10
    iexact Hp11
  unfold S1
  isplitl [HO]; · iexact HO
  isplitl [Hx]; · iexact Hx
  isplitl [Ht0 Hw0 Hv0 Hn0 Hp0 Hcr0 Hrd0 Hft0 Hsv0]
  · isplitl [Ht0]; · iexact Ht0
    isplitl [Hw0]; · iexact Hw0
    isplitl [Hv0]; · iexact Hv0
    isplitl [Hn0 Hp0 Hcr0 Hrd0 Hft0]
    · isplitl [Hn0]; · iexact Hn0
      isplitl [Hp0]; · iexact Hp0
      isplitl [Hcr0]; · iexact Hcr0
      isplitl [Hrd0]; · iexact Hrd0
      iexact Hft0
    iexact Hsv0
  isplitl [Ht1]; · iexact Ht1
  isplitl [Hw1]; · iexact Hw1
  isplitl [Hv1]; · iexact Hv1
  isplitl [Hn1 Hp1 Hcr1 Hrd1 Hft1]
  · isplitl [Hn1]; · iexact Hn1
    isplitl [Hp1]; · iexact Hp1
    isplitl [Hcr1]; · iexact Hcr1
    isplitl [Hrd1]; · iexact Hrd1
    iexact Hft1
  iexact Hsv1

/-- Lane `d`'s finished sums before panel `n`: panel `n - 1`'s on their way out. -/
def YSt (c : Dev nD) (d : Fin 2) (n : ℕ) : sProp 𝕄 :=
  if h : 0 < n ∧ n < 5 then Flight EC (c : Thread nD τ) (.dma (yS d)) 0 NT
    iprop(owns (c : Thread nD τ) (colOf oM (colIx d ⟨n - 1, by omega⟩)) fullShare (Ytile x w c d ⟨n - 1, by omega⟩)
      ∗ owns (c : Thread nD τ) (laneS yM d) fullShare (Ylane x w c d ⟨n - 1, by omega⟩))
  else iprop(anyOf c (laneS yM d) ∗ semVal ((c : Thread nD τ), SemLoc.dma (yS d)) 0)
/-- Panel `n - 1`'s finished sums, written out. -/
def YDone (c : Dev nD) (d : Fin 2) (n : ℕ) : sProp 𝕄 :=
  if h : 0 < n ∧ n < 5 then owns (c : Thread nD τ) (colOf oM (colIx d ⟨n - 1, by omega⟩)) fullShare (Ytile x w c d ⟨n - 1, by omega⟩) else iprop(emp)

theorem YSt_succ (c : Dev nD) (d : Fin 2) (p : Fin 4) : (YSt x w c d (p.val + 1) : sProp 𝕄) = Flight EC (c : Thread nD τ) (.dma (yS d)) 0 NT
    iprop(owns (c : Thread nD τ) (colOf oM (colIx d p)) fullShare (Ytile x w c d p) ∗ owns (c : Thread nD τ) (laneS yM d) fullShare (Ylane x w c d p)) := by
  unfold YSt
  rw [dif_pos ⟨by omega, by omega⟩]
  rfl
theorem YDone_succ (c : Dev nD) (d : Fin 2) (p : Fin 4) : (YDone x w c d (p.val + 1) : sProp 𝕄) = owns (c : Thread nD τ) (colOf oM (colIx d p)) fullShare (Ytile x w c d p) := by
  unfold YDone
  rw [dif_pos ⟨by omega, by omega⟩]
  rfl

theorem tri_waitY (c : Dev nD) (d : Fin 2) (p : Fin 4) (n : ℕ) :
    Tri c iprop(Ctx x w K ιs ∗ owesN c n ∗ YSt x w c d (p.val + 1)) (waitOut yM d oM (colIx d p) (yS d))
      (fun _ => iprop(owesN c n ∗ semVal ((c : Thread nD τ), SemLoc.dma (yS d)) 0 ∗ YDone x w c d (p.val + 1) ∗ owns (c : Thread nD τ) (laneS yM d) fullShare (Ylane x w c d p))) := by
  rw [YSt_succ, YDone_succ]
  exact tri_waitLocal x w K ιs c (yS d) (src := laneOf yM d) (dst := colOf oM (colIx d p)) (hsrc := laneOf_exact _ _) (hdst := colOf_exact _ _) rfl (yS_none d) n _

theorem tri_freeY (c : Dev nD) (d : Fin 2) (p : Fin 4) (n : ℕ) :
    Tri c iprop(Ctx x w K ιs ∗ owesN c n ∗ YSt x w c d p.val) (freeY d p)
      (fun _ => iprop(owesN c n ∗ semVal ((c : Thread nD τ), SemLoc.dma (yS d)) 0 ∗ YDone x w c d p.val ∗ anyOf c (laneS yM d))) := by
  unfold freeY
  by_cases h : 0 < p.val
  · rw [dif_pos h]
    have hw := tri_waitY x w K ιs c d ⟨p.val - 1, by omega⟩ n
    rw [show (⟨p.val - 1, by omega⟩ : Fin 4).val + 1 = p.val from Nat.sub_add_cancel h] at hw
    unfold Tri
    iintro H
    iapply (Tri.use_last hw) $$ H
    iintro %_ ⟨HO, HV, HD, HY⟩
    isplitl [HO]; · iexact HO
    isplitl [HV]; · iexact HV
    isplitl [HD]; · iexact HD
    iapply (anyOf_intro c _ _) $$ HY
  · rw [dif_neg h]
    refine Tri.pure ?_
    unfold YSt YDone
    rw [dif_neg (fun h' => h h'.1), dif_neg (fun h' => h h'.1)]
    iintro ⟨-, HO, HY, HV⟩
    isplitl [HO]; · iexact HO
    isplitl [HV]; · iexact HV
    isplitr; · iempintro
    iexact HY

theorem lane_any_split (c : Dev nD) (M : Memref sig .tc .vmem S2x1024x1024 .f32) (d : Fin 2) :
    (anyOf c (laneS M d) : sProp 𝕄) ⊢ iprop(anyOf c (laneHS M d 0) ∗ anyOf c (laneHS M d 1)) := by
  unfold anyOf
  iintro ⟨%X, H⟩
  ihave H := (lane_split c M d X) $$ H
  icases H with ⟨H0, H1⟩
  isplitl [H0]
  · iexists _; iexact H0
  · iexists _; iexact H1

theorem tri_copyY (c : Dev nD) (d : Fin 2) (p : Fin 4) :
    Tri c iprop(owns (c : Thread nD τ) (laneS yM d) fullShare (Ylane x w c d p) ∗ anyOf c (colOf oM (colIx d p)) ∗ semVal ((c : Thread nD τ), SemLoc.dma (yS d)) 0)
      (copyOut yM d oM (colIx d p) (yS d)) (fun _ => YSt x w c d (p.val + 1)) := by
  rw [YSt_succ]
  exact tri_copyOut c oM (colIx d p) yM d (yS d) fullShare (Ylane x w c d p)

theorem tri_lastHop (c : Dev nD) (p : Fin 4) (m : F .f32) :
    Tri c iprop(Ctx x w K ιs ∗ owesN c (18 + 18 * p.val) ∗ Bufs x w c p
        ∗ (S1 c 0 (hopOf p 2).val ∗ RTk c 0 (hopOf p 2) ∗ YSt x w c 0 p.val ∗ anyOf c (colOf oM (colIx 0 p)))
        ∗ (S1 c 1 (hopOf p 2).val ∗ RTk c 1 (hopOf p 2) ∗ YSt x w c 1 p.val ∗ anyOf c (colOf oM (colIx 1 p))))
      (lastHop c p m)
      (fun m' => iprop(⌜m' = mPanel x w c p m⌝ ∗ owesN c (20 + 18 * p.val) ∗ Bufs x w c p
        ∗ (S0 c 0 ((hopOf p 2).val + 1) ∗ RDone c 0 (hopOf p 2) ∗ YDone x w c 0 p.val ∗ YSt x w c 0 (p.val + 1))
        ∗ (S0 c 1 ((hopOf p 2).val + 1) ∗ RDone c 1 (hopOf p 2) ∗ YDone x w c 1 p.val ∗ YSt x w c 1 (p.val + 1)))) := by
  have acc (d : Fin 2) := tri_accStep x w c d p 3
  have fy (d : Fin 2) := tri_freeY x w K ιs c d p (18 + 18 * p.val)
  have cpy (d : Fin 2) := tri_copyY x w c d p
  have lst (d b : Fin 2) (m : F .f32) := tri_lastStep x w K ιs c d p b m (18 + 18 * p.val) (by clear acc fy cpy; revert p; decide)
  have cr0 := tri_giveCredit x w K ιs c 0 (hopOf p 2) (18 + 18 * p.val) (by clear acc fy cpy lst; revert p; decide)
  have cr1 := tri_giveCredit x w K ιs c 1 (hopOf p 2) (18 + 18 * p.val + 1) (by clear acc fy cpy lst cr0; revert p; decide)
  rw [show 20 + 18 * p.val = 18 + 18 * p.val + 1 + 1 by omega]
  unfold Tri lastHop Bufs RTk RDone S1
  unfold In at acc
  iintro ⟨#HC, HO, ⟨Hx, ⟨Hw0, Ha0⟩, Hw1, Ha1⟩, ⟨⟨Hf0, Hn0, Hcr0, Hrd0, Hft0⟩, ⟨Hr00, Hr01, Hd0⟩, Hy0, Ho0⟩, ⟨Hf1, Hn1, Hcr1, Hrd1, Hft1⟩, ⟨Hr10, Hr11, Hd1⟩, Hy1, Ho1⟩
  iapply (Tri.use (acc 0)) $$ [Hx Hw0 Ha0]
  · isplitl [Hx Hw0]
    · isplitl [Hx]; · iexact Hx
      iexact Hw0
    iexact Ha0
  iintro %_ ⟨⟨Hx, Hw0⟩, Ha0⟩
  iapply (Tri.use (acc 1)) $$ [Hx Hw1 Ha1]
  · isplitl [Hx Hw1]
    · isplitl [Hx]; · iexact Hx
      iexact Hw1
    iexact Ha1
  iintro %_ ⟨⟨Hx, Hw1⟩, Ha1⟩
  iapply (Tri.use (fy 0)) $$ [HO Hy0]
  · isplitr; · iexact HC
    isplitl [HO]; · iexact HO
    iexact Hy0
  iintro %_ ⟨HO, Hyv0, Hyd0, Hy0⟩
  iapply (Tri.use (fy 1)) $$ [HO Hy1]
  · isplitr; · iexact HC
    isplitl [HO]; · iexact HO
    iexact Hy1
  iintro %_ ⟨HO, Hyv1, Hyd1, Hy1⟩
  ihave Hy0 := (lane_any_split c yM 0) $$ Hy0
  icases Hy0 with ⟨Hy00, Hy01⟩
  ihave Hy1 := (lane_any_split c yM 1) $$ Hy1
  icases Hy1 with ⟨Hy10, Hy11⟩
  iapply (Tri.use (lst 0 0 m)) $$ [HO Hr00 Ha0 Hy00]
  · isplitr; · iexact HC
    isplitl [HO]; · iexact HO
    isplitl [Hr00]; · iexact Hr00
    isplitl [Ha0]; · iexact Ha0
    iexact Hy00
  iintro %m00 ⟨%hm00, HO, Hv00, Ha0, Hq00, Hy00⟩
  subst hm00
  iapply (Tri.use (lst 1 0 (mHalf x w c p 0 0 m))) $$ [HO Hr10 Ha1 Hy10]
  · isplitr; · iexact HC
    isplitl [HO]; · iexact HO
    isplitl [Hr10]; · iexact Hr10
    isplitl [Ha1]; · iexact Ha1
    iexact Hy10
  iintro %m10 ⟨%hm10, HO, Hv10, Ha1, Hq10, Hy10⟩
  subst hm10
  iapply (Tri.use (lst 0 1 (mHalf x w c p 1 0 (mHalf x w c p 0 0 m)))) $$ [HO Hr01 Ha0 Hy01]
  · isplitr; · iexact HC
    isplitl [HO]; · iexact HO
    isplitl [Hr01]; · iexact Hr01
    isplitl [Ha0]; · iexact Ha0
    iexact Hy01
  iintro %m01 ⟨%hm01, HO, Hv01, Ha0, Hq01, Hy01⟩
  subst hm01
  iapply (Tri.use (lst 1 1 (mHalf x w c p 0 1 (mHalf x w c p 1 0 (mHalf x w c p 0 0 m))))) $$ [HO Hr11 Ha1 Hy11]
  · isplitr; · iexact HC
    isplitl [HO]; · iexact HO
    isplitl [Hr11]; · iexact Hr11
    isplitl [Ha1]; · iexact Ha1
    iexact Hy11
  iintro %m11 ⟨%hm11, HO, Hv11, Ha1, Hq11, Hy11⟩
  subst hm11
  ihave Hq0 := (slotAny_mk c rvM 0 (slot (hopOf p 2).val)) $$ [Hq00 Hq01]
  · isplitl [Hq00]; · iexact Hq00
    iexact Hq01
  ihave Hy0 := (lane_join c yM 0 (Yh x w c 0 p)) $$ [Hy00 Hy01]
  · isplitl [Hy00]; · iexact Hy00
    iexact Hy01
  ihave Hq1 := (slotAny_mk c rvM 1 (slot (hopOf p 2).val)) $$ [Hq10 Hq11]
  · isplitl [Hq10]; · iexact Hq10
    iexact Hq11
  ihave Hy1 := (lane_join c yM 1 (Yh x w c 1 p)) $$ [Hy10 Hy11]
  · isplitl [Hy10]; · iexact Hy10
    iexact Hy11
  iapply (Tri.use (cr0)) $$ [HO Hrd0 Hft0 Hq0 Hd0]
  · isplitr; · iexact HC
    isplitl [HO]; · iexact HO
    isplitl [Hrd0]; · iexact Hrd0
    isplitl [Hft0]; · iexact Hft0
    isplitl [Hq0]; · iexact Hq0
    iexact Hd0
  iintro %_ ⟨HO, Hrd0, Hft0⟩
  iapply (Tri.use (cpy 0)) $$ [Hy0 Ho0 Hyv0]
  · isplitl [Hy0]; · iexact Hy0
    isplitl [Ho0]; · iexact Ho0
    iexact Hyv0
  iintro %_ Hy0
  iapply (Tri.use (cr1)) $$ [HO Hrd1 Hft1 Hq1 Hd1]
  · isplitr; · iexact HC
    isplitl [HO]; · iexact HO
    isplitl [Hrd1]; · iexact Hrd1
    isplitl [Hft1]; · iexact Hft1
    isplitl [Hq1]; · iexact Hq1
    iexact Hd1
  iintro %_ ⟨HO, Hrd1, Hft1⟩
  iapply (Tri.use (cpy 1)) $$ [Hy1 Ho1 Hyv1]
  · isplitl [Hy1]; · iexact Hy1
    isplitl [Ho1]; · iexact Ho1
    iexact Hyv1
  iintro %_ Hy1
  unfold WP
  rw [Prog.pure_eq_ret, wp_ret]
  imodintro
  ihave Ha0 := (anyOf_intro c _ _) $$ Ha0
  ihave Ha1 := (anyOf_intro c _ _) $$ Ha1
  unfold S0
  isplitr; · ipureintro; rfl
  isplitl [HO]; · iexact HO
  isplitl [Hx Hw0 Ha0 Hw1 Ha1]
  · isplitl [Hx]; · iexact Hx
    isplitl [Hw0 Ha0]
    · isplitl [Hw0]; · iexact Hw0
      iexact Ha0
    isplitl [Hw1]; · iexact Hw1
    iexact Ha1
  isplitl [Hf0 Hn0 Hcr0 Hrd0 Hft0 Hv00 Hv01 Hyd0 Hy0]
  · isplitl [Hf0 Hn0 Hcr0 Hrd0 Hft0]
    · isplitl [Hf0]; · iexact Hf0
      isplitl [Hn0]; · iexact Hn0
      isplitl [Hcr0]; · iexact Hcr0
      isplitl [Hrd0]; · iexact Hrd0
      iexact Hft0
    isplitl [Hv00 Hv01]
    · isplitl [Hv00]; · iexact Hv00
      iexact Hv01
    isplitl [Hyd0]; · iexact Hyd0
    iexact Hy0
  isplitl [Hf1 Hn1 Hcr1 Hrd1 Hft1]
  · isplitl [Hf1]; · iexact Hf1
    isplitl [Hn1]; · iexact Hn1
    isplitl [Hcr1]; · iexact Hcr1
    isplitl [Hrd1]; · iexact Hrd1
    iexact Hft1
  isplitl [Hv10 Hv11]
  · isplitl [Hv10]; · iexact Hv10
    iexact Hv11
  isplitl [Hyd1]; · iexact Hyd1
  iexact Hy1

end Cert.Ring

end
-- ==== Proof.Ring.Ends.lean ====
/-
What comes before the panels and after: the meeting of the neighbours, the last transfers, the ring of the maxima, the
credits no transfer takes.
-/
module

public import proofs.«01_k».proof.Proof.Ring.Panel

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (x : Dev nD → S4096x1024.Idx → Elt F .f32) (w : Dev nD → S1024x8192.Idx → Elt F .f32)
  (K : Dev nD × Kind → ℕ) (ιs : Key → ℕ)

/-! ## A panel -/

/-- A lane before panel `n`. -/
def LSt (c : Dev nD) (d : Fin 2) (n : ℕ) : sProp 𝕄 :=
  iprop(anyOf c (laneS wvM d) ∗ semVal ((c : Thread nD τ), SemLoc.dma (wS d)) 0 ∗ anyOf c (laneS acM d) ∗ S0 c d (3 * n) ∗ YSt x w c d n)
/-- What a panel takes, -/
def PTok (c : Dev nD) (d : Fin 2) (p : Fin 4) : sProp 𝕄 :=
  iprop(WTile w c d p ∗ anyOf c (colOf oM (colIx d p)) ∗ (STok c d (hopOf p 0) ∗ STok c d (hopOf p 1) ∗ STok c d (hopOf p 2))
    ∗ RTk c d (hopOf p 0) ∗ RTk c d (hopOf p 1) ∗ RTk c d (hopOf p 2))
/-- and what it leaves. -/
def Spent (c : Dev nD) (d : Fin 2) (p : Fin 4) : sProp 𝕄 :=
  iprop(WTile w c d p ∗ YDone x w c d p.val ∗ (SVs c d (hopOf p 0).val ∗ SVs c d (hopOf p 1).val ∗ SVs c d (hopOf p 2).val)
    ∗ RDone c d (hopOf p 0) ∗ RDone c d (hopOf p 1) ∗ RDone c d (hopOf p 2))

theorem tri_panel (c : Dev nD) (p : Fin 4) (m : F .f32) :
    Tri c iprop(Ctx x w K ιs ∗ owesN c (2 + 18 * p.val) ∗ owns (c : Thread nD τ) xM fullShare (x c)
        ∗ (LSt x w c 0 p.val ∗ PTok w c 0 p) ∗ (LSt x w c 1 p.val ∗ PTok w c 1 p))
      (panel c p m)
      (fun m' => iprop(⌜m' = mPanel x w c p m⌝ ∗ owesN c (2 + 18 * (p.val + 1)) ∗ owns (c : Thread nD τ) xM fullShare (x c)
        ∗ (LSt x w c 0 (p.val + 1) ∗ Spent x w c 0 p) ∗ (LSt x w c 1 (p.val + 1) ∗ Spent x w c 1 p))) := by
  have h0 := tri_firstHop x w K ιs c p
  have h1 := tri_midHop x w K ιs c p 0
  have h2 := tri_midHop x w K ιs c p 1
  have h3 := tri_lastHop x w K ιs c p m
  rw [show 2 + 18 * (p.val + 1) = 20 + 18 * p.val by omega]
  rw [show 6 + 18 * p.val + 6 * (0 : Fin 2).val = 6 + 18 * p.val from rfl, show 12 + 18 * p.val + 6 * (0 : Fin 2).val = 12 + 18 * p.val from rfl] at h1
  rw [show 6 + 18 * p.val + 6 * (1 : Fin 2).val = 12 + 18 * p.val by show 6 + 18 * p.val + 6 * 1 = _; omega,
    show 12 + 18 * p.val + 6 * (1 : Fin 2).val = 18 + 18 * p.val by show 12 + 18 * p.val + 6 * 1 = _; omega] at h2
  rw [show ((0 : Fin 2).castSucc : Fin 3) = 0 from rfl, show ((0 : Fin 2).succ : Fin 3) = 1 from rfl] at h1
  rw [show ((1 : Fin 2).castSucc : Fin 3) = 1 from rfl, show ((1 : Fin 2).succ : Fin 3) = 2 from rfl] at h2
  unfold Bufs at h1 h2 h3
  unfold Tri panel LSt PTok Spent
  rw [show 3 * (p.val + 1) = (hopOf p 2).val + 1 from rfl, show 3 * p.val = (hopOf p 0).val from rfl]
  iintro ⟨#HC, HO, Hx, ⟨⟨Hv0, Hsw0, Ha0, HS0, Hy0⟩, Hw0, Ho0, ⟨Hs00, Hs01, Hs02⟩, Hr00, Hr01, Hr02⟩, ⟨⟨Hv1, Hsw1, Ha1, HS1, Hy1⟩, Hw1, Ho1, ⟨Hs10, Hs11, Hs12⟩, Hr10, Hr11, Hr12⟩⟩
  iapply (Tri.use (h0)) $$ [HO Hx Hw0 Hv0 Hsw0 HS0 Hs00 Hw1 Hv1 Hsw1 HS1 Hs10]
  · isplitr; · iexact HC
    isplitl [HO]; · iexact HO
    isplitl [Hx]; · iexact Hx
    isplitl [Hw0 Hv0 Hsw0 HS0 Hs00]
    · isplitl [Hw0]; · iexact Hw0
      isplitl [Hv0]; · iexact Hv0
      isplitl [Hsw0]; · iexact Hsw0
      isplitl [HS0]; · iexact HS0
      iexact Hs00
    isplitl [Hw1]; · iexact Hw1
    isplitl [Hv1]; · iexact Hv1
    isplitl [Hsw1]; · iexact Hsw1
    isplitl [HS1]; · iexact HS1
    iexact Hs10
  iintro %_ ⟨HO, Hx, ⟨Hw0, Hv0, Hsw0, HS0, Hf00⟩, ⟨Hw1, Hv1, Hsw1, HS1, Hf10⟩⟩
  iapply (Tri.use (h1)) $$ [HO Hx Hv0 Ha0 Hv1 Ha1 HS0 Hs01 Hr00 HS1 Hs11 Hr10]
  · isplitr; · iexact HC
    isplitl [HO]; · iexact HO
    isplitl [Hx Hv0 Ha0 Hv1 Ha1]
    · isplitl [Hx]; · iexact Hx
      isplitl [Hv0 Ha0]
      · isplitl [Hv0]; · iexact Hv0
        iexact Ha0
      isplitl [Hv1]; · iexact Hv1
      iexact Ha1
    isplitl [HS0 Hs01 Hr00]
    · isplitl [HS0]; · iexact HS0
      isplitl [Hs01]; · iexact Hs01
      iexact Hr00
    isplitl [HS1]; · iexact HS1
    isplitl [Hs11]; · iexact Hs11
    iexact Hr10
  iintro %_ ⟨HO, ⟨Hx, ⟨Hv0, Ha0⟩, Hv1, Ha1⟩, ⟨HS0, Hf01, Hd00⟩, ⟨HS1, Hf11, Hd10⟩⟩
  iapply (Tri.use (h2)) $$ [HO Hx Hv0 Ha0 Hv1 Ha1 HS0 Hs02 Hr01 HS1 Hs12 Hr11]
  · isplitr; · iexact HC
    isplitl [HO]; · iexact HO
    isplitl [Hx Hv0 Ha0 Hv1 Ha1]
    · isplitl [Hx]; · iexact Hx
      isplitl [Hv0 Ha0]
      · isplitl [Hv0]; · iexact Hv0
        iexact Ha0
      isplitl [Hv1]; · iexact Hv1
      iexact Ha1
    isplitl [HS0 Hs02 Hr01]
    · isplitl [HS0]; · iexact HS0
      isplitl [Hs02]; · iexact Hs02
      iexact Hr01
    isplitl [HS1]; · iexact HS1
    isplitl [Hs12]; · iexact Hs12
    iexact Hr11
  iintro %_ ⟨HO, ⟨Hx, ⟨Hv0, Ha0⟩, Hv1, Ha1⟩, ⟨HS0, Hf02, Hd01⟩, ⟨HS1, Hf12, Hd11⟩⟩
  iapply (Tri.use_last (h3)) $$ [HO Hx Hv0 Ha0 Hv1 Ha1 HS0 Hr02 Hy0 Ho0 HS1 Hr12 Hy1 Ho1]
  · isplitr; · iexact HC
    isplitl [HO]; · iexact HO
    isplitl [Hx Hv0 Ha0 Hv1 Ha1]
    · isplitl [Hx]; · iexact Hx
      isplitl [Hv0 Ha0]
      · isplitl [Hv0]; · iexact Hv0
        iexact Ha0
      isplitl [Hv1]; · iexact Hv1
      iexact Ha1
    isplitl [HS0 Hr02 Hy0 Ho0]
    · isplitl [HS0]; · iexact HS0
      isplitl [Hr02]; · iexact Hr02
      isplitl [Hy0]; · iexact Hy0
      iexact Ho0
    isplitl [HS1]; · iexact HS1
    isplitl [Hr12]; · iexact Hr12
    isplitl [Hy1]; · iexact Hy1
    iexact Ho1
  iintro %m' ⟨%hm, HO, ⟨Hx, ⟨Hv0, Ha0⟩, Hv1, Ha1⟩, ⟨HS0, Hd02, Hyd0, Hy0⟩, ⟨HS1, Hd12, Hyd1, Hy1⟩⟩
  isplitr; · ipureintro; exact hm
  ihave Hv0 := (anyOf_intro c _ _) $$ Hv0
  ihave Hv1 := (anyOf_intro c _ _) $$ Hv1
  isplitl [HO]; · iexact HO
  isplitl [Hx]; · iexact Hx
  isplitl [Hv0 Hsw0 Ha0 HS0 Hy0 Hw0 Hyd0 Hf00 Hf01 Hf02 Hd00 Hd01 Hd02]
  · isplitl [Hv0 Hsw0 Ha0 HS0 Hy0]
    · isplitl [Hv0]; · iexact Hv0
      isplitl [Hsw0]; · iexact Hsw0
      isplitl [Ha0]; · iexact Ha0
      isplitl [HS0]; · iexact HS0
      iexact Hy0
    isplitl [Hw0]; · iexact Hw0
    isplitl [Hyd0]; · iexact Hyd0
    isplitl [Hf00 Hf01 Hf02]
    · isplitl [Hf00]; · iexact Hf00
      isplitl [Hf01]; · iexact Hf01
      iexact Hf02
    isplitl [Hd00]; · iexact Hd00
    isplitl [Hd01]; · iexact Hd01
    iexact Hd02
  isplitl [Hv1 Hsw1 Ha1 HS1 Hy1]
  · isplitl [Hv1]; · iexact Hv1
    isplitl [Hsw1]; · iexact Hsw1
    isplitl [Ha1]; · iexact Ha1
    isplitl [HS1]; · iexact HS1
    iexact Hy1
  isplitl [Hw1]; · iexact Hw1
  isplitl [Hyd1]; · iexact Hyd1
  isplitl [Hf10 Hf11 Hf12]
  · isplitl [Hf10]; · iexact Hf10
    isplitl [Hf11]; · iexact Hf11
    iexact Hf12
  isplitl [Hd10]; · iexact Hd10
  isplitl [Hd11]; · iexact Hd11
  iexact Hd12

/-! ## Waits for what is left of a round -/

theorem tri_waitRest (c : Dev nD) (k : Kind) (s : Sem sig) (hs : semOf k = .reg s) (v : BitVec 32) (k' : ℕ)
    (hw : ∀ Kt : PUnit → sProp 𝕄, wpE (defs₀ (F := F)) 𝒱₀ (c : Thread nD τ) none Set.univ (.semWait s v.toInt) Kt = waitSpec (c : Thread nD τ) Set.univ (.reg s) k' Kt)
    (cr : ℕ →₀ ℕ) (N : Waits sig ℕ) (n R m : ℕ) (T : Finset ℕ) (hk : m + k' = (kDut k R).card * kAmt k) (htot : Idealize.SL.Util.total cr = k')
    (hN : cr.support.image ((SemLoc.reg s), ·) ⊆ N) (hmw : (levAts L lv : sProp 𝕄) ⊢ MayOwe (c : Thread nD τ) N (owedL c (allItems.drop n))) :
    Tri c iprop(Ctx x w K ιs ∗ owesN c n ∗ atPos ER (cell c k) R T m ∗ cred (tallyOn (cell c k) cr)) (semWaitWord s v)
      (fun _ => iprop(owesN c n ∗ atPos ER (cell c k) (R + 1) ∅ 0 ∗ reached ER (cell c k) (R + 1) ∗ bigSep (kDut k R \ T) fun i => kPay x w c k R i)) := by
  have e : cell c k = ((c : Thread nD τ), SemLoc.reg s) := by unfold cell; rw [hs]
  have hI := ctx_inv (F := F) x w K ιs c k
  have hexp := expect_cell (F := F) x w c k R
  have hpay : (bigSep ((ringRd (F := F) x w).duties (cell c k) R \ T) (fun d => (ringRd (F := F) x w).payload (cell c k) R d) : sProp 𝕄)
      ⊢ bigSep (kDut k R \ T) fun i => kPay x w c k R i := by
    rw [duties_cell]
    exact bigSep_mono fun i _ => Entails.of_eq (payload_cell x w c k R i)
  rw [e] at hI hexp hpay
  unfold Tri WP semWaitWord owesN
  rw [e]
  iintro ⟨#HC, ⟨%W, HO⟩, Hat, Hc⟩
  iapply (Rounds.wp_wait_rest 𝒱₀ ER (ringRd x w) (c : Thread nD τ) none (sm := SemLoc.reg s) (k' := k') (κ := K (c, k)) (Es := Set.univ) hw (Set.mem_univ _)
    (cr := cr) (O := owedL c (allItems.drop n)) (W := W) N (R := R) (m := m) (T := T) (hk.trans hexp.symm) htot hN) $$ [Hc HO Hat]
  · isplitr; · iapply hI $$ HC
    isplitl [Hc]; · iexact Hc
    isplitl [HO]; · iexact HO
    isplitr
    · iapply hmw
      iapply (ctx_lev x w K ιs) $$ HC
    iexact Hat
  iintro ⟨HO, Hat, Hr, Hp⟩
  rw [wp_ret]
  imodintro
  isplitl [HO]; · iexists _; iexact HO
  isplitl [Hat]; · iexact Hat
  isplitl [Hr]; · iexact Hr
  iapply hpay $$ Hp

theorem ctx_close (c : Dev nD) (k : Kind) (R : ℕ) (hR : kEnd k ≤ R) :
    iprop(Ctx x w K ιs ∗ atPos ER (cell c k) R ∅ 0) ⊢ (|={Set.univ}=> semVal (cell c k) 0 : sProp 𝕄) := by
  iintro ⟨#HC, Hat⟩
  iapply (cell_close ER (ringRd x w) (κ := K (c, k)) (Es := Set.univ) (Set.mem_univ _) (fun h => h) (R := R)
    (fun r hr => duties_end x w c k r (by omega))) $$ [Hat]
  isplitr; · iapply (ctx_inv x w K ιs c k) $$ HC
  iexact Hat

/-! ## The meeting -/

theorem ctx_release (c : Dev nD) (d s : Fin 2) (n : ℕ) :
    iprop(Ctx x w K ιs ∗ readerAt ESlot ((c, d, s) : Key) n ∗ slotAny c rvM d s)
      ⊢ (|={Set.univ}=> (readerAt ESlot ((c, d, s) : Key) (n + 1) ∗ released ESlot ((c, d, s) : Key) (n + 1)) : sProp 𝕄) := by
  iintro ⟨#HC, Hr, HS⟩
  iapply (slot_release ESlot (ι := ιs ((c, d, s) : Key)) (k := ((c, d, s) : Key)) (Es := Set.univ) (S := slotAny c rvM d s) (Set.mem_univ _)
    (slotAny_excl c rvM d s) n) $$ [Hr HS]
  isplitr; · iapply (ctx_slot x w K ιs ((c, d, s) : Key)) $$ HC
  isplitl [Hr]; · iexact Hr
  iexact HS

/-- A lane's receive slots at the start. -/
def Rcv0 (c : Dev nD) (d : Fin 2) : sProp 𝕄 :=
  iprop((readerAt ESlot ((c, d, 0) : Key) 0 ∗ slotAny c rvM d 0) ∗ readerAt ESlot ((c, d, 1) : Key) 0 ∗ slotAny c rvM d 1)

theorem ctx_empty (c : Dev nD) (d : Fin 2) : iprop(Ctx x w K ιs ∗ Rcv0 c d) ⊢ (|={Set.univ}=> (Rds c d 0 ∗ Empty0 c d) : sProp 𝕄) := by
  unfold Rcv0 Rds Empty0
  iintro ⟨#HC, H0, H1⟩
  imod (ctx_release x w K ιs c d 0 0) $$ [H0] with ⟨Hr0, He0⟩
  · isplitr; · iexact HC
    iexact H0
  imod (ctx_release x w K ιs c d 1 0) $$ [H1] with ⟨Hr1, He1⟩
  · isplitr; · iexact HC
    iexact H1
  imodintro
  isplitl [Hr0 Hr1]
  · isplitl [Hr0]; · iexact Hr0
    iexact Hr1
  isplitl [He0]; · iexact He0
  iexact He1

theorem right_left (c : Dev nD) : rightD (leftD c) = c := by revert c; decide
theorem left_right (c : Dev nD) : leftD (rightD c) = c := by revert c; decide

theorem mayWait_one (c : Dev nD) (k : Kind) (s : Sem sig) (hs : semOf k = .reg s) (ι n : ℕ) (hι : ι < 14) (hl : ∀ it ∈ allItems.drop n, kLvl k ι < it.lvl) :
    (levAts L lv : sProp 𝕄) ⊢ MayOwe (c : Thread nD τ) {(SemLoc.reg s, ι)} (owedL c (allItems.drop n)) :=
  mayWait (F := F) c (SemLoc.reg s) ι n hι fun it hm => by
    have := hl it hm
    rw [← hs]
    rwa [show lv ((c : Thread nD τ), semOf k) ι = kLvl k ι from lv_cell c k ι]

theorem image_single {A B : Type} [DecidableEq B] (a : A) (n : ℕ) (f : A → B) : (Finsupp.single a n).support.image f ⊆ {f a} := by
  intro p hp
  obtain ⟨i, hi, rfl⟩ := Finset.mem_image.mp hp
  rw [Finset.mem_singleton.mp (Finsupp.support_single_subset hi)]
  exact Finset.mem_singleton_self _

theorem tri_handshake (c : Dev nD) :
    Tri c iprop(Ctx x w K ιs ∗ owesN c 0 ∗ Rcv0 c 0 ∗ Rcv0 c 1 ∗ anyOf c arM
        ∗ (dutyTok ER (cell (leftD c) .bar) 0 0 ∗ dutyTok ER (cell (rightD c) .bar) 0 1 ∗ cred (tallyAt (cell c .bar) 0 2) ∗ atPos ER (cell c .bar) 0 ∅ 0))
      (handshake (F := F) c)
      (fun _ => iprop(owesN c 2 ∗ (Rds c 0 0 ∗ Empty0 (tgtD 0 c) 0) ∗ (Rds c 1 0 ∗ Empty0 (tgtD 1 c) 1) ∗ anyOf (rightD c) arM ∗ atPos ER (cell c .bar) 1 ∅ 0)) := by
  have sL := tri_pay x w K ιs c (leftD c) .bar barS rfl 0 0 0 (it := .barL) rfl rfl rfl rfl (by decide)
  have sR := tri_pay x w K ιs c (rightD c) .bar barS rfl 0 1 1 (it := .barR) rfl rfl rfl rfl (by decide)
  have wt := tri_waitRest x w K ιs c .bar barS rfl 2#32 2 (fun _ => rfl) (Finsupp.single 0 2) {(SemLoc.reg barS, 0)} 2 0 0 ∅ rfl
    (Idealize.SL.Util.total_single _ _) (image_single _ _ _) (mayWait_one c .bar barS rfl 0 2 (by decide) (by clear sL sR; decide))
  have pL : iprop(Empty0 c 0 ∗ anyOf c arM) ⊢ kPay x w (leftD c) .bar 0 0 := Entails.of_eq (by
    show _ = iprop(Empty0 (rightD (leftD c)) 0 ∗ anyOf (rightD (leftD c)) arM)
    rw [right_left])
  have pR : (Empty0 c 1 : sProp 𝕄) ⊢ kPay x w (rightD c) .bar 0 1 := Entails.of_eq (by
    show _ = Empty0 (leftD (rightD c)) 1
    rw [left_right])
  have got : (bigSep (kDut .bar 0 \ ∅) (fun i => kPay x w c .bar 0 i) : sProp 𝕄) ⊢ iprop((Empty0 (tgtD 0 c) 0 ∗ anyOf (rightD c) arM) ∗ Empty0 (tgtD 1 c) 1) := by
    rw [Finset.sdiff_empty, show kDut .bar 0 = insert 0 {1} from rfl, bigSep_insert (by decide), bigSep_singleton]
    exact BI.Entails.refl _
  unfold Tri WP handshake
  iintro ⟨#HC, HO, Hr0, Hr1, Ha, ⟨HtL, HtR, Hc, Hat⟩⟩
  imod (ctx_empty x w K ιs c 0) $$ [Hr0] with ⟨Hr0, He0⟩
  · isplitr; · iexact HC
    iexact Hr0
  imod (ctx_empty x w K ιs c 1) $$ [Hr1] with ⟨Hr1, He1⟩
  · isplitr; · iexact HC
    iexact Hr1
  ihave HL := pL $$ [He0 Ha]
  · isplitl [He0]; · iexact He0
    iexact Ha
  ihave HR := pR $$ He1
  iapply (Tri.use (sL)) $$ [HO HtL HL]
  · isplitr; · iexact HC
    isplitl [HO]; · iexact HO
    isplitl [HtL]; · iexact HtL
    isplitl [HL]; · iexact HL
    iapply (ctx_reached x w K ιs (leftD c) .bar) $$ HC
  iintro %_ HO
  iapply (Tri.use (sR)) $$ [HO HtR HR]
  · isplitr; · iexact HC
    isplitl [HO]; · iexact HO
    isplitl [HtR]; · iexact HtR
    isplitl [HR]; · iexact HR
    iapply (ctx_reached x w K ιs (rightD c) .bar) $$ HC
  iintro %_ HO
  iapply (Tri.use_last wt) $$ [HO Hat Hc]
  · isplitr; · iexact HC
    isplitl [HO]; · iexact HO
    isplitl [Hat]; · iexact Hat
    iexact Hc
  iintro %_ ⟨HO, Hat, -, Hp⟩
  ihave Hp := got $$ Hp
  icases Hp with ⟨⟨He0, Ha⟩, He1⟩
  isplitl [HO]; · iexact HO
  isplitl [Hr0 He0]
  · isplitl [Hr0]; · iexact Hr0
    iexact He0
  isplitl [Hr1 He1]
  · isplitl [Hr1]; · iexact Hr1
    iexact He1
  isplitl [Ha]; · iexact Ha
  iexact Hat

/-! ## The last transfers -/

theorem tri_drain (c : Dev nD) (d : Fin 2) (n : ℕ) :
    Tri c iprop(Ctx x w K ιs ∗ owesN c n ∗ YSt x w c d 4 ∗ Free c d 12 ∗ Free c d 13) (drain d)
      (fun _ => iprop(owesN c n ∗ semVal ((c : Thread nD τ), SemLoc.dma (yS d)) 0 ∗ YDone x w c d 4 ∗ anyOf c (laneS yM d)
        ∗ (SVs c d 12 ∗ slotAny c sdM d 0) ∗ SVs c d 13 ∗ slotAny c sdM d 1)) := by
  have wy := tri_waitY x w K ιs c d 3 n
  have f0 := tri_freeSlot x w K ιs c d 12 (by decide) n
  have f1 := tri_freeSlot x w K ιs c d 13 (by decide) n
  rw [show ((3 : Fin 4).val + 1) = 4 from rfl] at wy
  rw [show slot 12 = 0 from rfl] at f0
  rw [show slot 13 = 1 from rfl] at f1
  unfold Tri drain
  iintro ⟨#HC, HO, Hy, Hf0, Hf1⟩
  iapply (Tri.use (wy)) $$ [HO Hy]
  · isplitr; · iexact HC
    isplitl [HO]; · iexact HO
    iexact Hy
  iintro %_ ⟨HO, Hv, Hd, Hy⟩
  iapply (Tri.use (f0)) $$ [HO Hf0]
  · isplitr; · iexact HC
    isplitl [HO]; · iexact HO
    iexact Hf0
  iintro %_ ⟨HO, Hs0, Hl0⟩
  iapply (Tri.use_last (f1)) $$ [HO Hf1]
  · isplitr; · iexact HC
    isplitl [HO]; · iexact HO
    iexact Hf1
  iintro %_ ⟨HO, Hs1, Hl1⟩
  ihave Hy := (anyOf_intro c _ _) $$ Hy
  isplitl [HO]; · iexact HO
  isplitl [Hv]; · iexact Hv
  isplitl [Hd]; · iexact Hd
  isplitl [Hy]; · iexact Hy
  isplitl [Hs0 Hl0]
  · isplitl [Hs0]; · iexact Hs0
    iexact Hl0
  isplitl [Hs1]; · iexact Hs1
  iexact Hl1

/-! ## The ring of the maxima -/

/-- A slice that is the whole. -/
theorem owns_slice_all (c : Dev nD) {sp : Space} {s : Shape} {e : EltTy} (M : Memref sig .tc sp s e) (size : Fin s.rank → ℕ) (off inb)
    (hsz : size = s.size) (h0 : ∀ a, off a = 0) (X : (⟨s.rank, size⟩ : Shape).Idx → Elt F e) (Y : s.Idx → Elt F e) (hXY : ∀ j, X j = Y ((Rect.unit off size inb).emb j)) :
    (owns (c : Thread nD τ) (M.slice (Rect.unit off size inb) (fun _ => rfl)) fullShare X : sProp 𝕄) = owns (c : Thread nD τ) M fullShare Y := by
  subst hsz
  have hemb (j : s.Idx) : (Rect.unit off s.size inb).emb j = j := by
    funext a
    refine Fin.ext ?_
    rw [ValueKit.rect_emb_unit_val off s.size, h0 a, Nat.zero_add]
  obtain rfl : X = Y := funext fun j => by rw [hXY j]; exact congrArg Y (hemb j)
  unfold owns
  refine congrArg _ (funext fun f => ?_)
  have h1 : (M.slice (Rect.unit off s.size inb) (fun _ => rfl)).view.read (Elt F) f = M.view.read (Elt F) f := funext fun j => by
    show M.view.read (Elt F) f _ = M.view.read (Elt F) f _
    exact congrArg _ (hemb j)
  have h2 : (M.slice (Rect.unit off s.size inb) (fun _ => rfl)).view.set = M.view.set := by
    unfold View.set
    refine congrArg (Finset.univ.map ·) (Function.Embedding.ext fun j => ?_)
    show M.view.emb _ = M.view.emb _
    exact congrArg _ (hemb j)
  rw [h1, h2]

theorem owns_as (c : Dev nD) (X : S8x128.Idx → Elt F .f32) :
    (owns (c : Thread nD τ) (asM.slice wholeR (fun _ => rfl)) fullShare X : sProp 𝕄) = owns (c : Thread nD τ) asM fullShare X :=
  owns_slice_all c asM S8x128.size ![0, 0] _ rfl (by decide) X X (fun j => congrArg X (funext fun a => Fin.ext (by
    rw [ValueKit.rect_emb_unit_val ![0, 0] S8x128.size]; fin_cases a <;> simp)))

/-- What hop `h` of the maxima needs. -/
def MTok (c : Dev nD) (h : Fin 3) : sProp 𝕄 :=
  iprop(dutyTok ER (cell c (.am h)) 0 0 ∗ dutyTok ER (cell (rightD c) (.ar h)) 0 0 ∗ atPos ER (cell c (.am h)) 0 ∅ 0 ∗ atPos ER (cell c (.ar h)) 0 ∅ 0
    ∗ cred (tallyAt (cell c (.ar h)) 0 NA) ∗ dutyTok ER (cell (leftD c) .ac) h.val 0)
/-- Leave to write to the neighbour's buffer: had, or to come as a credit. -/
def MGo (c : Dev nD) (h : ℕ) : sProp 𝕄 :=
  if h = 0 then anyOf (rightD c) arM else cred (tallyAt (cell c .ac) (h - 1) 1)
/-- The buffer after the last hop. -/
def MKeep (c : Dev nD) (h : ℕ) : sProp 𝕄 := if h < 2 then iprop(emp) else anyOf c arM

theorem tri_acredit (c : Dev nD) (r n : ℕ) (hr : r < 3) (hl : ∀ it ∈ allItems.drop n, 101 + 2 * r < it.lvl) :
    Tri c iprop(Ctx x w K ιs ∗ owesN c n ∗ atPos ER (cell c .ac) r ∅ 0 ∗ cred (tallyAt (cell c .ac) r 1)) (semWaitWord acreditS 1#32)
      (fun _ => iprop(owesN c n ∗ atPos ER (cell c .ac) (r + 1) ∅ 0 ∗ reached ER (cell c .ac) (r + 1) ∗ kPay x w c .ac r 0)) := by
  have hd : kDut .ac r = {0} := if_pos hr
  have wt := tri_waitRest x w K ιs c .ac acreditS rfl 1#32 1 (fun _ => rfl) (Finsupp.single r 1) {(SemLoc.reg acreditS, r)} n r 0 ∅
    (by rw [hd]; rfl) (Idealize.SL.Util.total_single _ _) (image_single _ _ _) (mayWait_one c .ac acreditS rfl r n (by omega) hl)
  rw [hd, Finset.sdiff_empty, bigSep_singleton] at wt
  exact wt

theorem tri_mayGo (c : Dev nD) (h : Fin 3) :
    Tri c iprop(Ctx x w K ιs ∗ owesN c (74 + 2 * h.val) ∗ atPos ER (cell c .ac) (h.val - 1) ∅ 0 ∗ MGo c h.val)
      (if 0 < h.val then semWaitWord acreditS 1#32 else pure ⟨⟩)
      (fun _ => iprop(owesN c (74 + 2 * h.val) ∗ atPos ER (cell c .ac) h.val ∅ 0 ∗ reached ER (cell c .ac) h.val ∗ anyOf (rightD c) arM)) := by
  unfold MGo
  by_cases h0 : 0 < h.val
  · have hh : h.val - 1 + 1 = h.val := Nat.sub_add_cancel h0
    have wt := tri_acredit x w K ιs c (h.val - 1) (74 + 2 * h.val) (by omega) (by clear hh; revert h0; revert h; decide)
    rw [hh] at wt
    have hp : (kPay x w c .ac (h.val - 1) 0 : sProp 𝕄) = anyOf (rightD c) arM := if_pos (by omega)
    rw [hp] at wt
    rw [if_pos h0, if_neg (by omega)]
    exact wt
  · have hh : h.val = 0 := by omega
    rw [if_neg h0, if_pos hh, hh]
    refine Tri.pure ?_
    iintro ⟨#HC, HO, Hat, Ha⟩
    isplitl [HO]; · iexact HO
    isplitl [Hat]; · iexact Hat
    isplitr; · iapply (ctx_reached x w K ιs c .ac) $$ HC
    iexact Ha

theorem maxHop_eq (c : Dev nD) (h : Fin 3) (m : F .f32) : maxHop c h m =
    ((lift (.load asM wholeR.toLoadRect (View.loadsAt_vmem h_S8x128)) : KP F (Vec F S8x128 .f32)) >>= fun _ =>
      lift (.store asM wholeR (k0_pay131 m) Finset.univ (View.stores_vmem_bits_univ h_S8x128 rfl) (.inl rfl)) >>= fun _ =>
      (if 0 < h.val then semWaitWord acreditS 1#32 else pure ⟨⟩ : KP F PUnit) >>= fun _ =>
      lift (.enqueueDma asM (.remote (Dev.tc (rightD c)) arM (.dma (asS h))) (.dma (arS h))
        (Memref.isWhole_whole cc0_scratch5).wordExact (Memref.isWhole_whole cc0_scratch6).wordExact ⟨⟨rfl, Or.inl rfl⟩, trivial⟩) >>= fun _ =>
      lift (.waitDma2 (arS h) asM arM (Memref.isWhole_whole cc0_scratch5).wordExact (Memref.isWhole_whole cc0_scratch6).wordExact) >>= fun _ =>
      (lift (.load arM firstR.toLoadRect (View.loadsAt_vmem h_S1x1)) : KP F (Vec F S1x1 .f32)) >>= fun v =>
      semSignalWord (leftD c) acreditS 1#32 >>= fun _ =>
      lift (.waitDma2 (asS h) arM asM (Memref.isWhole_whole cc0_scratch6).wordExact (Memref.isWhole_whole cc0_scratch5).wordExact) >>= fun _ =>
      pure (k0_pay132 m v)) := by
  unfold maxHop
  by_cases h0 : 0 < h.val
  · simp only [if_pos h0]
  · simp only [if_neg h0]
    rfl

theorem tri_maxHop (c : Dev nD) (h : Fin 3) :
    Tri c iprop(Ctx x w K ιs ∗ owesN c (74 + 2 * h.val) ∗ anyOf c asM ∗ atPos ER (cell c .ac) (h.val - 1) ∅ 0 ∗ MGo c h.val ∗ MTok c h)
      (maxHop c h (mr x w h.val c))
      (fun m' => iprop(⌜m' = mr x w (h.val + 1) c⌝ ∗ owesN c (74 + 2 * (h.val + 1)) ∗ anyOf c asM ∗ atPos ER (cell c .ac) (h.val + 1 - 1) ∅ 0
        ∗ semVal (cell c (.am h)) 0 ∗ semVal (cell c (.ar h)) 0 ∗ MKeep c h.val)) := by
  have go := tri_mayGo x w K ιs c h
  have sd := tri_remote x w K ιs c (rightD c) asM arM (hsrc := (Memref.isWhole_whole cc0_scratch5).wordExact) (hdst := (Memref.isWhole_whole cc0_scratch6).wordExact)
    (.am h) (.ar h) (asS h) (arS h) rfl rfl (hsc := rfl) (hsem := ⟨⟨rfl, Or.inl rfl⟩, trivial⟩) rfl rfl
    (Finset.mem_singleton_self 0) (Finset.mem_singleton_self 0) (74 + 2 * h.val) (it := .ar h) (by clear go; revert h; decide) rfl rfl (k0_pay131 (mr x w h.val c))
    (reached ER (cell c .ac) h.val) (anyOf_intro c asM _)
    (by
      show _ ⊢ (iprop(owns ((rightD c : Dev nD) : Thread nD τ) arM fullShare (k0_pay131 (mr x w h.val (leftD (rightD c)))) ∗ reached ER (cell (leftD (rightD c)) .ac) h.val) : sProp 𝕄)
      rw [left_right])
  have wr := tri_waitDma x w K ιs c (.ar h) asM arM (Memref.isWhole_whole cc0_scratch5).wordExact (Memref.isWhole_whole cc0_scratch6).wordExact (arS h) rfl rfl rfl rfl
    (74 + 2 * h.val + 1) (by clear go sd; revert h; decide)
  have wl := tri_waitDma x w K ιs c (.am h) arM asM (Memref.isWhole_whole cc0_scratch6).wordExact (Memref.isWhole_whole cc0_scratch5).wordExact (asS h) rfl rfl rfl rfl
    (74 + 2 * h.val + 2) (fun it _ => lvl_pos it)
  have pay := tri_pay x w K ιs c (leftD c) .ac acreditS rfl h.val 0 (74 + 2 * h.val + 1) (it := .ac h) (by clear go sd wr wl; revert h; decide) rfl rfl rfl
    (by clear go sd wr wl; revert h; decide)
  have hpay : (anyOf c arM : sProp 𝕄) ⊢ iprop(kPay x w (leftD c) .ac h.val 0 ∗ MKeep c h.val) := by
    show _ ⊢ (iprop((if h.val < 2 then anyOf (rightD (leftD c)) arM else iprop(emp)) ∗ MKeep c h.val) : sProp 𝕄)
    rw [right_left]
    unfold MKeep
    by_cases h2 : h.val < 2
    · rw [if_pos h2, if_pos h2]
      iintro H
      isplitl [H]; · iexact H
      iempintro
    · rw [if_neg h2, if_neg h2]
      iintro H
      isplitr; · iempintro
      iexact H
  have hrcv : (kPay x w c (.ar h) 0 0 : sProp 𝕄) ⊢ iprop(owns (c : Thread nD τ) arM fullShare (k0_pay131 (mr x w h.val (leftD c))) ∗ reached ER (cell (leftD c) .ac) h.val) :=
    BI.Entails.refl _
  have hsnt : (kPay x w c (.am h) 0 0 : sProp 𝕄) ⊢ anyOf c asM := BI.Entails.refl _
  rw [show 74 + 2 * (h.val + 1) = 74 + 2 * h.val + 1 + 1 by omega, show h.val + 1 - 1 = h.val from Nat.add_sub_cancel ..]
  rw [maxHop_eq]
  unfold Tri MTok
  iintro ⟨#HC, HO, Hs, Hat, Hgo, ⟨Ht1, Ht2, Hat1, Hat2, Hc2, Hta⟩⟩
  ihave Hs := (show (anyOf c asM : sProp 𝕄) ⊢ iprop(∃ X, owns (c : Thread nD τ) asM fullShare X) from BI.Entails.refl _) $$ Hs
  icases Hs with ⟨%X, Hs⟩
  iapply (Tri.use (tri_load_part c asM wholeR (View.loadsAt_vmem h_S8x128) fullShare X)) $$ Hs
  iintro %_ ⟨-, Hs⟩
  ihave Hs := (Entails.of_eq (owns_as c X).symm) $$ Hs
  iapply (Tri.use (tri_store c asM wholeR (fun _ => rfl) (k0_pay131 (mr x w h.val c)) (View.stores_vmem_bits_univ h_S8x128 rfl) (.inl rfl) X)) $$ Hs
  iintro %_ Hs
  ihave Hs := (Entails.of_eq (owns_as c (k0_pay131 (mr x w h.val c)))) $$ Hs
  iapply (Tri.use (go)) $$ [HO Hat Hgo]
  · isplitr; · iexact HC
    isplitl [HO]; · iexact HO
    isplitl [Hat]; · iexact Hat
    iexact Hgo
  iintro %_ ⟨HO, Hat, Hre, Hd⟩
  iapply (Tri.use (sd)) $$ [HO Hs Hd Hre Ht1 Ht2]
  · isplitr; · iexact HC
    isplitl [HO]; · iexact HO
    isplitl [Hs]; · iexact Hs
    isplitl [Hd]; · iexact Hd
    isplitl [Hre]; · iexact Hre
    isplitl [Ht1]; · iexact Ht1
    iexact Ht2
  iintro %_ ⟨HO, Hc1⟩
  iapply (Tri.use (wr)) $$ [HO Hat2 Hc2]
  · isplitr; · iexact HC
    isplitl [HO]; · iexact HO
    isplitl [Hat2]; · iexact Hat2
    iexact Hc2
  iintro %_ ⟨HO, Hv2, Hp⟩
  ihave Hp := hrcv $$ Hp
  icases Hp with ⟨Hr, Hre⟩
  iapply (Tri.use (tri_load_part c arM firstR (View.loadsAt_vmem h_S1x1) fullShare (k0_pay131 (mr x w h.val (leftD c))))) $$ Hr
  iintro %v ⟨%hv, Hr⟩
  subst hv
  ihave Hr := (anyOf_intro c _ _) $$ Hr
  ihave Hr := hpay $$ Hr
  icases Hr with ⟨Hr, Hk⟩
  iapply (Tri.use (pay)) $$ [HO Hta Hr Hre]
  · isplitr; · iexact HC
    isplitl [HO]; · iexact HO
    isplitl [Hta]; · iexact Hta
    isplitl [Hr]; · iexact Hr
    iexact Hre
  iintro %_ HO
  iapply (Tri.use (wl)) $$ [HO Hat1 Hc1]
  · isplitr; · iexact HC
    isplitl [HO]; · iexact HO
    isplitl [Hat1]; · iexact Hat1
    iexact Hc1
  iintro %_ ⟨HO, Hv1, Hs⟩
  ihave Hs := hsnt $$ Hs
  unfold WP
  rw [Prog.pure_eq_ret, wp_ret]
  imodintro
  isplitr; · ipureintro; rfl
  isplitl [HO]; · iexact HO
  isplitl [Hs]; · iexact Hs
  isplitl [Hat]; · iexact Hat
  isplitl [Hv1]; · iexact Hv1
  isplitl [Hv2]; · iexact Hv2
  iexact Hk

/-! ## The credits no transfer takes -/

theorem owedL_end (c : Dev nD) : owedL c (allItems.drop 80) = 0 := rfl

theorem tri_restCredits (c : Dev nD) (d : Fin 2) :
    Tri c iprop(Ctx x w K ιs ∗ owesN c 80 ∗ CrSt c d 10 ∗ cred (tallyAt (cell c (.cr d)) 12 1) ∗ cred (tallyAt (cell c (.cr d)) 13 1))
      (semWaitWord (creditS d) 2#32) (fun _ => iprop(owesN c 80 ∗ atPos ER (cell c (.cr d)) 1 ∅ 0)) := by
  have wt (T : Finset ℕ) := tri_waitRest x w K ιs c (.cr d) (creditS d) rfl 2#32 2 (fun _ => rfl) (Finsupp.single 12 1 + Finsupp.single 13 1)
    ((Finsupp.single 12 1 + Finsupp.single 13 1 : ℕ →₀ ℕ).support.image ((SemLoc.reg (creditS d) : SemLoc sig), ·)) 80 0 10 T
    rfl (by rw [Idealize.SL.Util.total_add, Idealize.SL.Util.total_single, Idealize.SL.Util.total_single]) (Finset.Subset.refl _)
    (by rw [owedL_end, MayOwe_zero]; iintro -; iempintro)
  have hc : iprop(cred (tallyAt (cell c (.cr d)) 12 1) ∗ cred (tallyAt (cell c (.cr d)) 13 1)) ⊢ (cred (tallyOn (cell c (.cr d)) (Finsupp.single 12 1 + Finsupp.single 13 1)) : sProp 𝕄) := by
    rw [tallyOn_add]
    exact (cred_add _ _).2
  unfold Tri CrSt
  iintro ⟨#HC, HO, ⟨%T, %hT, Hat, -⟩, H12, H13⟩
  ihave Hc := hc $$ [H12 H13]
  · isplitl [H12]; · iexact H12
    iexact H13
  iapply (Tri.use_last (wt T)) $$ [HO Hat Hc]
  · isplitr; · iexact HC
    isplitl [HO]; · iexact HO
    isplitl [Hat]; · iexact Hat
    iexact Hc
  iintro %_ ⟨HO, Hat, -⟩
  isplitl [HO]; · iexact HO
  iexact Hat

theorem tri_lastCredits (c : Dev nD) :
    Tri c iprop(Ctx x w K ιs ∗ owesN c 80 ∗ (CrSt c 0 10 ∗ cred (tallyAt (cell c (.cr 0)) 12 1) ∗ cred (tallyAt (cell c (.cr 0)) 13 1))
        ∗ (CrSt c 1 10 ∗ cred (tallyAt (cell c (.cr 1)) 12 1) ∗ cred (tallyAt (cell c (.cr 1)) 13 1))
        ∗ atPos ER (cell c .ac) 2 ∅ 0 ∗ cred (tallyAt (cell c .ac) 2 1))
      (lastCredits (F := F))
      (fun _ => iprop(owesN c 80 ∗ atPos ER (cell c (.cr 0)) 1 ∅ 0 ∗ atPos ER (cell c (.cr 1)) 1 ∅ 0 ∗ atPos ER (cell c .ac) 3 ∅ 0)) := by
  have h0 := tri_restCredits x w K ιs c 0
  have h1 := tri_restCredits x w K ιs c 1
  have h2 := tri_acredit x w K ιs c 2 80 (by decide) (by clear h0 h1; decide)
  unfold Tri lastCredits
  iintro ⟨#HC, HO, Hc0, Hc1, Hat, Hc⟩
  iapply (Tri.use (h0)) $$ [HO Hc0]
  · isplitr; · iexact HC
    isplitl [HO]; · iexact HO
    iexact Hc0
  iintro %_ ⟨HO, Ha0⟩
  iapply (Tri.use (h1)) $$ [HO Hc1]
  · isplitr; · iexact HC
    isplitl [HO]; · iexact HO
    iexact Hc1
  iintro %_ ⟨HO, Ha1⟩
  iapply (Tri.use_last (h2)) $$ [HO Hat Hc]
  · isplitr; · iexact HC
    isplitl [HO]; · iexact HO
    isplitl [Hat]; · iexact Hat
    iexact Hc
  iintro %_ ⟨HO, Hat, -⟩
  isplitl [HO]; · iexact HO
  isplitl [Ha0]; · iexact Ha0
  isplitl [Ha1]; · iexact Ha1
  iexact Hat

end Cert.Ring

end
-- ==== Proof.Ring.Rescale.lean ====
/-
The rescaling of the output.
-/
module

public import proofs.«01_k».proof.Proof.Ring.Ends

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (x : Dev nD → S4096x1024.Idx → Elt F .f32) (w : Dev nD → S1024x8192.Idx → Elt F .f32)
  (K : Dev nD × Kind → ℕ) (ιs : Key → ℕ)

/-! ## A tile through its buffer -/

/-- A buffer at rest. -/
def TBuf (c : Dev nD) (b : Fin 4) : sProp 𝕄 := iprop(anyOf c (laneS (bufM b) (bufD b)) ∗ semVal ((c : Thread nD τ), SemLoc.dma (bufS b)) 0)
/-- A tile of finished sums, -/
def YT (c : Dev nD) (r : Fin 2) (b : Fin 4) : sProp 𝕄 := owns (c : Thread nD τ) (colOf oM (tileIx r b)) fullShare (Ytile x w c r b)
/-- and rescaled. -/
def OT (c : Dev nD) (r : Fin 2) (b : Fin 4) : sProp 𝕄 := owns (c : Thread nD τ) (colOf oM (tileIx r b)) fullShare (Otile x w c (tileIx r b))
/-- A tile on its way in, -/
def TI (c : Dev nD) (r : Fin 2) (b : Fin 4) : sProp 𝕄 :=
  Flight EC (c : Thread nD τ) (.dma (bufS b)) 0 NT
    iprop(owns (c : Thread nD τ) (laneS (bufM b) (bufD b)) fullShare (unsq squeezes_S1x1024x1024_S1024x1024 (Ytile x w c r b))
      ∗ owns (c : Thread nD τ) (colOf oM (tileIx r b)) fullShare (Ytile x w c r b))
/-- and out. -/
def TO (c : Dev nD) (r : Fin 2) (b : Fin 4) : sProp 𝕄 :=
  Flight EC (c : Thread nD τ) (.dma (bufS b)) 0 NT
    iprop(owns (c : Thread nD τ) (colOf oM (tileIx r b)) fullShare (sqz squeezes_S1x1024x1024_S1024x1024 (outVal (scF x w c) (ivF x w c) (Ylane x w c r b)))
      ∗ owns (c : Thread nD τ) (laneS (bufM b) (bufD b)) fullShare (outVal (scF x w c) (ivF x w c) (Ylane x w c r b)))

theorem bufS_none (b : Fin 4) : kindOf (.dma (bufS b)) = none := by revert b; decide
theorem buf_credit (b : Fin 4) : (laneOf (bufM b) (bufD b)).view.dmaCredit = NT := by
  obtain ⟨b, hb⟩ := b
  match b, hb with
  | 0, _ => rfl
  | 1, _ => rfl
  | 2, _ => rfl
  | 3, _ => rfl

theorem Otile_eq (c : Dev nD) (r : Fin 2) (b : Fin 4) : Otile x w c (tileIx r b) = sqz squeezes_S1x1024x1024_S1024x1024 (outVal (scF x w c) (ivF x w c) (Ylane x w c r b)) := by
  have h1 : (⟨(tileIx r b).val / 4, by have := (tileIx r b).isLt; omega⟩ : Fin 2) = r := Fin.ext (by show (4 * r.val + b.val) / 4 = r.val; omega)
  have h2 : (⟨(tileIx r b).val % 4, Nat.mod_lt _ (by decide)⟩ : Fin 4) = b := Fin.ext (by show (4 * r.val + b.val) % 4 = b.val; omega)
  unfold Otile
  rw [h1, h2]

theorem tri_tileIn (c : Dev nD) (r : Fin 2) (b : Fin 4) : Tri c iprop(YT x w c r b ∗ TBuf c b) (tileIn r b) (fun _ => TI x w c r b) :=
  tri_copyIn c oM (tileIx r b) (bufM b) (bufD b) (bufS b) fullShare (Ytile x w c r b)

theorem tri_scaleLane (c : Dev nD) (B : Memref sig .tc .vmem S2x1024x1024 .f32) (hB : B.IsWhole) (d : Fin 2) (sc iv : F .f32) (Y : S1x1024x1024.Idx → Elt F .f32) :
    Tri c (owns (c : Thread nD τ) (laneS B d) fullShare Y) (scaleLane B hB d sc iv)
      (fun _ => owns (c : Thread nD τ) (laneS B d) fullShare (outVal sc iv Y)) := by
  have ld := tri_load c B (laneR d) (fun _ => rfl) (View.loadsAt_vmem h_S1x1024x1024) fullShare Y
  have st (y : Vec F S1x1024x1024 .f32) := tri_store c B (laneR d) (fun _ => rfl) (outVal sc iv y) (View.stores_vmem_bits_univ h_S1x1024x1024 rfl) (.inl rfl) Y
  unfold Tri scaleLane
  iintro H
  iapply (Tri.use ld) $$ H
  iintro %y ⟨%hy, H⟩
  subst hy
  iapply (Tri.use ld) $$ H
  iintro %_ ⟨-, H⟩
  iapply (Tri.use_last (st y)) $$ H
  iintro %_ H
  iexact H

theorem tri_tileStep (c : Dev nD) (r : Fin 2) (b : Fin 4) (n : ℕ) :
    Tri c iprop(Ctx x w K ιs ∗ owesN c n ∗ TI x w c r b) (tileStep r b (scF x w c) (ivF x w c)) (fun _ => iprop(owesN c n ∗ TO x w c r b)) := by
  have wt := tri_waitLocal x w K ιs c (bufS b) (src := colOf oM (tileIx r b)) (dst := laneOf (bufM b) (bufD b)) (hsrc := colOf_exact _ _) (hdst := laneOf_exact _ _)
    (buf_credit b) (bufS_none b) n (iprop(owns (c : Thread nD τ) (laneS (bufM b) (bufD b)) fullShare (unsq squeezes_S1x1024x1024_S1024x1024 (Ytile x w c r b))
      ∗ owns (c : Thread nD τ) (colOf oM (tileIx r b)) fullShare (Ytile x w c r b)))
  have e : unsq squeezes_S1x1024x1024_S1024x1024 (Ytile x w c r b) = Ylane x w c r b := unsq_sqz _ _
  rw [e] at wt
  have sl := tri_scaleLane c (bufM b) (bufM_whole b) (bufD b) (scF x w c) (ivF x w c) (Ylane x w c r b)
  have ot := tri_copyOut c oM (tileIx r b) (bufM b) (bufD b) (bufS b) fullShare (outVal (scF x w c) (ivF x w c) (Ylane x w c r b))
  unfold Tri tileStep tileWait tileOut TI TO
  rw [e]
  iintro ⟨#HC, HO, HF⟩
  iapply (Tri.use (wt)) $$ [HO HF]
  · isplitr; · iexact HC
    isplitl [HO]; · iexact HO
    iexact HF
  iintro %_ ⟨HO, Hv, Hl, Ht⟩
  iapply (Tri.use sl) $$ Hl
  iintro %_ Hl
  ihave Ht := (anyOf_intro c _ _) $$ Ht
  iapply (Tri.use_last (ot)) $$ [Hl Ht Hv]
  · isplitl [Hl]; · iexact Hl
    isplitl [Ht]; · iexact Ht
    iexact Hv
  iintro %_ HF
  isplitl [HO]; · iexact HO
  iexact HF

theorem tri_tileDone (c : Dev nD) (r : Fin 2) (b : Fin 4) (n : ℕ) :
    Tri c iprop(Ctx x w K ιs ∗ owesN c n ∗ TO x w c r b) (tileDone r b) (fun _ => iprop(owesN c n ∗ OT x w c r b ∗ TBuf c b)) := by
  have wt := tri_waitLocal x w K ιs c (bufS b) (src := laneOf (bufM b) (bufD b)) (dst := colOf oM (tileIx r b)) (hsrc := laneOf_exact _ _) (hdst := colOf_exact _ _)
    rfl (bufS_none b) n (iprop(owns (c : Thread nD τ) (colOf oM (tileIx r b)) fullShare (Otile x w c (tileIx r b))
      ∗ owns (c : Thread nD τ) (laneS (bufM b) (bufD b)) fullShare (outVal (scF x w c) (ivF x w c) (Ylane x w c r b))))
  unfold Tri tileDone TO OT TBuf
  rw [← Otile_eq]
  iintro ⟨#HC, HO, HF⟩
  iapply (Tri.use_last (wt)) $$ [HO HF]
  · isplitr; · iexact HC
    isplitl [HO]; · iexact HO
    iexact HF
  iintro %_ ⟨HO, Hv, Ht, Hl⟩
  ihave Hl := (anyOf_intro c _ _) $$ Hl
  isplitl [HO]; · iexact HO
  isplitl [Ht]; · iexact Ht
  isplitl [Hl]; · iexact Hl
  iexact Hv

/-! ## All the tiles -/

theorem tri_rescale (c : Dev nD) (n : ℕ) :
    Tri c iprop(Ctx x w K ιs ∗ owesN c n
        ∗ (YT x w c 0 0 ∗ YT x w c 0 1 ∗ YT x w c 0 2 ∗ YT x w c 0 3) ∗ (YT x w c 1 0 ∗ YT x w c 1 1 ∗ YT x w c 1 2 ∗ YT x w c 1 3)
        ∗ TBuf c 0 ∗ TBuf c 1 ∗ TBuf c 2 ∗ TBuf c 3)
      (rescale (scF x w c) (ivF x w c))
      (fun _ => iprop(owesN c n
        ∗ (OT x w c 0 0 ∗ OT x w c 0 1 ∗ OT x w c 0 2 ∗ OT x w c 0 3) ∗ (OT x w c 1 0 ∗ OT x w c 1 1 ∗ OT x w c 1 2 ∗ OT x w c 1 3)
        ∗ TBuf c 0 ∗ TBuf c 1 ∗ TBuf c 2 ∗ TBuf c 3)) := by
  unfold Tri rescale
  iintro ⟨#HC, HO, ⟨Y00, Y01, Y02, Y03⟩, ⟨Y10, Y11, Y12, Y13⟩, B0, B1, B2, B3⟩
  iapply (Tri.use (tri_tileIn x w c 0 0)) $$ [Y00 B0]
  · isplitl [Y00]; · iexact Y00
    iexact B0
  iintro %_ F0
  iapply (Tri.use (tri_tileIn x w c 0 1)) $$ [Y01 B1]
  · isplitl [Y01]; · iexact Y01
    iexact B1
  iintro %_ F1
  iapply (Tri.use (tri_tileIn x w c 0 2)) $$ [Y02 B2]
  · isplitl [Y02]; · iexact Y02
    iexact B2
  iintro %_ F2
  iapply (Tri.use (tri_tileIn x w c 0 3)) $$ [Y03 B3]
  · isplitl [Y03]; · iexact Y03
    iexact B3
  iintro %_ F3
  iapply (Tri.use (tri_tileStep x w K ιs c 0 0 n)) $$ [HO F0]
  · isplitr; · iexact HC
    isplitl [HO]; · iexact HO
    iexact F0
  iintro %_ ⟨HO, F0⟩
  iapply (Tri.use (tri_tileDone x w K ιs c 0 0 n)) $$ [HO F0]
  · isplitr; · iexact HC
    isplitl [HO]; · iexact HO
    iexact F0
  iintro %_ ⟨HO, O00, B0⟩
  iapply (Tri.use (tri_tileIn x w c 1 0)) $$ [Y10 B0]
  · isplitl [Y10]; · iexact Y10
    iexact B0
  iintro %_ F0
  iapply (Tri.use (tri_tileStep x w K ιs c 0 1 n)) $$ [HO F1]
  · isplitr; · iexact HC
    isplitl [HO]; · iexact HO
    iexact F1
  iintro %_ ⟨HO, F1⟩
  iapply (Tri.use (tri_tileDone x w K ιs c 0 1 n)) $$ [HO F1]
  · isplitr; · iexact HC
    isplitl [HO]; · iexact HO
    iexact F1
  iintro %_ ⟨HO, O01, B1⟩
  iapply (Tri.use (tri_tileIn x w c 1 1)) $$ [Y11 B1]
  · isplitl [Y11]; · iexact Y11
    iexact B1
  iintro %_ F1
  iapply (Tri.use (tri_tileStep x w K ιs c 0 2 n)) $$ [HO F2]
  · isplitr; · iexact HC
    isplitl [HO]; · iexact HO
    iexact F2
  iintro %_ ⟨HO, F2⟩
  iapply (Tri.use (tri_tileDone x w K ιs c 0 2 n)) $$ [HO F2]
  · isplitr; · iexact HC
    isplitl [HO]; · iexact HO
    iexact F2
  iintro %_ ⟨HO, O02, B2⟩
  iapply (Tri.use (tri_tileIn x w c 1 2)) $$ [Y12 B2]
  · isplitl [Y12]; · iexact Y12
    iexact B2
  iintro %_ F2
  iapply (Tri.use (tri_tileStep x w K ιs c 0 3 n)) $$ [HO F3]
  · isplitr; · iexact HC
    isplitl [HO]; · iexact HO
    iexact F3
  iintro %_ ⟨HO, F3⟩
  iapply (Tri.use (tri_tileDone x w K ιs c 0 3 n)) $$ [HO F3]
  · isplitr; · iexact HC
    isplitl [HO]; · iexact HO
    iexact F3
  iintro %_ ⟨HO, O03, B3⟩
  iapply (Tri.use (tri_tileIn x w c 1 3)) $$ [Y13 B3]
  · isplitl [Y13]; · iexact Y13
    iexact B3
  iintro %_ F3
  iapply (Tri.use (tri_tileStep x w K ιs c 1 0 n)) $$ [HO F0]
  · isplitr; · iexact HC
    isplitl [HO]; · iexact HO
    iexact F0
  iintro %_ ⟨HO, F0⟩
  iapply (Tri.use (tri_tileStep x w K ιs c 1 1 n)) $$ [HO F1]
  · isplitr; · iexact HC
    isplitl [HO]; · iexact HO
    iexact F1
  iintro %_ ⟨HO, F1⟩
  iapply (Tri.use (tri_tileStep x w K ιs c 1 2 n)) $$ [HO F2]
  · isplitr; · iexact HC
    isplitl [HO]; · iexact HO
    iexact F2
  iintro %_ ⟨HO, F2⟩
  iapply (Tri.use (tri_tileStep x w K ιs c 1 3 n)) $$ [HO F3]
  · isplitr; · iexact HC
    isplitl [HO]; · iexact HO
    iexact F3
  iintro %_ ⟨HO, F3⟩
  iapply (Tri.use (tri_tileDone x w K ιs c 1 0 n)) $$ [HO F0]
  · isplitr; · iexact HC
    isplitl [HO]; · iexact HO
    iexact F0
  iintro %_ ⟨HO, O10, B0⟩
  iapply (Tri.use (tri_tileDone x w K ιs c 1 1 n)) $$ [HO F1]
  · isplitr; · iexact HC
    isplitl [HO]; · iexact HO
    iexact F1
  iintro %_ ⟨HO, O11, B1⟩
  iapply (Tri.use (tri_tileDone x w K ιs c 1 2 n)) $$ [HO F2]
  · isplitr; · iexact HC
    isplitl [HO]; · iexact HO
    iexact F2
  iintro %_ ⟨HO, O12, B2⟩
  iapply (Tri.use_last (tri_tileDone x w K ιs c 1 3 n)) $$ [HO F3]
  · isplitr; · iexact HC
    isplitl [HO]; · iexact HO
    iexact F3
  iintro %_ ⟨HO, O13, B3⟩
  isplitl [HO]; · iexact HO
  isplitl [O00 O01 O02 O03]
  · isplitl [O00]; · iexact O00
    isplitl [O01]; · iexact O01
    isplitl [O02]; · iexact O02
    iexact O03
  isplitl [O10 O11 O12 O13]
  · isplitl [O10]; · iexact O10
    isplitl [O11]; · iexact O11
    isplitl [O12]; · iexact O12
    iexact O13
  isplitl [B0]; · iexact B0
  isplitl [B1]; · iexact B1
  isplitl [B2]; · iexact B2
  iexact B3

end Cert.Ring

end
-- ==== Proof.Ring.Body.lean ====
/-
One device's whole run.
-/
module

public import proofs.«01_k».proof.Proof.Ring.Rescale

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (x : Dev nD → S4096x1024.Idx → Elt F .f32) (w : Dev nD → S1024x8192.Idx → Elt F .f32)
  (K : Dev nD × Kind → ℕ) (ιs : Key → ℕ)

/-! ## What a lane starts from -/

/-- What sending hop `g` and taking it in need, but for the slots' being empty at the start. -/
def HopTok (c : Dev nD) (d : Fin 2) (g : Fin 12) : sProp 𝕄 :=
  iprop((if 2 ≤ g.val then cred (tallyAt (cell c (.cr d)) g.val 1) else iprop(emp))
    ∗ writeTok ESlot ((tgtD d c, d, slot g.val) : Key) (g.val / 2 + 1) ∗ (XTok c d g 0 ∗ XTok c d g 1) ∗ RTk c d g)
/-- The semaphores a hop leaves. -/
def HopDone (c : Dev nD) (d : Fin 2) (g : Fin 12) : sProp 𝕄 :=
  iprop((semVal (cell c (.snd d g 0)) 0 ∗ semVal (cell c (.snd d g 1)) 0) ∗ RDone c d g)

theorem goTok (c : Dev nD) (d : Fin 2) (g : Fin 12) :
    iprop(Empty0 (tgtD d c) d ∗ (if 2 ≤ g.val then cred (tallyAt (cell c (.cr d)) g.val 1) else iprop(emp)) ∗ writeTok ESlot ((tgtD d c, d, slot g.val) : Key) (g.val / 2 + 1))
      ⊢ (GTok c d g : sProp 𝕄) := by
  unfold GTok Empty0
  by_cases h : 2 ≤ g.val
  · rw [if_pos h, if_pos h]
    iintro ⟨-, Hc, Hw⟩
    isplitl [Hc]; · iexact Hc
    iexact Hw
  · rw [if_neg h, if_neg h]
    have hg : g = 0 ∨ g = 1 := by revert h; revert g; decide
    rcases hg with rfl | rfl
    · iintro ⟨⟨He, -⟩, -, Hw⟩
      isplitl [He]; · iexact He
      iexact Hw
    · iintro ⟨⟨-, He⟩, -, Hw⟩
      isplitl [He]; · iexact He
      iexact Hw

theorem hopTok_open (c : Dev nD) (d : Fin 2) (g : Fin 12) : iprop(Empty0 (tgtD d c) d ∗ HopTok c d g) ⊢ (STok c d g ∗ RTk c d g : sProp 𝕄) := by
  unfold HopTok STok
  iintro ⟨He, Hc, Hw, ⟨H0, H1⟩, Hr⟩
  ihave Hg := (goTok c d g) $$ [He Hc Hw]
  · isplitl [He]; · iexact He
    isplitl [Hc]; · iexact Hc
    iexact Hw
  isplitr [Hr]
  · isplitl [Hg]; · iexact Hg
    isplitl [H0]; · iexact H0
    iexact H1
  · iexact Hr

theorem hopDone_mk (c : Dev nD) (d : Fin 2) (g : Fin 12) : iprop(SVs c d (g.val + 2) ∗ RDone c d g) ⊢ (HopDone c d g : sProp 𝕄) := by
  unfold HopDone SVs
  rw [dif_pos ⟨by omega, by omega⟩]
  exact BI.Entails.refl _

theorem fin4_sep (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem fin3_sep (Φ : Fin 3 → sProp 𝕄) : bigSep Finset.univ Φ = iprop(Φ 0 ∗ Φ 1 ∗ Φ 2) :=
  bigSep_univ_eq_bigSepL [0, 1, 2] (by decide) (by decide) Φ
theorem fin12_sep (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- A lane's buffers at the start. -/
def Lane0 (c : Dev nD) (d : Fin 2) : sProp 𝕄 :=
  iprop(anyOf c (laneS wvM d) ∗ semVal ((c : Thread nD τ), SemLoc.dma (wS d)) 0 ∗ anyOf c (laneS acM d) ∗ (slotAny c sdM d 0 ∗ slotAny c sdM d 1)
    ∗ atPos ER (cell c (.cr d)) 0 ∅ 0 ∗ anyOf c (laneS yM d) ∗ semVal ((c : Thread nD τ), SemLoc.dma (yS d)) 0)
/-- What is for after the last panel. -/
def LaneK (c : Dev nD) (d : Fin 2) : sProp 𝕄 :=
  iprop((cred (tallyAt (cell c (.cr d)) 12 1) ∗ cred (tallyAt (cell c (.cr d)) 13 1))
    ∗ writeTok ESlot ((c, d, 0) : Key) 7 ∗ writeTok ESlot ((c, d, 1) : Key) 7)
theorem laneK_open (c : Dev nD) (d : Fin 2) : (LaneK c d : sProp 𝕄) ⊢ iprop((cred (tallyAt (cell c (.cr d)) 12 1) ∗ cred (tallyAt (cell c (.cr d)) 13 1))
    ∗ writeTok ESlot ((c, d, 0) : Key) 7 ∗ writeTok ESlot ((c, d, 1) : Key) 7) := BI.Entails.refl _
/-- All a lane starts from. -/
def LaneA (c : Dev nD) (d : Fin 2) : sProp 𝕄 :=
  iprop(Lane0 c d ∗ (bigSep Finset.univ fun p : Fin 4 => WTile w c d p) ∗ (bigSep Finset.univ fun p : Fin 4 => anyOf c (colOf oM (colIx d p)))
    ∗ (bigSep Finset.univ fun g : Fin 12 => HopTok c d g) ∗ LaneK c d)

theorem lane_first (c : Dev nD) (d : Fin 2) : iprop(Lane0 c d ∗ Rds c d 0) ⊢ (LSt x w c d 0 : sProp 𝕄) := by
  unfold Lane0 LSt S0 YSt
  rw [dif_neg (by omega)]
  iintro ⟨⟨Hv, Hw, Ha, ⟨Hs0, Hs1⟩, Hat, Hy, Hys⟩, Hr⟩
  isplitl [Hv]; · iexact Hv
  isplitl [Hw]; · iexact Hw
  isplitl [Ha]; · iexact Ha
  isplitr [Hy Hys]
  · isplitl [Hs0]
    · iapply (show (slotAny c sdM d 0 : sProp 𝕄) ⊢ Free c d (3 * 0) from Entails.of_eq (by unfold Free; rw [dif_neg (by omega)]; rfl)) $$ Hs0
    isplitl [Hs1]
    · iapply (show (slotAny c sdM d 1 : sProp 𝕄) ⊢ Free c d (3 * 0 + 1) from Entails.of_eq (by unfold Free; rw [dif_neg (by omega)]; rfl)) $$ Hs1
    isplitl [Hat]
    · unfold CrSt
      iexists (∅ : Finset ℕ)
      isplitr; · ipureintro; exact ⟨Finset.empty_subset _, Nat.le_refl 0⟩
      isplitl [Hat]; · iexact Hat
      rw [bigSep_empty]
      iempintro
    isplitl [Hr]; · iexact Hr
    iapply (Fact_zero c d)
    iempintro
  · isplitl [Hy]; · iexact Hy
    iexact Hys

theorem panelTok (c : Dev nD) (d : Fin 2) (p : Fin 4) :
    iprop(Empty0 (tgtD d c) d ∗ WTile w c d p ∗ anyOf c (colOf oM (colIx d p)) ∗ HopTok c d (hopOf p 0) ∗ HopTok c d (hopOf p 1) ∗ HopTok c d (hopOf p 2))
      ⊢ (PTok w c d p : sProp 𝕄) := by
  unfold PTok
  iintro ⟨#He, Hw, Ho, H0, H1, H2⟩
  ihave H0 := (hopTok_open c d (hopOf p 0)) $$ [H0]
  · isplitr; · iexact He
    iexact H0
  icases H0 with ⟨S0, R0⟩
  ihave H1 := (hopTok_open c d (hopOf p 1)) $$ [H1]
  · isplitr; · iexact He
    iexact H1
  icases H1 with ⟨S1, R1⟩
  ihave H2 := (hopTok_open c d (hopOf p 2)) $$ [H2]
  · isplitr; · iexact He
    iexact H2
  icases H2 with ⟨S2, R2⟩
  isplitl [Hw]; · iexact Hw
  isplitl [Ho]; · iexact Ho
  isplitl [S0 S1 S2]
  · isplitl [S0]; · iexact S0
    isplitl [S1]; · iexact S1
    iexact S2
  isplitl [R0]; · iexact R0
  isplitl [R1]; · iexact R1
  iexact R2

theorem lane_start (c : Dev nD) (d : Fin 2) :
    iprop(LaneA w c d ∗ Rds c d 0 ∗ Empty0 (tgtD d c) d) ⊢ (LSt x w c d 0 ∗ (PTok w c d 0 ∗ PTok w c d 1 ∗ PTok w c d 2 ∗ PTok w c d 3) ∗ LaneK c d : sProp 𝕄) := by
  unfold LaneA
  rw [fin4_sep, fin4_sep, fin12_sep]
  iintro ⟨⟨H0, ⟨W0, W1, W2, W3⟩, ⟨O0, O1, O2, O3⟩, ⟨G0, G1, G2, G3, G4, G5, G6, G7, G8, G9, G10, G11⟩, HK⟩, Hr, #He⟩
  ihave H0 := (lane_first x w c d) $$ [H0 Hr]
  · isplitl [H0]; · iexact H0
    iexact Hr
  ihave P0 := (panelTok w c d 0) $$ [W0 O0 G0 G1 G2]
  · isplitr; · iexact He
    isplitl [W0]; · iexact W0
    isplitl [O0]; · iexact O0
    isplitl [G0]; · iexact G0
    isplitl [G1]; · iexact G1
    iexact G2
  ihave P1 := (panelTok w c d 1) $$ [W1 O1 G3 G4 G5]
  · isplitr; · iexact He
    isplitl [W1]; · iexact W1
    isplitl [O1]; · iexact O1
    isplitl [G3]; · iexact G3
    isplitl [G4]; · iexact G4
    iexact G5
  ihave P2 := (panelTok w c d 2) $$ [W2 O2 G6 G7 G8]
  · isplitr; · iexact He
    isplitl [W2]; · iexact W2
    isplitl [O2]; · iexact O2
    isplitl [G6]; · iexact G6
    isplitl [G7]; · iexact G7
    iexact G8
  ihave P3 := (panelTok w c d 3) $$ [W3 O3 G9 G10 G11]
  · isplitr; · iexact He
    isplitl [W3]; · iexact W3
    isplitl [O3]; · iexact O3
    isplitl [G9]; · iexact G9
    isplitl [G10]; · iexact G10
    iexact G11
  isplitl [H0]; · iexact H0
  isplitl [P0 P1 P2 P3]
  · isplitl [P0]; · iexact P0
    isplitl [P1]; · iexact P1
    isplitl [P2]; · iexact P2
    iexact P3
  iexact HK

/-! ## What it ends with -/

theorem slots_back (c : Dev nD) (d : Fin 2) :
    iprop(Ctx x w K ιs ∗ Fact c d 12 ∗ writeTok ESlot ((c, d, 0) : Key) 7 ∗ writeTok ESlot ((c, d, 1) : Key) 7)
      ⊢ (|={Set.univ}=> (slotAny c rvM d 0 ∗ slotAny c rvM d 1) : sProp 𝕄) := by
  have tk (s : Fin 2) := slot_take ESlot (ι := ιs ((c, d, s) : Key)) (k := ((c, d, s) : Key)) (Es := Set.univ) (S := slotAny (F := F) c rvM d s) (Set.mem_univ _) 7
  have f0 := Fact_get (F := F) c d 12 10 (by omega)
  have f1 := Fact_get (F := F) c d 12 11 (by omega)
  iintro ⟨#HC, #HF, H0, H1⟩
  ihave #HF0 := f0 $$ HF
  ihave #HF1 := f1 $$ HF
  imod (tk 0) $$ [H0] with S0
  · isplitr; · iapply (ctx_slot x w K ιs ((c, d, 0) : Key)) $$ HC
    isplitr; · iexact HF0
    iexact H0
  imod (tk 1) $$ [H1] with S1
  · isplitr; · iapply (ctx_slot x w K ιs ((c, d, 1) : Key)) $$ HC
    isplitr; · iexact HF1
    iexact H1
  imodintro
  isplitl [S0]; · iexact S0
  iexact S1

/-- A lane's finished sums, its weights, its closed semaphores. -/
def LaneD (c : Dev nD) (d : Fin 2) : sProp 𝕄 :=
  iprop((bigSep Finset.univ fun p : Fin 4 => WTile w c d p) ∗ (YT x w c d 0 ∗ YT x w c d 1 ∗ YT x w c d 2 ∗ YT x w c d 3)
    ∗ (bigSep Finset.univ fun g : Fin 12 => HopDone c d g))

theorem laneD_open (c : Dev nD) (d : Fin 2) : (LaneD x w c d : sProp 𝕄) ⊢ iprop((bigSep Finset.univ fun p : Fin 4 => WTile w c d p)
    ∗ (YT x w c d 0 ∗ YT x w c d 1 ∗ YT x w c d 2 ∗ YT x w c d 3) ∗ (bigSep Finset.univ fun g : Fin 12 => HopDone c d g)) := BI.Entails.refl _

theorem lane_done (c : Dev nD) (d : Fin 2) :
    iprop(Spent x w c d 0 ∗ Spent x w c d 1 ∗ Spent x w c d 2 ∗ Spent x w c d 3 ∗ YDone x w c d 4 ∗ SVs c d 12 ∗ SVs c d 13) ⊢ (LaneD x w c d : sProp 𝕄) := by
  have y1 : (YDone x w c d (1 : Fin 4).val : sProp 𝕄) ⊢ YT x w c d 0 := Entails.of_eq (YDone_succ x w c d 0)
  have y2 : (YDone x w c d (2 : Fin 4).val : sProp 𝕄) ⊢ YT x w c d 1 := Entails.of_eq (YDone_succ x w c d 1)
  have y3 : (YDone x w c d (3 : Fin 4).val : sProp 𝕄) ⊢ YT x w c d 2 := Entails.of_eq (YDone_succ x w c d 2)
  have y4 : (YDone x w c d 4 : sProp 𝕄) ⊢ YT x w c d 3 := Entails.of_eq (YDone_succ x w c d 3)
  unfold LaneD Spent
  rw [fin4_sep, fin12_sep]
  iintro ⟨⟨W0, Y0, ⟨V0, V1, V2⟩, R0, R1, R2⟩, ⟨W1, Y1, ⟨V3, V4, V5⟩, R3, R4, R5⟩, ⟨W2, Y2, ⟨V6, V7, V8⟩, R6, R7, R8⟩, ⟨W3, Y3, ⟨V9, V10, V11⟩, R9, R10, R11⟩, Y4, V12, V13⟩
  ihave Y1 := y1 $$ Y1
  ihave Y2 := y2 $$ Y2
  ihave Y3 := y3 $$ Y3
  ihave Y4 := y4 $$ Y4
  ihave D0 := (hopDone_mk c d 0) $$ [V2 R0]
  · isplitl [V2]; · iexact V2
    iexact R0
  ihave D1 := (hopDone_mk c d 1) $$ [V3 R1]
  · isplitl [V3]; · iexact V3
    iexact R1
  ihave D2 := (hopDone_mk c d 2) $$ [V4 R2]
  · isplitl [V4]; · iexact V4
    iexact R2
  ihave D3 := (hopDone_mk c d 3) $$ [V5 R3]
  · isplitl [V5]; · iexact V5
    iexact R3
  ihave D4 := (hopDone_mk c d 4) $$ [V6 R4]
  · isplitl [V6]; · iexact V6
    iexact R4
  ihave D5 := (hopDone_mk c d 5) $$ [V7 R5]
  · isplitl [V7]; · iexact V7
    iexact R5
  ihave D6 := (hopDone_mk c d 6) $$ [V8 R6]
  · isplitl [V8]; · iexact V8
    iexact R6
  ihave D7 := (hopDone_mk c d 7) $$ [V9 R7]
  · isplitl [V9]; · iexact V9
    iexact R7
  ihave D8 := (hopDone_mk c d 8) $$ [V10 R8]
  · isplitl [V10]; · iexact V10
    iexact R8
  ihave D9 := (hopDone_mk c d 9) $$ [V11 R9]
  · isplitl [V11]; · iexact V11
    iexact R9
  ihave D10 := (hopDone_mk c d 10) $$ [V12 R10]
  · isplitl [V12]; · iexact V12
    iexact R10
  ihave D11 := (hopDone_mk c d 11) $$ [V13 R11]
  · isplitl [V13]; · iexact V13
    iexact R11
  isplitl [W0 W1 W2 W3]
  · isplitl [W0]; · iexact W0
    isplitl [W1]; · iexact W1
    isplitl [W2]; · iexact W2
    iexact W3
  isplitl [Y1 Y2 Y3 Y4]
  · isplitl [Y1]; · iexact Y1
    isplitl [Y2]; · iexact Y2
    isplitl [Y3]; · iexact Y3
    iexact Y4
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  iexact D11

/-! ## The run -/

/-- What the meeting and the ring of the maxima start from. -/
def Mx0 (c : Dev nD) : sProp 𝕄 :=
  iprop(anyOf c asM ∗ anyOf c arM
    ∗ (dutyTok ER (cell (leftD c) .bar) 0 0 ∗ dutyTok ER (cell (rightD c) .bar) 0 1 ∗ cred (tallyAt (cell c .bar) 0 2) ∗ atPos ER (cell c .bar) 0 ∅ 0)
    ∗ atPos ER (cell c .ac) 0 ∅ 0
    ∗ (cred (tallyAt (cell c .ac) 0 1) ∗ cred (tallyAt (cell c .ac) 1 1) ∗ cred (tallyAt (cell c .ac) 2 1))
    ∗ MTok c 0 ∗ MTok c 1 ∗ MTok c 2)

/-- A lane's part at the end. -/
def LaneE (c : Dev nD) (d : Fin 2) : sProp 𝕄 :=
  iprop(anyOf c (laneS wvM d) ∗ (slotAny c sdM d 0 ∗ slotAny c sdM d 1) ∗ (slotAny c rvM d 0 ∗ slotAny c rvM d 1)
    ∗ (bigSep Finset.univ fun p : Fin 4 => WTile w c d p) ∗ (bigSep Finset.univ fun g : Fin 12 => HopDone c d g) ∗ semVal (cell c (.cr d)) 0)
/-- The tiles of the result. -/
def Outs (c : Dev nD) : sProp 𝕄 :=
  iprop((OT x w c 0 0 ∗ OT x w c 0 1 ∗ OT x w c 0 2 ∗ OT x w c 0 3) ∗ (OT x w c 1 0 ∗ OT x w c 1 1 ∗ OT x w c 1 2 ∗ OT x w c 1 3))
def MxE (c : Dev nD) : sProp 𝕄 :=
  iprop(anyOf c asM ∗ anyOf c arM ∗ semVal (cell c .bar) 0 ∗ semVal (cell c .ac) 0
    ∗ (semVal (cell c (.am 0)) 0 ∗ semVal (cell c (.am 1)) 0 ∗ semVal (cell c (.am 2)) 0)
    ∗ (semVal (cell c (.ar 0)) 0 ∗ semVal (cell c (.ar 1)) 0 ∗ semVal (cell c (.ar 2)) 0))

theorem tri_panelM (c : Dev nD) (p : Fin 4) :
    Tri c iprop(Ctx x w K ιs ∗ owesN c (2 + 18 * p.val) ∗ owns (c : Thread nD τ) xM fullShare (x c)
        ∗ (LSt x w c 0 p.val ∗ PTok w c 0 p) ∗ (LSt x w c 1 p.val ∗ PTok w c 1 p))
      (panel c p (mLoc x w c p.val))
      (fun m' => iprop(⌜m' = mLoc x w c (p.val + 1)⌝ ∗ owesN c (2 + 18 * (p.val + 1)) ∗ owns (c : Thread nD τ) xM fullShare (x c)
        ∗ (LSt x w c 0 (p.val + 1) ∗ Spent x w c 0 p) ∗ (LSt x w c 1 (p.val + 1) ∗ Spent x w c 1 p))) := by
  have e : mLoc x w c (p.val + 1) = mPanel x w c p (mLoc x w c p.val) := by
    show mPanel x w c ⟨p.val % 4, _⟩ _ = _
    rw [show (⟨p.val % 4, Nat.mod_lt _ (by decide)⟩ : Fin 4) = p from Fin.ext (Nat.mod_eq_of_lt p.isLt)]
  rw [e]
  exact tri_panel x w K ιs c p (mLoc x w c p.val)

theorem tbufY (c : Dev nD) : (iprop(anyOf c (laneS yM 0) ∗ semVal ((c : Thread nD τ), SemLoc.dma (yS 0)) 0) ⊢ (TBuf c 0 : sProp 𝕄))
    ∧ (iprop(anyOf c (laneS yM 1) ∗ semVal ((c : Thread nD τ), SemLoc.dma (yS 1)) 0) ⊢ (TBuf c 1 : sProp 𝕄)) := ⟨BI.Entails.refl _, BI.Entails.refl _⟩
theorem tbufA (c : Dev nD) : (iprop(anyOf c (laneS acM 0) ∗ semVal ((c : Thread nD τ), SemLoc.dma (wS 0)) 0) ⊢ (TBuf c 2 : sProp 𝕄))
    ∧ (iprop(anyOf c (laneS acM 1) ∗ semVal ((c : Thread nD τ), SemLoc.dma (wS 1)) 0) ⊢ (TBuf c 3 : sProp 𝕄)) := ⟨BI.Entails.refl _, BI.Entails.refl _⟩

theorem tri_dev (c : Dev nD) (P : sProp 𝕄) : Tri c P (lift (F := F) .deviceId) (fun a => iprop(⌜c = a⌝ ∗ P)) := by
  unfold Tri WP
  show _ ⊢ wp frame (wpE (defs₀ (F := F)) 𝒱₀ (c : Thread nD τ) none) Set.univ (Prog.op .deviceId .ret) _
  rw [wp_deviceId, wp_ret]
  iintro H
  imodintro
  isplitr
  · ipureintro; rfl
  · iexact H

theorem lane_late (c : Dev nD) (d : Fin 2) : (LSt x w c d ((3 : Fin 4).val + 1) : sProp 𝕄) ⊢ iprop(anyOf c (laneS wvM d) ∗ semVal ((c : Thread nD τ), SemLoc.dma (wS d)) 0 ∗ anyOf c (laneS acM d)
    ∗ (Free c d 12 ∗ Free c d 13 ∗ CrSt c d 10 ∗ Rds c d 12 ∗ Fact c d 12) ∗ YSt x w c d 4) := BI.Entails.refl _

theorem tri_body (c : Dev nD) :
    Tri c iprop(Ctx x w K ιs ∗ owesN c 0 ∗ owns (c : Thread nD τ) xM fullShare (x c) ∗ (LaneA w c 0 ∗ Rcv0 c 0) ∗ (LaneA w c 1 ∗ Rcv0 c 1) ∗ Mx0 c)
      (ringBody (F := F))
      (fun _ => iprop(owesN c 80 ∗ owns (c : Thread nD τ) xM fullShare (x c) ∗ LaneE w c 0 ∗ LaneE w c 1 ∗ Outs x w c
        ∗ (TBuf c 0 ∗ TBuf c 1 ∗ TBuf c 2 ∗ TBuf c 3) ∗ MxE c)) := by
  have go0 : (anyOf (rightD c) arM : sProp 𝕄) ⊢ MGo c 0 := Entails.of_eq (if_pos rfl).symm
  have go1 : (cred (tallyAt (cell c .ac) 0 1) : sProp 𝕄) ⊢ MGo c 1 := Entails.of_eq (if_neg (by decide)).symm
  have go2 : (cred (tallyAt (cell c .ac) 1 1) : sProp 𝕄) ⊢ MGo c 2 := Entails.of_eq (if_neg (by decide)).symm
  have kp2 : (MKeep c (2 : Fin 3).val : sProp 𝕄) ⊢ anyOf c arM := Entails.of_eq (if_neg (by decide))
  have hs := tri_handshake x w K ιs c
  have p0 := tri_panelM x w K ιs c 0
  have p1 := tri_panelM x w K ιs c 1
  have p2 := tri_panelM x w K ιs c 2
  have p3 := tri_panelM x w K ιs c 3
  have d0 := tri_drain x w K ιs c 0 74
  have d1 := tri_drain x w K ιs c 1 74
  have m0 := tri_maxHop x w K ιs c 0
  have m1 := tri_maxHop x w K ιs c 1
  have m2 := tri_maxHop x w K ιs c 2
  have lc := tri_lastCredits x w K ιs c
  have rs := tri_rescale x w K ιs c 80
  unfold Tri ringBody Mx0
  iintro ⟨#HC, HO, Hx, ⟨A0, V0⟩, ⟨A1, V1⟩, Has, Har, Hbar, Hat, ⟨C0, C1, C2⟩, T0, T1, T2⟩
  iapply (Tri.use (tri_dev c (owesN c 0))) $$ HO
  iintro %c' ⟨%hc, HO⟩
  subst hc
  iapply (Tri.use (hs)) $$ [HO V0 V1 Har Hbar]
  · isplitr; · iexact HC
    isplitl [HO]; · iexact HO
    isplitl [V0]; · iexact V0
    isplitl [V1]; · iexact V1
    isplitl [Har]; · iexact Har
    iexact Hbar
  iintro %_ ⟨HO, ⟨R0, E0⟩, ⟨R1, E1⟩, Har, Hb⟩
  ihave A0 := (lane_start x w c 0) $$ [A0 R0 E0]
  · isplitl [A0]; · iexact A0
    isplitl [R0]; · iexact R0
    iexact E0
  icases A0 with ⟨L0, ⟨P00, P01, P02, P03⟩, HK0⟩
  ihave HK0 := (laneK_open c 0) $$ HK0
  icases HK0 with ⟨⟨Q00, Q01⟩, U0⟩
  ihave A1 := (lane_start x w c 1) $$ [A1 R1 E1]
  · isplitl [A1]; · iexact A1
    isplitl [R1]; · iexact R1
    iexact E1
  icases A1 with ⟨L1, ⟨P10, P11, P12, P13⟩, HK1⟩
  ihave HK1 := (laneK_open c 1) $$ HK1
  icases HK1 with ⟨⟨Q10, Q11⟩, U1⟩
  iapply (Tri.use (p0)) $$ [HO Hx L0 P00 L1 P10]
  · isplitr; · iexact HC
    isplitl [HO]; · iexact HO
    isplitl [Hx]; · iexact Hx
    isplitl [L0 P00]
    · isplitl [L0]; · iexact L0
      iexact P00
    isplitl [L1]; · iexact L1
    iexact P10
  iintro %m ⟨%hm, HO, Hx, ⟨L0, S00⟩, ⟨L1, S10⟩⟩
  subst hm
  iapply (Tri.use (p1)) $$ [HO Hx L0 P01 L1 P11]
  · isplitr; · iexact HC
    isplitl [HO]; · iexact HO
    isplitl [Hx]; · iexact Hx
    isplitl [L0 P01]
    · isplitl [L0]; · iexact L0
      iexact P01
    isplitl [L1]; · iexact L1
    iexact P11
  iintro %m ⟨%hm, HO, Hx, ⟨L0, S01⟩, ⟨L1, S11⟩⟩
  subst hm
  iapply (Tri.use (p2)) $$ [HO Hx L0 P02 L1 P12]
  · isplitr; · iexact HC
    isplitl [HO]; · iexact HO
    isplitl [Hx]; · iexact Hx
    isplitl [L0 P02]
    · isplitl [L0]; · iexact L0
      iexact P02
    isplitl [L1]; · iexact L1
    iexact P12
  iintro %m ⟨%hm, HO, Hx, ⟨L0, S02⟩, ⟨L1, S12⟩⟩
  subst hm
  iapply (Tri.use (p3)) $$ [HO Hx L0 P03 L1 P13]
  · isplitr; · iexact HC
    isplitl [HO]; · iexact HO
    isplitl [Hx]; · iexact Hx
    isplitl [L0 P03]
    · isplitl [L0]; · iexact L0
      iexact P03
    isplitl [L1]; · iexact L1
    iexact P13
  iintro %m ⟨%hm, HO, Hx, ⟨L0, S03⟩, ⟨L1, S13⟩⟩
  subst hm
  ihave L0 := (lane_late x w c 0) $$ L0
  icases L0 with ⟨Hv0, Hw0, Ha0, ⟨F00, F01, G0, -, HF0⟩, Y0⟩
  ihave L1 := (lane_late x w c 1) $$ L1
  icases L1 with ⟨Hv1, Hw1, Ha1, ⟨F10, F11, G1, -, HF1⟩, Y1⟩
  iapply (Tri.use (d0)) $$ [HO Y0 F00 F01]
  · isplitr; · iexact HC
    isplitl [HO]; · iexact HO
    isplitl [Y0]; · iexact Y0
    isplitl [F00]; · iexact F00
    iexact F01
  iintro %_ ⟨HO, Z0, YD0, Y0, ⟨V00, B00⟩, V01, B01⟩
  ihave D0 := (lane_done x w c 0) $$ [S00 S01 S02 S03 YD0 V00 V01]
  · isplitl [S00]; · iexact S00
    isplitl [S01]; · iexact S01
    isplitl [S02]; · iexact S02
    isplitl [S03]; · iexact S03
    isplitl [YD0]; · iexact YD0
    isplitl [V00]; · iexact V00
    iexact V01
  ihave D0 := (laneD_open x w c 0) $$ D0
  icases D0 with ⟨W0, ⟨Y00, Y01, Y02, Y03⟩, D0⟩
  iapply (Tri.use (d1)) $$ [HO Y1 F10 F11]
  · isplitr; · iexact HC
    isplitl [HO]; · iexact HO
    isplitl [Y1]; · iexact Y1
    isplitl [F10]; · iexact F10
    iexact F11
  iintro %_ ⟨HO, Z1, YD1, Y1, ⟨V10, B10⟩, V11, B11⟩
  ihave D1 := (lane_done x w c 1) $$ [S10 S11 S12 S13 YD1 V10 V11]
  · isplitl [S10]; · iexact S10
    isplitl [S11]; · iexact S11
    isplitl [S12]; · iexact S12
    isplitl [S13]; · iexact S13
    isplitl [YD1]; · iexact YD1
    isplitl [V10]; · iexact V10
    iexact V11
  ihave D1 := (laneD_open x w c 1) $$ D1
  icases D1 with ⟨W1, ⟨Y10, Y11, Y12, Y13⟩, D1⟩
  ihave Go := go0 $$ Har
  iapply (Tri.use (m0)) $$ [HO Has Hat Go T0]
  · isplitr; · iexact HC
    isplitl [HO]; · iexact HO
    isplitl [Has]; · iexact Has
    isplitl [Hat]; · iexact Hat
    isplitl [Go]; · iexact Go
    iexact T0
  iintro %m ⟨%hm, HO, Has, Hat, M0, N0, -⟩
  subst hm
  ihave Go := go1 $$ C0
  iapply (Tri.use (m1)) $$ [HO Has Hat Go T1]
  · isplitr; · iexact HC
    isplitl [HO]; · iexact HO
    isplitl [Has]; · iexact Has
    isplitl [Hat]; · iexact Hat
    isplitl [Go]; · iexact Go
    iexact T1
  iintro %m ⟨%hm, HO, Has, Hat, M1, N1, -⟩
  subst hm
  ihave Go := go2 $$ C1
  iapply (Tri.use (m2)) $$ [HO Has Hat Go T2]
  · isplitr; · iexact HC
    isplitl [HO]; · iexact HO
    isplitl [Has]; · iexact Has
    isplitl [Hat]; · iexact Hat
    isplitl [Go]; · iexact Go
    iexact T2
  iintro %m ⟨%hm, HO, Has, Hat, M2, N2, Har⟩
  subst hm
  ihave Har := kp2 $$ Har
  iapply (Tri.use (lc)) $$ [HO G0 Q00 Q01 G1 Q10 Q11 Hat C2]
  · isplitr; · iexact HC
    isplitl [HO]; · iexact HO
    isplitl [G0 Q00 Q01]
    · isplitl [G0]; · iexact G0
      isplitl [Q00]; · iexact Q00
      iexact Q01
    isplitl [G1 Q10 Q11]
    · isplitl [G1]; · iexact G1
      isplitl [Q10]; · iexact Q10
      iexact Q11
    isplitl [Hat]; · iexact Hat
    iexact C2
  iintro %_ ⟨HO, K0, K1, Hat⟩
  unfold WP
  imod (slots_back x w K ιs c 0) $$ [HF0 U0] with ⟨X00, X01⟩
  · isplitr; · iexact HC
    isplitl [HF0]; · iexact HF0
    iexact U0
  imod (slots_back x w K ιs c 1) $$ [HF1 U1] with ⟨X10, X11⟩
  · isplitr; · iexact HC
    isplitl [HF1]; · iexact HF1
    iexact U1
  imod (ctx_close x w K ιs c (.cr 0) 1 (by decide)) $$ [K0] with K0
  · isplitr; · iexact HC
    iexact K0
  imod (ctx_close x w K ιs c (.cr 1) 1 (by decide)) $$ [K1] with K1
  · isplitr; · iexact HC
    iexact K1
  imod (ctx_close x w K ιs c .ac 3 (by decide)) $$ [Hat] with Hat
  · isplitr; · iexact HC
    iexact Hat
  imod (ctx_close x w K ιs c .bar 1 (by decide)) $$ [Hb] with Hb
  · isplitr; · iexact HC
    iexact Hb
  ihave TB0 := ((tbufY c).1) $$ [Y0 Z0]
  · isplitl [Y0]; · iexact Y0
    iexact Z0
  ihave TB2 := ((tbufA c).1) $$ [Ha0 Hw0]
  · isplitl [Ha0]; · iexact Ha0
    iexact Hw0
  ihave TB1 := ((tbufY c).2) $$ [Y1 Z1]
  · isplitl [Y1]; · iexact Y1
    iexact Z1
  ihave TB3 := ((tbufA c).2) $$ [Ha1 Hw1]
  · isplitl [Ha1]; · iexact Ha1
    iexact Hw1
  iapply (Tri.use_last (rs)) $$ [HO Y00 Y01 Y02 Y03 Y10 Y11 Y12 Y13 TB0 TB1 TB2 TB3]
  · isplitr; · iexact HC
    isplitl [HO]; · iexact HO
    isplitl [Y00 Y01 Y02 Y03]
    · isplitl [Y00]; · iexact Y00
      isplitl [Y01]; · iexact Y01
      isplitl [Y02]; · iexact Y02
      iexact Y03
    isplitl [Y10 Y11 Y12 Y13]
    · isplitl [Y10]; · iexact Y10
      isplitl [Y11]; · iexact Y11
      isplitl [Y12]; · iexact Y12
      iexact Y13
    isplitl [TB0]; · iexact TB0
    isplitl [TB1]; · iexact TB1
    isplitl [TB2]; · iexact TB2
    iexact TB3
  iintro %_ ⟨HO, O0, O1, HB⟩
  unfold LaneE Outs MxE
  isplitl [HO]; · iexact HO
  isplitl [Hx]; · iexact Hx
  isplitl [Hv0 B00 B01 X00 X01 W0 D0 K0]
  · isplitl [Hv0]; · iexact Hv0
    isplitl [B00 B01]
    · isplitl [B00]; · iexact B00
      iexact B01
    isplitl [X00 X01]
    · isplitl [X00]; · iexact X00
      iexact X01
    isplitl [W0]; · iexact W0
    isplitl [D0]; · iexact D0
    iexact K0
  isplitl [Hv1 B10 B11 X10 X11 W1 D1 K1]
  · isplitl [Hv1]; · iexact Hv1
    isplitl [B10 B11]
    · isplitl [B10]; · iexact B10
      iexact B11
    isplitl [X10 X11]
    · isplitl [X10]; · iexact X10
      iexact X11
    isplitl [W1]; · iexact W1
    isplitl [D1]; · iexact D1
    iexact K1
  isplitl [O0 O1]
  · isplitl [O0]; · iexact O0
    iexact O1
  isplitl [HB]; · iexact HB
  isplitl [Has]; · iexact Has
  isplitl [Har]; · iexact Har
  isplitl [Hb]; · iexact Hb
  isplitl [Hat]; · iexact Hat
  isplitl [M0 M1 M2]
  · isplitl [M0]; · iexact M0
    isplitl [M1]; · iexact M1
    iexact M2
  isplitl [N0]; · iexact N0
  isplitl [N1]; · iexact N1
  iexact N2

end Cert.Ring

end
-- ==== Proof.Ring.Mint.lean ====
/-
What the launch deals: the duties' tokens, minted at their cells and dealt to the devices that pay them; the credits for
what the devices owe each other; the tokens of the writes into the receive slots.
-/
module

public import proofs.«01_k».proof.Proof.Ring.Body

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-! ## Dealing around the ring -/

/-- The devices, one step along lane `d`, -/
def tgtE (d : Fin 2) : Dev nD ≃ Dev nD where
  toFun := tgtD d
  invFun := srcD d
  left_inv c := by revert d c; decide
  right_inv c := by revert d c; decide
/-- one step to the left, -/
def leftE : Dev nD ≃ Dev nD := ⟨leftD, rightD, right_left, left_right⟩

/-- A family over the devices, each device's part of it dealt along a permutation of the devices. -/
theorem deal {J : Type} [Fintype J] (e : J → Dev nD ≃ Dev nD) (Φ : Dev nD → J → sProp 𝕄) :
    (bigSep Finset.univ fun c : Dev nD => bigSep Finset.univ fun j : J => Φ c j)
      = bigSep Finset.univ fun c : Dev nD => bigSep Finset.univ fun j : J => Φ (e j c) j := by
  rw [bigSep_univ_comm, bigSep_univ_comm (fun (c : Dev nD) (j : J) => Φ (e j c) j)]
  exact bigSep_congr fun j _ => bigSep_univ_equiv (e j) (fun c => Φ c j)

/-! ## The duties -/

/-- The duties of one device's cells: the neighbours' two at its barrier, the twelve credits of each lane, the three of the
    ring of maxima, each transfer's at its sender and at its receiver, each exchange's likewise. -/
abbrev DJ : Type := Fin 2 ⊕ (Fin 2 × Fin 12) ⊕ Fin 3 ⊕ Hop ⊕ Hop ⊕ Fin 3 ⊕ Fin 3

/-- A duty's cell, round and number. -/
def jDut : DJ → Kind × ℕ × ℕ
  | .inl i => (.bar, 0, i.val)
  | .inr (.inl (d, g)) => (.cr d, 0, g.val)
  | .inr (.inr (.inl h)) => (.ac, h.val, 0)
  | .inr (.inr (.inr (.inl (d, g, b)))) => (.snd d g b, 0, 0)
  | .inr (.inr (.inr (.inr (.inl (d, g, b))))) => (.rcv d g b, 0, 0)
  | .inr (.inr (.inr (.inr (.inr (.inl h))))) => (.am h, 0, 0)
  | .inr (.inr (.inr (.inr (.inr (.inr h))))) => (.ar h, 0, 0)

/-- The device whose cell a device's duty is at. -/
def jTo : DJ → Dev nD ≃ Dev nD
  | .inl i => if i.val = 0 then leftE else leftE.symm
  | .inr (.inl (d, g)) => (tgtE d).symm
  | .inr (.inr (.inl h)) => leftE
  | .inr (.inr (.inr (.inl _))) => Equiv.refl _
  | .inr (.inr (.inr (.inr (.inl (d, g, b))))) => tgtE d
  | .inr (.inr (.inr (.inr (.inr (.inl h))))) => Equiv.refl _
  | .inr (.inr (.inr (.inr (.inr (.inr h))))) => leftE.symm

theorem jDut_inj : Function.Injective jDut := by
  rintro (i | ⟨d, g⟩ | h | ⟨d, g, b⟩ | ⟨d, g, b⟩ | h | h) (i' | ⟨d', g'⟩ | h' | ⟨d', g', b'⟩ | ⟨d', g', b'⟩ | h' | h') hh <;>
    simp only [jDut, Prod.mk.injEq, Kind.cr.injEq, Kind.snd.injEq, Kind.rcv.injEq, Kind.am.injEq, Kind.ar.injEq, reduceCtorEq, false_and, true_and, and_true] at hh
  · rw [Fin.ext hh]
  · obtain ⟨rfl, hg⟩ := hh; rw [Fin.ext hg]
  · rw [Fin.ext hh]
  · obtain ⟨rfl, rfl, rfl⟩ := hh; rfl
  · obtain ⟨rfl, rfl, rfl⟩ := hh; rfl
  · rw [hh]
  · rw [hh]

/-- A duty as its token names it. -/
def tokOf (y : Dev nD × DJ) : GSem nD τ sig × ℕ × ℕ := (cell y.1 (jDut y.2).1, (jDut y.2).2.1, (jDut y.2).2.2)
theorem tokOf_inj : Function.Injective tokOf := fun ⟨c, j⟩ ⟨c', j'⟩ h => by
  have h1 := cell_inj (a₁ := (c, (jDut j).1)) (a₂ := (c', (jDut j').1)) (congrArg (fun z : GSem nD τ sig × ℕ × ℕ => z.1) h)
  have h2 : (jDut j).2 = (jDut j').2 := congrArg (fun z : GSem nD τ sig × ℕ × ℕ => z.2) h
  have h3 : c = c' := congrArg Prod.fst h1
  have h4 : (jDut j).1 = (jDut j').1 := congrArg Prod.snd h1
  rw [h3, jDut_inj (Prod.ext h4 h2)]

def ringCells : Finset (GSem nD τ sig) := Finset.univ.map ⟨fun y : Dev nD × Kind => cell y.1 y.2, cell_inj⟩
def ringToks : Finset (GSem nD τ sig × ℕ × ℕ) := Finset.univ.map ⟨tokOf, tokOf_inj⟩

/-- A device's duty. -/
def payTok (c : Dev nD) (j : DJ) : sProp 𝕄 := dutyTok ER (cell (jTo j c) (jDut j).1) (jDut j).2.1 (jDut j).2.2

theorem toks_dealt : (bigSep ringToks fun y => (dutyTok ER y.1 y.2.1 y.2.2 : sProp 𝕄))
    = bigSep Finset.univ fun c : Dev nD => bigSep Finset.univ fun j : DJ => payTok c j := by
  unfold ringToks
  rw [bigSep_map, bigSep_univ_prod]
  exact deal jTo (fun c j => dutyTok ER (cell c (jDut j).1) (jDut j).2.1 (jDut j).2.2)

/-- A device's duties, one sort after another. -/
theorem payToks_eq (c : Dev nD) : (bigSep Finset.univ fun j : DJ => payTok (F := F) c j)
    = iprop((bigSep Finset.univ fun i : Fin 2 => payTok c (.inl i)) ∗ (bigSep Finset.univ fun y : Fin 2 × Fin 12 => payTok c (.inr (.inl y)))
      ∗ (bigSep Finset.univ fun h : Fin 3 => payTok c (.inr (.inr (.inl h))))
      ∗ (bigSep Finset.univ fun y : Hop => payTok c (.inr (.inr (.inr (.inl y)))))
      ∗ (bigSep Finset.univ fun y : Hop => payTok c (.inr (.inr (.inr (.inr (.inl y))))))
      ∗ (bigSep Finset.univ fun h : Fin 3 => payTok c (.inr (.inr (.inr (.inr (.inr (.inl h)))))))
      ∗ bigSep Finset.univ fun h : Fin 3 => payTok c (.inr (.inr (.inr (.inr (.inr (.inr h))))))) := by
  rw [bigSep_univ_sum, bigSep_univ_sum, bigSep_univ_sum, bigSep_univ_sum, bigSep_univ_sum, bigSep_univ_sum]
  rfl

/-- A family over the semaphores that cross devices, one sort after another. -/
theorem kinds_eq (Φ : Kind → sProp 𝕄) : bigSep Finset.univ Φ
    = iprop((bigSep Finset.univ fun _ : Fin 1 => Φ .bar) ∗ (bigSep Finset.univ fun d : Fin 2 => Φ (.cr d)) ∗ (bigSep Finset.univ fun _ : Fin 1 => Φ .ac)
      ∗ (bigSep Finset.univ fun y : Hop => Φ (.snd y.1 y.2.1 y.2.2)) ∗ (bigSep Finset.univ fun y : Hop => Φ (.rcv y.1 y.2.1 y.2.2))
      ∗ (bigSep Finset.univ fun h : Fin 3 => Φ (.am h)) ∗ bigSep Finset.univ fun h : Fin 3 => Φ (.ar h)) := by
  rw [bigSep_univ_equiv kindEquiv, bigSep_univ_sum, bigSep_univ_sum, bigSep_univ_sum, bigSep_univ_sum, bigSep_univ_sum, bigSep_univ_sum]
  rfl

theorem sep1 (Φ : Fin 1 → sProp 𝕄) : bigSep Finset.univ Φ = Φ 0 := by
  rw [Finset.univ_unique]; exact bigSep_singleton

/-- A family over the hops' halves, by lane and hop. -/
theorem hops_eq (Φ : Hop → sProp 𝕄) : bigSep Finset.univ Φ
    = bigSep Finset.univ fun d : Fin 2 => bigSep Finset.univ fun g : Fin 12 => iprop(Φ (d, g, 0) ∗ Φ (d, g, 1)) := by
  rw [bigSep_univ_prod]
  exact bigSep_congr fun d _ => by
    rw [bigSep_univ_prod]
    exact bigSep_congr fun g _ => sep2 _

/-! ## The credits -/

abbrev IJ : Type := Fin 2 ⊕ Hop ⊕ (Fin 2 × Fin 12) ⊕ Fin 3 ⊕ Fin 3

def itemEquiv : IJ ≃ Item where
  toFun
    | .inl i => if i = 0 then .barL else .barR
    | .inr (.inl (d, g, b)) => .rc d g b
    | .inr (.inr (.inl (d, g))) => .cr d g
    | .inr (.inr (.inr (.inl h))) => .ar h
    | .inr (.inr (.inr (.inr h))) => .ac h
  invFun
    | .barL => .inl 0
    | .barR => .inl 1
    | .rc d g b => .inr (.inl (d, g, b))
    | .cr d g => .inr (.inr (.inl (d, g)))
    | .ar h => .inr (.inr (.inr (.inl h)))
    | .ac h => .inr (.inr (.inr (.inr h)))
  left_inv := by
    rintro (x | x | x | x | x)
    · revert x; decide
    · rfl
    · rfl
    · rfl
    · rfl
  right_inv := by rintro (_ | _ | _ | _ | _ | _) <;> rfl

instance : Fintype Item := Fintype.ofEquiv IJ itemEquiv

def Item.kind : Item → Kind
  | .barL => .bar | .barR => .bar | .rc d g b => .rcv d g b | .cr d _ => .cr d | .ar h => .ar h | .ac _ => .ac
def Item.to : Item → Dev nD ≃ Dev nD
  | .barL => leftE | .barR => leftE.symm | .rc d _ _ => tgtE d | .cr d _ => (tgtE d).symm | .ar _ => leftE.symm | .ac _ => leftE
theorem Item.cell_eq (c : Dev nD) (it : Item) : it.cell c = Ring.cell (it.to c) it.kind := by cases it <;> rfl

/-- The credit a device has for a payment due to it. -/
def credOf (c : Dev nD) (it : Item) : sProp 𝕄 := cred (tallyAt (cell c it.kind) it.ix it.amt)

theorem creds_list (l : List Item) (hl : l.Nodup) (c : Dev nD) :
    (Pipeline.launchCred (fun d => owedL d l) c : sProp 𝕄) ⊢ bigSep l.toFinset fun it => credOf c it := by
  induction l with
  | nil =>
    rw [List.toFinset_nil, bigSep_empty]
    exact Entails.of_eq (Pipeline.launchCred_zero c)
  | cons it l ih =>
    rw [List.toFinset_cons, bigSep_insert (fun h => (List.nodup_cons.mp hl).1 (List.mem_toFinset.mp h))]
    have h0 : (fun d => owedL d (it :: l)) = fun d => owedL d l + tallyAt ((((it.to d) : Dev nD).tc : Thread nD τ), semOf it.kind) it.ix it.amt := by
      funext d
      show owedL d l + tallyAt (it.cell d) it.ix it.amt = _
      rw [it.cell_eq d]
    rw [h0]
    refine (Entails.of_eq (Pipeline.launchCred_add _ _ c)).trans ?_
    show _ ⊢ iprop(credOf c it ∗ bigSep l.toFinset fun it => credOf c it)
    iintro ⟨H1, H2⟩
    isplitl [H2]
    · unfold credOf
      iapply (Pipeline.launchCred_tallyAt (semOf it.kind) it.to it.to.symm it.to.apply_symm_apply it.to.symm_apply_apply it.ix it.amt c) $$ H2
    · iapply (ih (List.nodup_cons.mp hl).2) $$ H1

theorem items_nodup : allItems.Nodup := by decide
theorem items_all : allItems.toFinset = Finset.univ := by
  refine Finset.eq_univ_of_forall fun it => List.mem_toFinset.mpr ?_
  cases it with
  | barL => decide
  | barR => decide
  | rc d g b => revert d g b; decide
  | cr d g => revert d g; decide
  | ar h => revert h; decide
  | ac h => revert h; decide

/-- What a device owes at launch. -/
def O₀ (c : Dev nD) : CellTallies nD τ sig ℕ := owedL c allItems

theorem creds (c : Dev nD) : (Pipeline.launchCred O₀ c : sProp 𝕄)
    ⊢ iprop((credOf c .barL ∗ credOf c .barR)
      ∗ (bigSep Finset.univ fun y : Hop => credOf c (.rc y.1 y.2.1 y.2.2)) ∗ (bigSep Finset.univ fun y : Fin 2 × Fin 12 => credOf c (.cr y.1 y.2))
      ∗ (bigSep Finset.univ fun h : Fin 3 => credOf c (.ar h)) ∗ bigSep Finset.univ fun h : Fin 3 => credOf c (.ac h)) := by
  refine (creds_list allItems items_nodup c).trans (Entails.of_eq ?_)
  rw [items_all, bigSep_univ_equiv itemEquiv, bigSep_univ_sum, bigSep_univ_sum, bigSep_univ_sum, bigSep_univ_sum, sep2]
  rfl

/-- A lane's credits: ten for the hops, two for after the last. -/
theorem creds_lane (Φ : ℕ → sProp 𝕄) : (bigSep Finset.univ fun g : Fin 12 => Φ (g.val + 2))
    ⊢ iprop((bigSep Finset.univ fun g : Fin 12 => if 2 ≤ g.val then Φ g.val else iprop(emp)) ∗ Φ 12 ∗ Φ 13) := by
  rw [fin12_sep, fin12_sep]
  have e0 : (if 2 ≤ (0 : Fin 12).val then Φ (0 : Fin 12).val else iprop(emp)) = iprop(emp) := if_neg (by decide)
  have e1 : (if 2 ≤ (1 : Fin 12).val then Φ (1 : Fin 12).val else iprop(emp)) = iprop(emp) := if_neg (by decide)
  have e (k : ℕ) : (if 2 ≤ (k + 2 : ℕ) then Φ (k + 2) else iprop(emp)) = Φ (k + 2) := if_pos (Nat.le_add_left 2 _)
  rw [e0, e1]
  show (iprop(Φ 2 ∗ Φ 3 ∗ Φ 4 ∗ Φ 5 ∗ Φ 6 ∗ Φ 7 ∗ Φ 8 ∗ Φ 9 ∗ Φ 10 ∗ Φ 11 ∗ Φ 12 ∗ Φ 13) : sProp 𝕄) ⊢ iprop((emp ∗ emp
    ∗ (if 2 ≤ (0 + 2 : ℕ) then Φ (0 + 2) else iprop(emp)) ∗ (if 2 ≤ (1 + 2 : ℕ) then Φ (1 + 2) else iprop(emp)) ∗ (if 2 ≤ (2 + 2 : ℕ) then Φ (2 + 2) else iprop(emp))
    ∗ (if 2 ≤ (3 + 2 : ℕ) then Φ (3 + 2) else iprop(emp)) ∗ (if 2 ≤ (4 + 2 : ℕ) then Φ (4 + 2) else iprop(emp)) ∗ (if 2 ≤ (5 + 2 : ℕ) then Φ (5 + 2) else iprop(emp))
    ∗ (if 2 ≤ (6 + 2 : ℕ) then Φ (6 + 2) else iprop(emp)) ∗ (if 2 ≤ (7 + 2 : ℕ) then Φ (7 + 2) else iprop(emp)) ∗ (if 2 ≤ (8 + 2 : ℕ) then Φ (8 + 2) else iprop(emp))
    ∗ (if 2 ≤ (9 + 2 : ℕ) then Φ (9 + 2) else iprop(emp))) ∗ Φ 12 ∗ Φ 13)
  rw [e 0, e 1, e 2, e 3, e 4, e 5, e 6, e 7, e 8, e 9]
  iintro ⟨H2, H3, H4, H5, H6, H7, H8, H9, H10, H11, H12, H13⟩
  isplitr [H12 H13]
  · isplitr; · iempintro
    isplitr; · iempintro
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · iexact H12
  iexact H13

/-! ## The writes -/

theorem sep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem sep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem writes_range (Φ : Key → ℕ → sProp 𝕄) : (bigSep ((Finset.univ : Finset Key) ×ˢ Finset.range 7) fun y => Φ y.1 y.2)
    = bigSep Finset.univ fun k : Key => bigSep Finset.univ fun n : Fin 7 => Φ k n.val := by
  rw [← bigSep_univ_prod (fun y : Key × Fin 7 => Φ y.1 y.2.val)]
  have h : (Finset.univ : Finset Key) ×ˢ Finset.range 7
      = Finset.univ.map ⟨fun y : Key × Fin 7 => (y.1, y.2.val), fun a b hab => Prod.ext (Prod.mk.inj hab).1 (Fin.ext (Prod.mk.inj hab).2)⟩ := by
    ext ⟨k, n⟩
    simp only [Finset.mem_product, Finset.mem_univ, Finset.mem_range, Finset.mem_map, Function.Embedding.coeFn_mk, Prod.mk.injEq]
    constructor
    · rintro ⟨-, hn⟩
      exact ⟨(k, ⟨n, hn⟩), trivial, rfl⟩
    · rintro ⟨y, -, hy⟩
      cases hy
      exact ⟨trivial, y.2.isLt⟩
  rw [h, bigSep_map]
  rfl

/-- A slot's writes: six for the hops, one for the end. -/
theorem writes_key (Φ : ℕ → sProp 𝕄) : (bigSep Finset.univ fun n : Fin 7 => Φ n.val)
    = iprop((bigSep Finset.univ fun n : Fin 6 => Φ n.val) ∗ Φ 6) := by
  rw [sep7, sep6]
  show (iprop(Φ 0 ∗ Φ 1 ∗ Φ 2 ∗ Φ 3 ∗ Φ 4 ∗ Φ 5 ∗ Φ 6) : sProp 𝕄) = iprop((Φ 0 ∗ Φ 1 ∗ Φ 2 ∗ Φ 3 ∗ Φ 4 ∗ Φ 5) ∗ Φ 6)
  refine BI.Entails.antisymm (show _ ⊢ (_ : sProp 𝕄) from ?_) (show _ ⊢ (_ : sProp 𝕄) from ?_)
  · iintro ⟨H0, H1, H2, H3, H4, H5, H6⟩
    isplitr [H6]
    · isplitl [H0]; · iexact H0
      isplitl [H1]; · iexact H1
      isplitl [H2]; · iexact H2
      isplitl [H3]; · iexact H3
      isplitl [H4]; · iexact H4
      iexact H5
    · iexact H6
  · iintro ⟨⟨H0, H1, H2, H3, H4, H5⟩, H6⟩
    isplitl [H0]; · iexact H0
    isplitl [H1]; · iexact H1
    isplitl [H2]; · iexact H2
    isplitl [H3]; · iexact H3
    isplitl [H4]; · iexact H4
    isplitl [H5]; · iexact H5
    iexact H6

/-- A lane's writes, by the hop. -/
theorem writes_lane (Φ : Fin 2 → ℕ → sProp 𝕄) :
    iprop((bigSep Finset.univ fun n : Fin 6 => Φ 0 n.val) ∗ bigSep Finset.univ fun n : Fin 6 => Φ 1 n.val)
      ⊢ bigSep Finset.univ fun g : Fin 12 => Φ (slot g.val) (g.val / 2) := by
  rw [fin12_sep, sep6, sep6]
  show (iprop((Φ 0 0 ∗ Φ 0 1 ∗ Φ 0 2 ∗ Φ 0 3 ∗ Φ 0 4 ∗ Φ 0 5) ∗ Φ 1 0 ∗ Φ 1 1 ∗ Φ 1 2 ∗ Φ 1 3 ∗ Φ 1 4 ∗ Φ 1 5) : sProp 𝕄)
    ⊢ iprop(Φ 0 0 ∗ Φ 1 0 ∗ Φ 0 1 ∗ Φ 1 1 ∗ Φ 0 2 ∗ Φ 1 2 ∗ Φ 0 3 ∗ Φ 1 3 ∗ Φ 0 4 ∗ Φ 1 4 ∗ Φ 0 5 ∗ Φ 1 5)
  iintro ⟨⟨A0, A1, A2, A3, A4, A5⟩, B0, B1, B2, B3, B4, B5⟩
  isplitl [A0]; · iexact A0
  isplitl [B0]; · iexact B0
  isplitl [A1]; · iexact A1
  isplitl [B1]; · iexact B1
  isplitl [A2]; · iexact A2
  isplitl [B2]; · iexact B2
  isplitl [A3]; · iexact A3
  isplitl [B3]; · iexact B3
  isplitl [A4]; · iexact A4
  isplitl [B4]; · iexact B4
  isplitl [A5]; · iexact A5
  iexact B5

/-- A device's writes: into the slots its lanes send to, and one at the end into each of its own. -/
def Writes (c : Dev nD) : sProp 𝕄 :=
  iprop((bigSep Finset.univ fun y : Fin 2 × Fin 2 => bigSep Finset.univ fun n : Fin 6 => writeTok ESlot ((tgtD y.1 c, y) : Key) (n.val + 1))
    ∗ bigSep Finset.univ fun y : Fin 2 × Fin 2 => writeTok ESlot ((c, y) : Key) 7)

theorem writes_dealt : (bigSep ((Finset.univ : Finset Key) ×ˢ Finset.range 7) fun y => (writeTok ESlot y.1 (y.2 + 1) : sProp 𝕄))
    = bigSep Finset.univ fun c : Dev nD => Writes c := by
  unfold Writes
  rw [writes_range (fun k n => writeTok ESlot k (n + 1)), bigSep_univ_prod]
  rw [bigSep_congr (Ψ := fun c : Dev nD => iprop((bigSep Finset.univ fun y : Fin 2 × Fin 2 => bigSep Finset.univ fun n : Fin 6 => writeTok ESlot ((c, y) : Key) (n.val + 1))
      ∗ bigSep Finset.univ fun y : Fin 2 × Fin 2 => (writeTok ESlot ((c, y) : Key) 7 : sProp 𝕄))) fun c _ => by
    rw [← bigSep_sep']
    exact bigSep_congr fun y _ => writes_key (fun n => writeTok ESlot ((c, y) : Key) (n + 1))]
  rw [bigSep_sep', bigSep_sep']
  rw [deal (fun y : Fin 2 × Fin 2 => tgtE y.1) (fun c y => bigSep Finset.univ fun n : Fin 6 => (writeTok ESlot ((c, y) : Key) (n.val + 1) : sProp 𝕄))]
  rfl

/-! ## A lane's hops -/

theorem hopTok_of (c : Dev nD) (d : Fin 2) (g : Fin 12) :
    iprop((if 2 ≤ g.val then cred (tallyAt (cell c (.cr d)) g.val 1) else iprop(emp)) ∗ writeTok ESlot ((tgtD d c, d, slot g.val) : Key) (g.val / 2 + 1)
      ∗ (dutyTok ER (cell c (.snd d g 0)) 0 0 ∗ dutyTok ER (cell c (.snd d g 1)) 0 0)
      ∗ (dutyTok ER (cell (tgtD d c) (.rcv d g 0)) 0 0 ∗ dutyTok ER (cell (tgtD d c) (.rcv d g 1)) 0 0)
      ∗ (atPos ER (cell c (.snd d g 0)) 0 ∅ 0 ∗ atPos ER (cell c (.snd d g 1)) 0 ∅ 0)
      ∗ (atPos ER (cell c (.rcv d g 0)) 0 ∅ 0 ∗ atPos ER (cell c (.rcv d g 1)) 0 ∅ 0)
      ∗ (cred (tallyAt (cell c (.rcv d g 0)) 0 NH) ∗ cred (tallyAt (cell c (.rcv d g 1)) 0 NH)) ∗ dutyTok ER (cell (srcD d c) (.cr d)) 0 g.val)
      ⊢ (HopTok c d g : sProp 𝕄) := by
  unfold HopTok XTok RTk RTok
  iintro ⟨Hc, Hw, ⟨S0, S1⟩, ⟨T0, T1⟩, ⟨A0, A1⟩, ⟨B0, B1⟩, ⟨C0, C1⟩, Hd⟩
  isplitl [Hc]; · iexact Hc
  isplitl [Hw]; · iexact Hw
  isplitl [S0 S1 T0 T1 A0 A1]
  · isplitl [S0 T0 A0]
    · isplitl [S0]; · iexact S0
      isplitl [T0]; · iexact T0
      iexact A0
    · isplitl [S1]; · iexact S1
      isplitl [T1]; · iexact T1
      iexact A1
  isplitl [B0 C0]
  · isplitl [B0]; · iexact B0
    iexact C0
  isplitl [B1 C1]
  · isplitl [B1]; · iexact B1
    iexact C1
  iexact Hd

theorem hopTok_mk (c : Dev nD) (d : Fin 2) (g : Fin 12) :
    iprop((if 2 ≤ g.val then cred (tallyAt (cell c (.cr d)) g.val 1) else iprop(emp)) ∗ writeTok ESlot ((tgtD d c, d, slot g.val) : Key) (g.val / 2 + 1)
      ∗ (payTok c (.inr (.inr (.inr (.inl (d, g, 0))))) ∗ payTok c (.inr (.inr (.inr (.inl (d, g, 1))))))
      ∗ (payTok c (.inr (.inr (.inr (.inr (.inl (d, g, 0)))))) ∗ payTok c (.inr (.inr (.inr (.inr (.inl (d, g, 1)))))))
      ∗ (atPos ER (cell c (.snd d g 0)) 0 ∅ 0 ∗ atPos ER (cell c (.snd d g 1)) 0 ∅ 0)
      ∗ (atPos ER (cell c (.rcv d g 0)) 0 ∅ 0 ∗ atPos ER (cell c (.rcv d g 1)) 0 ∅ 0)
      ∗ (credOf c (.rc d g 0) ∗ credOf c (.rc d g 1)) ∗ payTok c (.inr (.inl (d, g))))
      ⊢ (HopTok c d g : sProp 𝕄) :=
  hopTok_of c d g

end Cert.Ring

end
-- ==== Proof.Ring.Setup.lean ====
/-
From what the launch deals a device to what its run starts from, and from what its run leaves to what the launch takes back.
-/
module

public import proofs.«01_k».proof.Proof.Ring.Mint

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (x : Dev nD → S4096x1024.Idx → Elt F .f32) (w : Dev nD → S1024x8192.Idx → Elt F .f32)

/-! ## The tokens -/

/-- What a device is dealt: where it stands at its cells, its duties, the readers of its slots, its writes. -/
def Lin (c : Dev nD) : sProp 𝕄 :=
  iprop((bigSep Finset.univ fun k : Kind => atPos ER (cell c k) 0 ∅ 0) ∗ (bigSep Finset.univ fun j : DJ => payTok c j)
    ∗ (bigSep Finset.univ fun y : Fin 2 × Fin 2 => readerAt ESlot ((c, y) : Key) 0) ∗ Writes c)
/-- Its credits. -/
def Crd (c : Dev nD) : sProp 𝕄 :=
  iprop((credOf c .barL ∗ credOf c .barR)
    ∗ (bigSep Finset.univ fun y : Hop => credOf c (.rc y.1 y.2.1 y.2.2)) ∗ (bigSep Finset.univ fun y : Fin 2 × Fin 12 => credOf c (.cr y.1 y.2))
    ∗ (bigSep Finset.univ fun h : Fin 3 => credOf c (.ar h)) ∗ bigSep Finset.univ fun h : Fin 3 => credOf c (.ac h))

theorem join8 (A B C D E G H I Ψ : Fin 12 → sProp 𝕄) (h : ∀ g, iprop(A g ∗ B g ∗ C g ∗ D g ∗ E g ∗ G g ∗ H g ∗ I g) ⊢ Ψ g) :
    iprop(bigSep Finset.univ A ∗ bigSep Finset.univ B ∗ bigSep Finset.univ C ∗ bigSep Finset.univ D ∗ bigSep Finset.univ E ∗ bigSep Finset.univ G
      ∗ bigSep Finset.univ H ∗ bigSep Finset.univ I) ⊢ bigSep Finset.univ Ψ := by
  refine BIBase.Entails.trans (Entails.of_eq ?_) (bigSep_mono fun g _ => h g)
  rw [bigSep_sep', bigSep_sep', bigSep_sep', bigSep_sep', bigSep_sep', bigSep_sep', bigSep_sep']

/-- A lane's hops' tokens. -/
def Hops (c : Dev nD) (d : Fin 2) : sProp 𝕄 :=
  iprop((bigSep Finset.univ fun g : Fin 12 => credOf c (.cr d g))
    ∗ ((bigSep Finset.univ fun n : Fin 6 => writeTok ESlot ((tgtD d c, d, 0) : Key) (n.val + 1)) ∗ bigSep Finset.univ fun n : Fin 6 => writeTok ESlot ((tgtD d c, d, 1) : Key) (n.val + 1))
    ∗ (bigSep Finset.univ fun g : Fin 12 => iprop(payTok c (.inr (.inr (.inr (.inl (d, g, 0))))) ∗ payTok c (.inr (.inr (.inr (.inl (d, g, 1)))))))
    ∗ (bigSep Finset.univ fun g : Fin 12 => iprop(payTok c (.inr (.inr (.inr (.inr (.inl (d, g, 0)))))) ∗ payTok c (.inr (.inr (.inr (.inr (.inl (d, g, 1))))))))
    ∗ (bigSep Finset.univ fun g : Fin 12 => iprop(atPos ER (cell c (.snd d g 0)) 0 ∅ 0 ∗ atPos ER (cell c (.snd d g 1)) 0 ∅ 0))
    ∗ (bigSep Finset.univ fun g : Fin 12 => iprop(atPos ER (cell c (.rcv d g 0)) 0 ∅ 0 ∗ atPos ER (cell c (.rcv d g 1)) 0 ∅ 0))
    ∗ (bigSep Finset.univ fun g : Fin 12 => iprop(credOf c (.rc d g 0) ∗ credOf c (.rc d g 1))) ∗ bigSep Finset.univ fun g : Fin 12 => payTok c (.inr (.inl (d, g))))

theorem creds_lane' (c : Dev nD) (d : Fin 2) : (bigSep Finset.univ fun g : Fin 12 => credOf c (.cr d g) : sProp 𝕄)
    ⊢ iprop((bigSep Finset.univ fun g : Fin 12 => if 2 ≤ g.val then cred (tallyAt (cell c (.cr d)) g.val 1) else iprop(emp))
      ∗ cred (tallyAt (cell c (.cr d)) 12 1) ∗ cred (tallyAt (cell c (.cr d)) 13 1)) :=
  creds_lane (fun n => cred (tallyAt (cell c (.cr d)) n 1))

theorem hops_mk (c : Dev nD) (d : Fin 2) : (Hops c d : sProp 𝕄)
    ⊢ iprop((bigSep Finset.univ fun g : Fin 12 => HopTok c d g) ∗ cred (tallyAt (cell c (.cr d)) 12 1) ∗ cred (tallyAt (cell c (.cr d)) 13 1)) := by
  unfold Hops
  iintro ⟨Hc, Hw, HA, HB, HC, HD, HE, HG⟩
  ihave Hc := (creds_lane' c d) $$ Hc
  icases Hc with ⟨Hc, H12, H13⟩
  ihave Hw := (writes_lane (F := F) (fun s n => writeTok ESlot ((tgtD d c, d, s) : Key) (n + 1))) $$ Hw
  isplitr [H12 H13]
  · iapply (join8 _ _ _ _ _ _ _ _ _ (hopTok_mk (F := F) c d))
    isplitl [Hc]; · iexact Hc
    isplitl [Hw]; · iexact Hw
    isplitl [HA]; · iexact HA
    isplitl [HB]; · iexact HB
    isplitl [HC]; · iexact HC
    isplitl [HD]; · iexact HD
    isplitl [HE]; · iexact HE
    iexact HG
  isplitl [H12]; · iexact H12
  iexact H13

/-- The ring of maxima's and the handshake's tokens. -/
def MToks (c : Dev nD) : sProp 𝕄 :=
  iprop((dutyTok ER (cell (leftD c) .bar) 0 0 ∗ dutyTok ER (cell (rightD c) .bar) 0 1 ∗ cred (tallyAt (cell c .bar) 0 2) ∗ atPos ER (cell c .bar) 0 ∅ 0)
    ∗ atPos ER (cell c .ac) 0 ∅ 0
    ∗ (cred (tallyAt (cell c .ac) 0 1) ∗ cred (tallyAt (cell c .ac) 1 1) ∗ cred (tallyAt (cell c .ac) 2 1))
    ∗ MTok c 0 ∗ MTok c 1 ∗ MTok c 2)
/-- A lane's tokens. -/
def LToks (c : Dev nD) (d : Fin 2) : sProp 𝕄 :=
  iprop((bigSep Finset.univ fun g : Fin 12 => HopTok c d g) ∗ LaneK c d ∗ atPos ER (cell c (.cr d)) 0 ∅ 0
    ∗ readerAt ESlot ((c, d, 0) : Key) 0 ∗ readerAt ESlot ((c, d, 1) : Key) 0)

theorem bar_two (c : Dev nD) : iprop(credOf c .barL ∗ credOf c .barR) ⊢ (cred (tallyAt (cell c .bar) 0 2) : sProp 𝕄) := by
  rw [show tallyAt (cell c .bar) 0 2 = (tallyAt (cell c .bar) 0 1 + tallyAt (cell c .bar) 0 1 : CellTallies nD τ sig ℕ) from (tallyAt_add (cell c .bar) 0 1 1).symm]
  exact (cred_add _ _).2

theorem mTok_of (c : Dev nD) (h : Fin 3) :
    iprop(dutyTok ER (cell c (.am h)) 0 0 ∗ dutyTok ER (cell (rightD c) (.ar h)) 0 0 ∗ atPos ER (cell c (.am h)) 0 ∅ 0 ∗ atPos ER (cell c (.ar h)) 0 ∅ 0
    ∗ cred (tallyAt (cell c (.ar h)) 0 NA) ∗ dutyTok ER (cell (leftD c) .ac) h.val 0) ⊢ (MTok c h : sProp 𝕄) := BI.Entails.refl _
theorem mTok_mk (c : Dev nD) (h : Fin 3) :
    iprop(payTok c (.inr (.inr (.inr (.inr (.inr (.inl h)))))) ∗ payTok c (.inr (.inr (.inr (.inr (.inr (.inr h)))))) ∗ atPos ER (cell c (.am h)) 0 ∅ 0
      ∗ atPos ER (cell c (.ar h)) 0 ∅ 0 ∗ credOf c (.ar h) ∗ payTok c (.inr (.inr (.inl h)))) ⊢ (MTok c h : sProp 𝕄) := mTok_of c h

theorem bars_mk (c : Dev nD) : iprop(payTok c (.inl 0) ∗ payTok c (.inl 1))
    ⊢ (iprop(dutyTok ER (cell (leftD c) .bar) 0 0 ∗ dutyTok ER (cell (rightD c) .bar) 0 1) : sProp 𝕄) := BI.Entails.refl _
theorem acs_mk (c : Dev nD) : iprop(credOf c (.ac 0) ∗ credOf c (.ac 1) ∗ credOf c (.ac 2))
    ⊢ (iprop(cred (tallyAt (cell c .ac) 0 1) ∗ cred (tallyAt (cell c .ac) 1 1) ∗ cred (tallyAt (cell c .ac) 2 1)) : sProp 𝕄) := BI.Entails.refl _

/-- A family over lanes and hops, lane by lane. -/
theorem lanes12 (Φ : Fin 2 × Fin 12 → sProp 𝕄) : bigSep Finset.univ Φ
    = iprop((bigSep Finset.univ fun g : Fin 12 => Φ (0, g)) ∗ bigSep Finset.univ fun g : Fin 12 => Φ (1, g)) := by
  rw [bigSep_univ_prod, sep2]
theorem hops2 (Φ : Hop → sProp 𝕄) : bigSep Finset.univ Φ
    = iprop((bigSep Finset.univ fun g : Fin 12 => iprop(Φ (0, g, 0) ∗ Φ (0, g, 1))) ∗ bigSep Finset.univ fun g : Fin 12 => iprop(Φ (1, g, 0) ∗ Φ (1, g, 1))) := by
  rw [hops_eq, sep2]

theorem lin_out (c : Dev nD) : iprop(Lin c ∗ Crd c) ⊢ (iprop(LToks c 0 ∗ LToks c 1 ∗ MToks c) : sProp 𝕄) := by
  unfold Lin Crd Writes
  rw [payToks_eq, kinds_eq]
  simp only [sep1, sep2, fin3_sep, lanes12, hops2, sep4]
  iintro ⟨⟨⟨Ab, ⟨Ac0, Ac1⟩, Aa, ⟨As0, As1⟩, ⟨Ar0, Ar1⟩, ⟨Am0, Am1, Am2⟩, An0, An1, An2⟩, ⟨Pb, ⟨Pc0, Pc1⟩, ⟨Pa0, Pa1, Pa2⟩, ⟨Ps0, Ps1⟩, ⟨Pr0, Pr1⟩, ⟨Pm0, Pm1, Pm2⟩, Pn0, Pn1, Pn2⟩,
    ⟨R00, R01, R10, R11⟩, ⟨W00, W01, W10, W11⟩, U00, U01, U10, U11⟩, Cb, ⟨Cr0, Cr1⟩, ⟨Cc0, Cc1⟩, ⟨Cn0, Cn1, Cn2⟩, Ca⟩
  ihave H0 := (show iprop((bigSep Finset.univ fun g : Fin 12 => credOf c (.cr 0 g)) ∗ _) ⊢ (Hops c 0 : sProp 𝕄) from BI.Entails.refl _) $$ [Cc0 W00 W01 Ps0 Pr0 As0 Ar0 Cr0 Pc0]
  · isplitl [Cc0]; · iexact Cc0
    isplitl [W00 W01]
    · isplitl [W00]; · iexact W00
      iexact W01
    isplitl [Ps0]; · iexact Ps0
    isplitl [Pr0]; · iexact Pr0
    isplitl [As0]; · iexact As0
    isplitl [Ar0]; · iexact Ar0
    isplitl [Cr0]; · iexact Cr0
    iexact Pc0
  ihave H0 := (hops_mk c 0) $$ H0
  icases H0 with ⟨H0, K00, K01⟩
  ihave H1 := (show iprop((bigSep Finset.univ fun g : Fin 12 => credOf c (.cr 1 g)) ∗ _) ⊢ (Hops c 1 : sProp 𝕄) from BI.Entails.refl _) $$ [Cc1 W10 W11 Ps1 Pr1 As1 Ar1 Cr1 Pc1]
  · isplitl [Cc1]; · iexact Cc1
    isplitl [W10 W11]
    · isplitl [W10]; · iexact W10
      iexact W11
    isplitl [Ps1]; · iexact Ps1
    isplitl [Pr1]; · iexact Pr1
    isplitl [As1]; · iexact As1
    isplitl [Ar1]; · iexact Ar1
    isplitl [Cr1]; · iexact Cr1
    iexact Pc1
  ihave H1 := (hops_mk c 1) $$ H1
  icases H1 with ⟨H1, K10, K11⟩
  ihave Pb := (bars_mk c) $$ Pb
  icases Pb with ⟨Pb0, Pb1⟩
  ihave Cb := (bar_two c) $$ Cb
  ihave Ca := (acs_mk c) $$ Ca
  ihave M0 := (mTok_mk c 0) $$ [Pm0 Pn0 Am0 An0 Cn0 Pa0]
  · isplitl [Pm0]; · iexact Pm0
    isplitl [Pn0]; · iexact Pn0
    isplitl [Am0]; · iexact Am0
    isplitl [An0]; · iexact An0
    isplitl [Cn0]; · iexact Cn0
    iexact Pa0
  ihave M1 := (mTok_mk c 1) $$ [Pm1 Pn1 Am1 An1 Cn1 Pa1]
  · isplitl [Pm1]; · iexact Pm1
    isplitl [Pn1]; · iexact Pn1
    isplitl [Am1]; · iexact Am1
    isplitl [An1]; · iexact An1
    isplitl [Cn1]; · iexact Cn1
    iexact Pa1
  ihave M2 := (mTok_mk c 2) $$ [Pm2 Pn2 Am2 An2 Cn2 Pa2]
  · isplitl [Pm2]; · iexact Pm2
    isplitl [Pn2]; · iexact Pn2
    isplitl [Am2]; · iexact Am2
    isplitl [An2]; · iexact An2
    isplitl [Cn2]; · iexact Cn2
    iexact Pa2
  unfold LToks LaneK MToks
  isplitl [H0 K00 K01 U00 U01 Ac0 R00 R01]
  · isplitl [H0]; · iexact H0
    isplitl [K00 K01 U00 U01]
    · isplitl [K00 K01]
      · isplitl [K00]; · iexact K00
        iexact K01
      isplitl [U00]; · iexact U00
      iexact U01
    isplitl [Ac0]; · iexact Ac0
    isplitl [R00]; · iexact R00
    iexact R01
  isplitl [H1 K10 K11 U10 U11 Ac1 R10 R11]
  · isplitl [H1]; · iexact H1
    isplitl [K10 K11 U10 U11]
    · isplitl [K10 K11]
      · isplitl [K10]; · iexact K10
        iexact K11
      isplitl [U10]; · iexact U10
      iexact U11
    isplitl [Ac1]; · iexact Ac1
    isplitl [R10]; · iexact R10
    iexact R11
  isplitl [Pb0 Pb1 Cb Ab]
  · isplitl [Pb0]; · iexact Pb0
    isplitl [Pb1]; · iexact Pb1
    isplitl [Cb]; · iexact Cb
    iexact Ab
  isplitl [Aa]; · iexact Aa
  isplitl [Ca]; · iexact Ca
  isplitl [M0]; · iexact M0
  isplitl [M1]; · iexact M1
  iexact M2

/-! ## The columns -/

def colEquiv : Fin 2 × Fin 4 ≃ Fin 8 where
  toFun y := colIx y.1 y.2
  invFun t := (⟨t.val / 4, by omega⟩, ⟨t.val % 4, Nat.mod_lt _ (by decide)⟩)
  left_inv y := by revert y; decide
  right_inv t := by revert t; decide

/-- A family over the columns, lane by lane. -/
theorem cols_eq (Φ : Fin 8 → sProp 𝕄) : bigSep Finset.univ Φ
    = iprop((bigSep Finset.univ fun p : Fin 4 => Φ (colIx 0 p)) ∗ bigSep Finset.univ fun p : Fin 4 => Φ (colIx 1 p)) := by
  rw [bigSep_univ_equiv colEquiv, bigSep_univ_prod, sep2]
  rfl

theorem weights_split (c : Dev nD) : (owns (c : Thread nD τ) wM fullShare (w c) : sProp 𝕄)
    ⊢ iprop((bigSep Finset.univ fun p : Fin 4 => WTile w c 0 p) ∗ bigSep Finset.univ fun p : Fin 4 => WTile w c 1 p) :=
  (owns_rects (c : Thread nD τ) wM fullShare colR (fun _ _ => rfl) colR_disj colR_cov (w c)).trans (Entails.of_eq (cols_eq _))

theorem col_ext {α : Type} {X Y : S1024x8192.Idx → α} (h : ∀ t j, X ((colR t).emb j) = Y ((colR t).emb j)) : X = Y := by
  funext i
  obtain ⟨t, -, ht⟩ := Finset.mem_biUnion.mp (colR_cov.symm ▸ Finset.mem_univ i : i ∈ (Finset.univ : Finset (Fin 8)).biUnion fun t => (colR t).set)
  obtain ⟨j, rfl⟩ := (colR t).exists_idx_of_mem ht
  exact h t j

theorem weights_join (c : Dev nD) : iprop((bigSep Finset.univ fun p : Fin 4 => WTile w c 0 p) ∗ bigSep Finset.univ fun p : Fin 4 => WTile w c 1 p)
    ⊢ (owns (c : Thread nD τ) wM fullShare (w c) : sProp 𝕄) := by
  refine (Entails.of_eq (cols_eq (fun t => owns (c : Thread nD τ) (colOf wM t) fullShare fun j => w c ((colR t).emb j))).symm).trans ?_
  refine (val_join c fullShare wM colR (fun _ _ => rfl) colR_disj colR_cov (fun t j => w c ((colR t).emb j))).trans ?_
  iintro ⟨%X, %hX, H⟩
  obtain rfl := col_ext hX
  iexact H

theorem outs_split (c : Dev nD) : (anyOf c oM : sProp 𝕄)
    ⊢ iprop((bigSep Finset.univ fun p : Fin 4 => anyOf c (colOf oM (colIx 0 p))) ∗ bigSep Finset.univ fun p : Fin 4 => anyOf c (colOf oM (colIx 1 p))) :=
  (any_split c oM colR (fun _ _ => rfl) colR_disj colR_cov).trans (Entails.of_eq (cols_eq _))

/-- The result: every tile as rescaled. -/
def Res (c : Dev nD) (O : S1024x8192.Idx → Elt F .f32) : Prop := ∀ t j, O ((colR t).emb j) = Otile x w c t j

theorem outs_join (c : Dev nD) : (Outs x w c : sProp 𝕄) ⊢ iprop(∃ O, ⌜Res x w c O⌝ ∗ owns (c : Thread nD τ) oM fullShare O) := by
  refine BIBase.Entails.trans (Entails.of_eq ?_) (val_join c fullShare oM colR (fun _ _ => rfl) colR_disj colR_cov (Otile x w c))
  rw [cols_eq, fin4_sep, fin4_sep]
  rfl

/-! ## The start -/

/-- The kernel's buffers, at any contents. -/
def Scr (c : Dev nD) : sProp 𝕄 :=
  iprop(anyOf c wvM ∗ anyOf c acM ∗ anyOf c sdM ∗ anyOf c rvM ∗ anyOf c yM ∗ anyOf c asM ∗ anyOf c arM)
/-- The local copies' semaphores, at zero. -/
def Loc0 (c : Dev nD) : sProp 𝕄 :=
  iprop((bigSep Finset.univ fun d : Fin 2 => semVal ((c : Thread nD τ), SemLoc.dma (wS d)) 0) ∗ bigSep Finset.univ fun d : Fin 2 => semVal ((c : Thread nD τ), SemLoc.dma (yS d)) 0)

theorem start_mk (c : Dev nD) : iprop((Lin c ∗ Crd c) ∗ Loc0 c ∗ Scr c ∗ owns (c : Thread nD τ) wM fullShare (w c) ∗ anyOf c oM)
    ⊢ (iprop((LaneA w c 0 ∗ Rcv0 c 0) ∗ (LaneA w c 1 ∗ Rcv0 c 1) ∗ Mx0 c) : sProp 𝕄) := by
  unfold Loc0 Scr
  simp only [sep2]
  iintro ⟨Hl, ⟨⟨Sw0, Sw1⟩, Sy0, Sy1⟩, ⟨Hv, Ha, Hs, Hr, Hy, Has, Har⟩, Hw, Ho⟩
  ihave Hl := ((lin_out c)) $$ Hl
  icases Hl with ⟨T0, T1, TM⟩
  ihave T0 := (show (LToks c 0 : sProp 𝕄) ⊢ iprop((bigSep Finset.univ fun g : Fin 12 => HopTok c 0 g) ∗ LaneK c 0 ∗ atPos ER (cell c (.cr 0)) 0 ∅ 0 ∗ readerAt ESlot ((c, 0, 0) : Key) 0 ∗ readerAt ESlot ((c, 0, 1) : Key) 0) from BI.Entails.refl _) $$ T0
  icases T0 with ⟨H0, K0, A0, R00, R01⟩
  ihave T1 := (show (LToks c 1 : sProp 𝕄) ⊢ iprop((bigSep Finset.univ fun g : Fin 12 => HopTok c 1 g) ∗ LaneK c 1 ∗ atPos ER (cell c (.cr 1)) 0 ∅ 0 ∗ readerAt ESlot ((c, 1, 0) : Key) 0 ∗ readerAt ESlot ((c, 1, 1) : Key) 0) from BI.Entails.refl _) $$ T1
  icases T1 with ⟨H1, K1, A1, R10, R11⟩
  ihave TM := (show (MToks c : sProp 𝕄) ⊢ iprop((dutyTok ER (cell (leftD c) .bar) 0 0 ∗ dutyTok ER (cell (rightD c) .bar) 0 1 ∗ cred (tallyAt (cell c .bar) 0 2) ∗ atPos ER (cell c .bar) 0 ∅ 0)
    ∗ atPos ER (cell c .ac) 0 ∅ 0
    ∗ (cred (tallyAt (cell c .ac) 0 1) ∗ cred (tallyAt (cell c .ac) 1 1) ∗ cred (tallyAt (cell c .ac) 2 1))
    ∗ MTok c 0 ∗ MTok c 1 ∗ MTok c 2) from BI.Entails.refl _) $$ TM
  icases TM with ⟨M1, M2, M3, M4⟩
  ihave Hv := (lanes_split c wvM) $$ Hv
  icases Hv with ⟨V0, V1⟩
  ihave Ha := (lanes_split c acM) $$ Ha
  icases Ha with ⟨C0, C1⟩
  ihave Hy := (lanes_split c yM) $$ Hy
  icases Hy with ⟨Y0, Y1⟩
  ihave Hs := (slots_split c sdM) $$ Hs
  icases Hs with ⟨⟨S00, S01⟩, S10, S11⟩
  ihave Hr := (slots_split c rvM) $$ Hr
  icases Hr with ⟨⟨G00, G01⟩, G10, G11⟩
  ihave Hw := (weights_split w c) $$ Hw
  icases Hw with ⟨W0, W1⟩
  ihave Ho := (outs_split c) $$ Ho
  icases Ho with ⟨O0, O1⟩
  unfold LaneA Lane0 Rcv0 Mx0
  isplitl [V0 Sw0 C0 S00 S01 A0 Y0 Sy0 W0 O0 H0 K0 R00 G00 R01 G01]
  · isplitl [V0 Sw0 C0 S00 S01 A0 Y0 Sy0 W0 O0 H0 K0]
    · isplitl [V0 Sw0 C0 S00 S01 A0 Y0 Sy0]
      · isplitl [V0]; · iexact V0
        isplitl [Sw0]; · iexact Sw0
        isplitl [C0]; · iexact C0
        isplitl [S00 S01]
        · isplitl [S00]; · iexact S00
          iexact S01
        isplitl [A0]; · iexact A0
        isplitl [Y0]; · iexact Y0
        iexact Sy0
      isplitl [W0]; · iexact W0
      isplitl [O0]; · iexact O0
      isplitl [H0]; · iexact H0
      iexact K0
    isplitl [R00 G00]
    · isplitl [R00]; · iexact R00
      iexact G00
    isplitl [R01]; · iexact R01
    iexact G01
  isplitl [V1 Sw1 C1 S10 S11 A1 Y1 Sy1 W1 O1 H1 K1 R10 G10 R11 G11]
  · isplitl [V1 Sw1 C1 S10 S11 A1 Y1 Sy1 W1 O1 H1 K1]
    · isplitl [V1 Sw1 C1 S10 S11 A1 Y1 Sy1]
      · isplitl [V1]; · iexact V1
        isplitl [Sw1]; · iexact Sw1
        isplitl [C1]; · iexact C1
        isplitl [S10 S11]
        · isplitl [S10]; · iexact S10
          iexact S11
        isplitl [A1]; · iexact A1
        isplitl [Y1]; · iexact Y1
        iexact Sy1
      isplitl [W1]; · iexact W1
      isplitl [O1]; · iexact O1
      isplitl [H1]; · iexact H1
      iexact K1
    isplitl [R10 G10]
    · isplitl [R10]; · iexact R10
      iexact G10
    isplitl [R11]; · iexact R11
    iexact G11
  isplitl [Has]; · iexact Has
  isplitl [Har]; · iexact Har
  isplitl [M1]; · iexact M1
  isplitl [M2]; · iexact M2
  isplitl [M3]; · iexact M3
  iexact M4

/-! ## The end -/

/-- The other semaphores' kinds. -/
abbrev OS : Type := (Fin 2 ⊕ Fin 1 ⊕ Hop ⊕ Hop ⊕ Fin 3 ⊕ Fin 3) ⊕ Fin 2 ⊕ Fin 2
/-- The kernel's own semaphores. -/
abbrev osem : OS → SemLoc sig
  | .inl j => semOf (kindEquiv (.inr j))
  | .inr (.inl d) => .dma (wS d)
  | .inr (.inr d) => .dma (yS d)

theorem ownSems_eq (c : Dev nD) : (Pipeline.ownSems0 (Ix := ℕ) (Name := ℕ) (U := UU) (Lvl := ℕ) (Val := Elt F) (τ := τ) osem c : sProp 𝕄)
    = iprop(((bigSep Finset.univ fun d : Fin 2 => semVal (cell c (.cr d)) 0) ∗ (bigSep Finset.univ fun _ : Fin 1 => semVal (cell c .ac) 0)
        ∗ (bigSep Finset.univ fun y : Hop => semVal (cell c (.snd y.1 y.2.1 y.2.2)) 0) ∗ (bigSep Finset.univ fun y : Hop => semVal (cell c (.rcv y.1 y.2.1 y.2.2)) 0)
        ∗ (bigSep Finset.univ fun h : Fin 3 => semVal (cell c (.am h)) 0) ∗ bigSep Finset.univ fun h : Fin 3 => semVal (cell c (.ar h)) 0) ∗ Loc0 c) := by
  unfold Pipeline.ownSems0 Loc0
  rw [bigSep_univ_sum, bigSep_univ_sum, bigSep_univ_sum, bigSep_univ_sum, bigSep_univ_sum, bigSep_univ_sum, bigSep_univ_sum]
  rfl

/-- The barrier's is the launch's one semaphore. -/
theorem unscoped_eq (c : Dev nD) : (unscopedSems0 c : sProp 𝕄) = semVal (cell c .bar) 0 := by
  unfold unscopedSems0; rw [bigSep_eq_bigSepL_of_eq [SemLoc.reg barS] (by decide) (by decide)]; rfl

theorem sems_kinds (c : Dev nD) :
    iprop(Pipeline.ownSems0 (Ix := ℕ) (Name := ℕ) (U := UU) (Lvl := ℕ) (Val := Elt F) (τ := τ) osem c ∗ unscopedSems0 c)
      ⊢ (iprop((bigSep Finset.univ fun k : Kind => semVal (cell c k) 0) ∗ Loc0 c) : sProp 𝕄) := by
  rw [ownSems_eq, unscoped_eq, kinds_eq, sep1 (F := F) (fun _ => semVal (cell c .bar) 0)]
  iintro ⟨⟨H, HL⟩, HB⟩
  isplitl [HB H]
  · isplitl [HB]; · iexact HB
    iexact H
  iexact HL

theorem hopsDone (c : Dev nD) (d : Fin 2) : (bigSep Finset.univ fun g : Fin 12 => HopDone c d g : sProp 𝕄)
    ⊢ iprop((bigSep Finset.univ fun g : Fin 12 => iprop(semVal (cell c (.snd d g 0)) 0 ∗ semVal (cell c (.snd d g 1)) 0))
      ∗ bigSep Finset.univ fun g : Fin 12 => iprop(semVal (cell c (.rcv d g 0)) 0 ∗ semVal (cell c (.rcv d g 1)) 0)) := by
  unfold HopDone RDone
  rw [bigSep_sep']

theorem end_mk (c : Dev nD) :
    iprop(LaneE w c 0 ∗ LaneE w c 1 ∗ Outs x w c ∗ (TBuf c 0 ∗ TBuf c 1 ∗ TBuf c 2 ∗ TBuf c 3) ∗ MxE c)
      ⊢ (iprop((unscopedSems0 c ∗ owns (c : Thread nD τ) wM fullShare (w c) ∗ ∃ O, ⌜Res x w c O⌝ ∗ owns (c : Thread nD τ) oM fullShare O)
          ∗ Pipeline.ownSems0 (Ix := ℕ) (Name := ℕ) (U := UU) (Lvl := ℕ) (Val := Elt F) (τ := τ) osem c ∗ Scr c) : sProp 𝕄) := by
  rw [ownSems_eq, unscoped_eq]
  unfold LaneE MxE Scr Loc0
  simp only [sep1, sep2, fin3_sep, hops2]
  iintro ⟨⟨V0, ⟨S00, S01⟩, ⟨G00, G01⟩, W0, N0, C0⟩, ⟨V1, ⟨S10, S11⟩, ⟨G10, G11⟩, W1, N1, C1⟩, Ho, ⟨T0, T1, T2, T3⟩, Has, Har, Hb, Ha, Hm, Hn⟩
  ihave T0 := (show (TBuf c 0 : sProp 𝕄) ⊢ iprop(anyOf c (laneS yM 0) ∗ semVal ((c : Thread nD τ), SemLoc.dma (yS 0)) 0) from BI.Entails.refl _) $$ T0
  icases T0 with ⟨T0, Q0⟩
  ihave T1 := (show (TBuf c 1 : sProp 𝕄) ⊢ iprop(anyOf c (laneS yM 1) ∗ semVal ((c : Thread nD τ), SemLoc.dma (yS 1)) 0) from BI.Entails.refl _) $$ T1
  icases T1 with ⟨T1, Q1⟩
  ihave T2 := (show (TBuf c 2 : sProp 𝕄) ⊢ iprop(anyOf c (laneS acM 0) ∗ semVal ((c : Thread nD τ), SemLoc.dma (wS 0)) 0) from BI.Entails.refl _) $$ T2
  icases T2 with ⟨T2, Q2⟩
  ihave T3 := (show (TBuf c 3 : sProp 𝕄) ⊢ iprop(anyOf c (laneS acM 1) ∗ semVal ((c : Thread nD τ), SemLoc.dma (wS 1)) 0) from BI.Entails.refl _) $$ T3
  icases T3 with ⟨T3, Q3⟩
  ihave N0 := (hopsDone c 0) $$ N0
  icases N0 with ⟨N0, R0⟩
  ihave N1 := (hopsDone c 1) $$ N1
  icases N1 with ⟨N1, R1⟩
  ihave Hv := (lanes_join c wvM) $$ [V0 V1]
  · isplitl [V0]; · iexact V0
    iexact V1
  ihave Hac := (lanes_join c acM) $$ [T2 T3]
  · isplitl [T2]; · iexact T2
    iexact T3
  ihave Hy := (lanes_join c yM) $$ [T0 T1]
  · isplitl [T0]; · iexact T0
    iexact T1
  ihave Hs := (slots_join c sdM) $$ [S00 S01 S10 S11]
  · isplitl [S00 S01]
    · isplitl [S00]; · iexact S00
      iexact S01
    isplitl [S10]; · iexact S10
    iexact S11
  ihave Hr := (slots_join c rvM) $$ [G00 G01 G10 G11]
  · isplitl [G00 G01]
    · isplitl [G00]; · iexact G00
      iexact G01
    isplitl [G10]; · iexact G10
    iexact G11
  ihave Hw := (weights_join w c) $$ [W0 W1]
  · isplitl [W0]; · iexact W0
    iexact W1
  ihave Ho := (outs_join x w c) $$ Ho
  isplitl [Hb Hw Ho]
  · isplitl [Hb]; · iexact Hb
    isplitl [Hw]; · iexact Hw
    iexact Ho
  isplitl [C0 C1 Ha N0 N1 R0 R1 Hm Hn Q2 Q3 Q0 Q1]
  · isplitl [C0 C1 Ha N0 N1 R0 R1 Hm Hn]
    · isplitl [C0 C1]
      · isplitl [C0]; · iexact C0
        iexact C1
      isplitl [Ha]; · iexact Ha
      isplitl [N0 N1]
      · isplitl [N0]; · iexact N0
        iexact N1
      isplitl [R0 R1]
      · isplitl [R0]; · iexact R0
        iexact R1
      isplitl [Hm]; · iexact Hm
      iexact Hn
    isplitl [Q2 Q3]
    · isplitl [Q2]; · iexact Q2
      iexact Q3
    isplitl [Q0]; · iexact Q0
    iexact Q1
  isplitl [Hv]; · iexact Hv
  isplitl [Hac]; · iexact Hac
  isplitl [Hs]; · iexact Hs
  isplitl [Hr]; · iexact Hr
  isplitl [Hy]; · iexact Hy
  isplitl [Has]; · iexact Has
  iexact Har

end Cert.Ring

end
-- ==== Proof.Ring.Launch.lean ====
/-
The whole run on the four devices: the launch deals each device what its run needs, the run is `tri_body`, and every
final memory is read off what the runs leave.
-/
module

public import proofs.«01_k».proof.Proof.Ring.Setup
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- A device's block of the rows, as its run finds it, -/
def xA (c : Dev nD) : S4096x1024.Idx → Elt F .f32 := (win0_0.blk (0 : Fin 1)).view.read (Elt F) (m ((c : Thread nD τ).loc main_arg0))
/-- and its block of the weights. -/
def wA (c : Dev nD) : S1024x8192.Idx → Elt F .f32 := m ((c : Thread nD τ).loc main_arg1)

/-! ## The launch element -/

def u₀ : UU :=
  (initOf (Pipeline.cells cfgs cellOf_inj) (Pipeline.launchToks cfgs cellOf_inj), (initOf ringCells ringToks, (initSlots (Finset.univ : Finset Key) 7, 1)))

/-- The receive slots' invariants. -/
def SlotInv (ιs : Key → ℕ) : sProp 𝕄 := bigSep Finset.univ (fun k : Key => slotInv ESlot (ιs k) k (slotAny (F := F) k.1 rvM k.2.1 k.2.2))
instance SlotInv_persistent (ιs : Key → ℕ) : BI.Persistent (SlotInv (F := F) ιs) := by unfold SlotInv; infer_instance
/-- The cells' invariants, and that their first rounds have begun. -/
def CellInv (K : Dev nD × Kind → ℕ) : sProp 𝕄 :=
  iprop(bigSep Finset.univ (fun y : Dev nD × Kind => cellInv ER (ringRd (xA m) (wA m)) (K y) (cell y.1 y.2))
    ∗ bigSep Finset.univ (fun y : Dev nD × Kind => reached ER (cell y.1 y.2) 0))
instance CellInv_persistent (K : Dev nD × Kind → ℕ) : BI.Persistent (CellInv (F := F) m K) := by unfold CellInv; infer_instance

theorem ctx_mk (K : Dev nD × Kind → ℕ) (ιs : Key → ℕ) : iprop(CellInv m K ∗ SlotInv ιs ∗ levAts L lv) ⊢ (Ctx (xA m) (wA m) K ιs : sProp 𝕄) := by
  unfold CellInv SlotInv Ctx
  iintro ⟨⟨H1, H2⟩, H3, H4⟩
  isplitl [H1]; · iexact H1
  isplitl [H2]; · iexact H2
  isplitl [H3]; · iexact H3
  iexact H4

/-- What the launch element deals a device. -/
def G (c : Dev nD) : sProp 𝕄 :=
  iprop((bigSep Finset.univ fun k : Kind => roundState ER (ringRd (xA m) (wA m)) (cell c k) 0) ∗ (bigSep Finset.univ fun k : Kind => reached ER (cell c k) 0)
    ∗ (∃ ιs, SlotInv ιs) ∗ Lin c)
/-- What the launch makes of it. -/
def G' (c : Dev nD) : sProp 𝕄 := iprop(∃ K ιs, CellInv m K ∗ SlotInv ιs ∗ Lin c ∗ Loc0 c)

theorem own_split : (BI.own (ERest ((initOf ringCells ringToks, (initSlots (Finset.univ : Finset Key) 7, 1)) : UB × (USlots Key × Counters))) : sProp 𝕄)
    ⊢ iprop(BI.own (ER (initOf ringCells ringToks)) ∗ BI.own (ESlot (initSlots (Finset.univ : Finset Key) 7))) := by
  iintro H
  ihave H := (own_pair_emb ERest (initOf ringCells ringToks) (initSlots (Finset.univ : Finset Key) 7, (1 : Counters))) $$ H
  icases H with ⟨H1, H2⟩
  isplitl [H1]; · iexact H1
  ihave H2 := (own_pair_emb ((Emb.inr : Emb (USlots Key × Counters) (UB × (USlots Key × Counters))).trans ERest) (initSlots (Finset.univ : Finset Key) 7) (1 : Counters)) $$ H2
  icases H2 with ⟨H2, -⟩
  iexact H2

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem cells_dealt (Φ : GSem nD τ sig → sProp 𝕄) : bigSep ringCells Φ = bigSep Finset.univ fun c : Dev nD => bigSep Finset.univ fun k : Kind => Φ (cell c k) := by
  unfold ringCells; rw [bigSep_map, bigSep_univ_prod]; rfl

theorem slots_dealt : (BI.own (ESlot (initSlots (Finset.univ : Finset Key) 7)) : sProp 𝕄)
    ⊢ |={Set.univ}=> iprop((∃ ιs, SlotInv ιs) ∗ (bigSep Finset.univ fun c : Dev nD => bigSep Finset.univ fun y : Fin 2 × Fin 2 => readerAt ESlot ((c, y) : Key) 0)
      ∗ bigSep Finset.univ fun c : Dev nD => Writes c) := by
  iintro H
  imod (slots_init (Es := Set.univ) ESlot (Finset.univ : Finset Key) 7 (fun k => slotAny (F := F) k.1 rvM k.2.1 k.2.2) ∅) $$ H with ⟨%ιs, -, H1, H2, H3⟩
  imodintro
  isplitl [H1]
  · iexists ιs; unfold SlotInv; iexact H1
  isplitl [H2]
  · ihave H2 := (Entails.of_eq (bigSep_univ_prod (fun k : Key => (readerAt ESlot k 0 : sProp 𝕄)))) $$ H2
    iexact H2
  · ihave H3 := (Entails.of_eq (writes_dealt (F := F))) $$ H3
    iexact H3

theorem fund_all : (BI.own (ERest ((initOf ringCells ringToks, (initSlots (Finset.univ : Finset Key) 7, 1)) : UB × (USlots Key × Counters))) : sProp 𝕄)
    ⊢ |={Set.univ}=> bigSep Finset.univ (G m) := by
  iintro H
  ihave H := (own_split (F := F)) $$ H
  icases H with ⟨H1, H2⟩
  imod (Rounds.fund ER (ringRd (xA m) (wA m)) ringCells ringToks) $$ H1 with ⟨Hst, Hr, Hat, Htok⟩
  imod (slots_dealt (F := F)) $$ H2 with ⟨⟨%ιs, #Hs⟩, Hrd, Hw⟩
  imodintro
  ihave Hst := (Entails.of_eq (cells_dealt fun g => roundState ER (ringRd (xA m) (wA m)) g 0)) $$ Hst
  ihave Hat := (Entails.of_eq (cells_dealt (F := F) fun g => atPos ER g 0 ∅ 0)) $$ Hat
  ihave Hr := (Entails.of_eq (cells_dealt (F := F) fun g => reached ER g 0)) $$ Hr
  ihave Htok := (Entails.of_eq (toks_dealt (F := F))) $$ Htok
  iapply (bigSep_with (R := SlotInv (F := F) ιs) (Φ := fun c : Dev nD => iprop((bigSep Finset.univ fun k : Kind => roundState ER (ringRd (xA m) (wA m)) (cell c k) 0)
      ∗ (bigSep Finset.univ fun k : Kind => reached ER (cell c k) 0) ∗ Lin c)) (Ψ := G m) fun c _ => by
    unfold G
    iintro ⟨Hs, H1, H2, H3⟩
    isplitl [H1]; · iexact H1
    isplitl [H2]; · iexact H2
    isplitl [Hs]
    · iexists ιs; iexact Hs
    · iexact H3)
  isplitr; · iexact Hs
  unfold Lin
  simp only [bigSep_sep']
  isplitl [Hst]; · iexact Hst
  isplitl [Hr]; · iexact Hr
  isplitl [Hat]; · iexact Hat
  isplitl [Htok]; · iexact Htok
  isplitl [Hrd]; · iexact Hrd
  iexact Hw

/-! ## The cells' invariants -/

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Kind => iprop(∃ κ : ℕ, cellInv ER (ringRd (xA m) (wA m)) κ (cell c k)))
          ∗ (bigSep Finset.univ fun k : Kind => reached ER (cell c k) 0) ∗ (∃ ιs, SlotInv ιs) ∗ Lin c ∗ Loc0 c) := by
  unfold G
  iintro ⟨Hos, Hus, Hst, Hr, Hs, Hl⟩
  ihave Hv := (sems_kinds (F := F) c) $$ [Hos Hus]
  · isplitl [Hos] <;> iassumption
  icases Hv with ⟨Hv, H0⟩
  imod (show iprop((bigSep Finset.univ fun k : Kind => semVal (cell c k) 0) ∗ bigSep Finset.univ fun k : Kind => roundState ER (ringRd (xA m) (wA m)) (cell c k) 0)
      ⊢ (|={Set.univ}=> bigSep Finset.univ fun k : Kind => iprop(∃ κ : ℕ, cellInv ER (ringRd (xA m) (wA m)) κ (cell c k)) : sProp 𝕄) from by
        rw [← bigSep_sep']
        exact (bigSep_mono fun k _ => (Rounds.body_intro ER (ringRd (xA m) (wA m)) (cell c k)).trans inv_alloc).trans (bigSep_fupd _ _)) $$ [Hv Hst] with Hinv
  · isplitl [Hv] <;> iassumption
  imodintro
  isplitl [Hinv]; · iexact Hinv
  isplitl [Hr]; · iexact Hr
  isplitl [Hs]; · iexact Hs
  isplitl [Hl]; · iexact Hl
  iexact H0

theorem regroup :
    (bigSep Finset.univ fun c : Dev nD => iprop((bigSep Finset.univ fun k : Kind => iprop(∃ κ : ℕ, cellInv ER (ringRd (xA m) (wA m)) κ (cell c k)))
          ∗ (bigSep Finset.univ fun k : Kind => reached ER (cell c k) 0) ∗ (∃ ιs, SlotInv ιs) ∗ Lin c ∗ Loc0 c) : sProp 𝕄)
      ⊢ bigSep Finset.univ (G' m) := by
  rw [bigSep_sep', bigSep_sep', ← bigSep_univ_prod (fun y : Dev nD × Kind => iprop(∃ κ : ℕ, cellInv ER (ringRd (xA m) (wA m)) κ (cell y.1 y.2))),
    ← bigSep_univ_prod (fun y : Dev nD × Kind => (reached ER (cell y.1 y.2) 0 : sProp 𝕄))]
  iintro ⟨HI, #HR, Hrest⟩
  ihave HK := (BI.bigSep_exists_pi Finset.univ (fun (y : Dev nD × Kind) (κ : ℕ) => (cellInv ER (ringRd (xA m) (wA m)) κ (cell y.1 y.2) : sProp 𝕄))) $$ HI
  icases HK with ⟨%K, #HI⟩
  iapply (bigSep_with (R := CellInv m K) (Φ := fun c : Dev nD => iprop((∃ ιs, SlotInv ιs) ∗ Lin c ∗ Loc0 c)) (Ψ := G' m) fun c _ => by
    unfold G'
    iintro ⟨HC, ⟨%ιs, Hs⟩, Hl, H0⟩
    iexists K
    iexists ιs
    isplitl [HC]; · iexact HC
    isplitl [Hs]; · iexact Hs
    isplitl [Hl]; · iexact Hl
    iexact H0)
  isplitr
  · unfold CellInv
    isplitl
    · iexact HI
    · iexact HR
  · iexact Hrest

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The region -/

/-- What a device enters its region with, but for the kernel's buffers. -/
def start (c : Dev nD) : sProp 𝕄 :=
  iprop(G' m c ∗ levAts L lv ∗ Crd c ∗ owns (c : Thread nD τ) wM fullShare (wA m c) ∗ anyOf c oM)
def Φ₀ (c : Dev nD) : sProp 𝕄 := iprop(start m c ∗ Scr c)
/-- What it leaves with, but for those. -/
def fin (c : Dev nD) : sProp 𝕄 :=
  iprop(unscopedSems0 c ∗ owns (c : Thread nD τ) wM fullShare (wA m c) ∗ ∃ O, ⌜Res (xA m) (wA m) c O⌝ ∗ owns (c : Thread nD τ) oM fullShare O)
def Φ₁ (c : Dev nD) : sProp 𝕄 :=
  iprop(fin m c ∗ Pipeline.ownSems0 (Ix := ℕ) (Name := ℕ) (U := UU) (Lvl := ℕ) (Val := Elt F) (τ := τ) osem c ∗ Scr c)

def dats (_ : Fin 1) (c : Dev nD) : Pipeline.Dat τ (Elt F) ℕ ℕ UU ℕ cfg0 c where
  A w := m ((cfg0.win w).arr.view.loc (c : Thread nD τ))
  after w _ := match w with
    | ⟨0, _⟩ => xA m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 1)) := bigSep_W0 Φ
theorem fin_N (t : Fin cfg0.N) : t = t0_0 := fin_N0 t
theorem fetch_0 (t : Fin cfg0.N) : (cfg0.win (0 : Fin 1)).fetch t = true := fetch0_0 t

def bodyPre (c : Dev nD) : sProp 𝕄 :=
  iprop(Φ₀ m c ∗ (dats m 0 c).owesAt 0 t0_0.castSucc
    ∗ (∃ d, owns (c : Thread nD τ) xM fullShare ((dats m 0 c).before (0 : Fin 1) t0_0 d)))
def bodyPost (c : Dev nD) : sProp 𝕄 :=
  iprop(Φ₁ m c ∗ (dats m 0 c).owesAt 0 t0_0.succ ∗ owns (c : Thread nD τ) xM fullShare (xA m c))

theorem before_eq (c : Dev nD) (d) : (dats m 0 c).before (0 : Fin 1) t0_0 d = xA m c := by
  unfold Pipeline.Dat.before; rw [if_pos (fetch_0 t0_0)]; rfl

theorem owes_in (c : Dev nD) : ((dats m 0 c).owesAt 0 t0_0.castSucc : sProp 𝕄) ⊢ owesN c 0 := by
  unfold Pipeline.Dat.owesAt Pipeline.owesWithin owesN
  iintro ⟨%W, -, H⟩
  iexists W
  iexact H
theorem owes_out (c : Dev nD) : (owesN c 80 : sProp 𝕄) ⊢ (dats m 0 c).owesAt 0 t0_0.succ := by
  unfold Pipeline.Dat.owesAt Pipeline.owesWithin owesN
  rw [owedL_end]
  iintro ⟨%W, H⟩
  iexists W
  isplitr; · ipureintro; exact fun _ _ => Or.inl trivial
  iexact H

theorem body_run (c : Dev nD) : (bodyPre m c : sProp 𝕄) ⊢ WP c (ringBody (F := F)) (fun _ => bodyPost m c) := by
  unfold bodyPre Φ₀ start G'
  iintro ⟨⟨⟨⟨%K, %ιs, HC, Hs, Hl, H0⟩, Hlev, Hcr, Hw, Ho⟩, HS⟩, HO, %d, Hx⟩
  ihave HC := (ctx_mk m K ιs) $$ [HC Hs Hlev]
  · isplitl [HC]; · iexact HC
    isplitl [Hs]; · iexact Hs
    iexact Hlev
  ihave H := (start_mk (wA m) c) $$ [Hl Hcr H0 HS Hw Ho]
  · isplitl [Hl Hcr]
    · isplitl [Hl]; · iexact Hl
      iexact Hcr
    isplitl [H0]; · iexact H0
    isplitl [HS]; · iexact HS
    isplitl [Hw]; · iexact Hw
    iexact Ho
  icases H with ⟨H1, H2, H3⟩
  ihave HO := (owes_in m c) $$ HO
  ihave Hx := (Entails.of_eq (by rw [before_eq])) $$ Hx
  iapply (Tri.use_last (tri_body (xA m) (wA m) K ιs c)) $$ [HC HO Hx H1 H2 H3]
  · isplitl [HC]; · iexact HC
    isplitl [HO]; · iexact HO
    isplitl [Hx]; · iexact Hx
    isplitl [H1]; · iexact H1
    isplitl [H2]; · iexact H2
    iexact H3
  iintro %_ ⟨HO, Hx, H1, H2, H3, H4, H5⟩
  ihave HO := (owes_out m c) $$ HO
  ihave H := (end_mk (xA m) (wA m) c) $$ [H1 H2 H3 H4 H5]
  · isplitl [H1]; · iexact H1
    isplitl [H2]; · iexact H2
    isplitl [H3]; · iexact H3
    isplitl [H4]; · iexact H4
    iexact H5
  unfold bodyPost Φ₁ fin
  isplitl [H]; · iexact H
  isplitl [HO]; · iexact HO
  iexact Hx

set_option maxRecDepth 65536 in
/-- The run of the region's body on each device. -/
theorem body_obligation (c : Dev nD) : Pipeline.BodyObligation (dats (F := F) m 0 c) (defs₀ (F := F)) 𝒱₀ 0 Set.univ := fun t => by
  rw [fin_N t]
  rw [bigSep_W, bigSep_W]
  show bodyPre m c ⊢ wp frame (wpE (defs₀ (F := F)) 𝒱₀ (c : Thread nD τ) none) Set.univ
    (cc0_body (Memref.whole cc0_stg0_0) (Memref.isWhole_whole _) (Memref.whole main_arg1) (Memref.isWhole_whole _)
      (Memref.whole main_v1) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _)
      cc0_scratch7 cc0_scratch8 cc0_scratch9 cc0_scratch10 cc0_scratch11 cc0_scratch12 cc0_scratch13 cc0_scratch14 cc0_scratch15) (fun _ => bodyPost m c)
  rw [cc0_body_eq_skeleton, body_eq]
  exact body_run m c

/-! ## The launch's conditions -/

theorem kinds_scoped (j : Fin 2 ⊕ Fin 1 ⊕ Hop ⊕ Hop ⊕ Fin 3 ⊕ Fin 3) : (semOf (kindEquiv (.inr j))).isScoped .tc = true ∧ ∀ w s, semOf (kindEquiv (.inr j)) ≠ .dma ((spec0 w).sem s) := by
  rcases j with j | j | ⟨d, g, b⟩ | ⟨d, g, b⟩ | j | j
  · revert j; decide
  · revert j; decide
  · revert d g b; decide
  · revert d g b; decide
  · revert j; decide
  · revert j; decide

theorem loc_none (y : Fin 2 ⊕ Fin 2) : kindOf (osem (.inr y)) = none := by revert y; decide

theorem osem_loc_inj : ∀ y y' : Fin 2 ⊕ Fin 2, osem (.inr y) = osem (.inr y') → y = y' := by decide

theorem ownSemFacts : Pipeline.OwnSemFacts cfg0.spec osem where
  isScoped := by
    rintro (j | y)
    · exact (kinds_scoped j).1
    · revert y; decide
  inj := by
    have hk (j : Fin 2 ⊕ Fin 1 ⊕ Hop ⊕ Hop ⊕ Fin 3 ⊕ Fin 3) : kindOf (osem (.inl j)) = some (kindEquiv (.inr j)) := kindOf_semOf _
    rintro (j | y) (j' | y') h
    · have := hk j
      rw [h, hk j'] at this
      have h2 := kindEquiv.injective (Option.some.inj this)
      rw [Sum.inr.inj h2]
    · have := hk j
      rw [h, loc_none] at this
      cases this
    · have := hk j'
      rw [← h, loc_none] at this
      cases this
    · rw [osem_loc_inj y y' h]
  disj := by
    rintro (j | y) w s
    · exact (kinds_scoped j).2 w s
    · revert y w s; decide

theorem share_eq (c : Dev nD) (w : Fin cfg0.W) : (dats m 0 c).share w = fullShare := by unfold Pipeline.Dat.share; split <;> rfl

theorem L_of_ne (g : GSem nD τ sig) (h : g.1.2 ≠ .tc) : L g = ∅ := if_neg h

theorem mayWait_stage (c : Dev nD) (q : DmaSem sig) (hq : kindOf (.dma q) = none) (O : CellTallies nD τ sig ℕ) (hO : O = O₀ c ∨ O = 0) :
    (levAts L lv : sProp 𝕄) ⊢ MayWait (c : Thread nD τ) (.dma q) 0 O := by
  rcases hO with rfl | rfl
  · refine mayWait c (.dma q) 0 0 (by decide) fun it _ => ?_
    have h0 : lv ((c : Thread nD τ), SemLoc.dma q) 0 = 0 := by
      show (kindOf (.dma q)).elim 0 (kLvl · 0) = 0
      rw [hq]; rfl
    rw [h0]
    exact lvl_pos it
  · rw [MayWait_zero]
    iintro -
    iempintro

theorem waits (c : Dev nD) : (levAts L lv : sProp 𝕄) ⊢ Pipeline.cellsWaits cfgs (dats m) 0 0 c :=
  Pipeline.cellsWaits_intro cfgs (dats m) 0 0 c fun w s t =>
    mayWait_stage c _ (by revert w s; decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show Pipeline.unscopedRest (Ix := ℕ) (Name := ℕ) (U := UU) (Lvl := ℕ) cfg0.spec c (fun b => m ((c : Thread nD τ).loc b)) = _ from unscopedRest0_eq c _]
  iintro ⟨⟨Hw, Ho⟩, Hlev, Hcr, -, HG⟩
  ihave Hcr := (creds (F := F) c) $$ Hcr
  ihave Hw := (whole_intro c main_arg1 _ fullShare) $$ Hw
  ihave Ho := (whole_intro c main_v1 _ fullShare) $$ Ho
  ihave Ho := (anyOf_intro c oM _) $$ Ho
  imodintro
  unfold start Crd
  isplitl
  · isplitl [HG]; · iexact HG
    isplitl [Hlev]; · iexact Hlev
    isplitl [Hcr]; · iexact Hcr
    isplitl [Hw]; · iexact Hw
    iexact Ho
  · iempintro

theorem scr_in (c : Dev nD) (b : Ref sig .tc) : (iprop(∃ f : Buf (Elt F) ((c : Thread nD τ).loc b), ((c : Thread nD τ).loc b) ↦{fullShare} f) : sProp 𝕄) ⊢ anyOf c (Memref.whole b) := by
  unfold anyOf
  iintro ⟨%f, H⟩
  iexists f
  iapply (whole_intro c b f fullShare) $$ H
theorem scr_out (c : Dev nD) (b : Ref sig .tc) : (anyOf c (Memref.whole b) : sProp 𝕄) ⊢ iprop(∃ f : Buf (Elt F) ((c : Thread nD τ).loc b), ((c : Thread nD τ).loc b) ↦{fullShare} f) := by
  unfold anyOf
  iintro ⟨%f, H⟩
  iexists f
  iapply (whole_elim c b f fullShare) $$ H

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show Pipeline.scopedRest (Ix := ℕ) (Name := ℕ) (U := UU) (Lvl := ℕ) (Val := Elt F) cfg0.spec c = _ from scopedRest0_eq c]
  unfold Φ₀ Scr
  iintro ⟨Hs, -, H0, H1, H2, H3, H4, H5, H6⟩
  isplitl [Hs]; · iexact Hs
  isplitl [H0]; · iapply (scr_in c cc0_scratch0) $$ H0
  isplitl [H1]; · iapply (scr_in c cc0_scratch1) $$ H1
  isplitl [H2]; · iapply (scr_in c cc0_scratch2) $$ H2
  isplitl [H3]; · iapply (scr_in c cc0_scratch3) $$ H3
  isplitl [H4]; · iapply (scr_in c cc0_scratch4) $$ H4
  isplitl [H5]; · iapply (scr_in c cc0_scratch5) $$ H5
  iapply (scr_in c cc0_scratch6) $$ H6

theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Φ₁ m c from rfl, show Pipeline.scopedRest (Ix := ℕ) (Name := ℕ) (U := UU) (Lvl := ℕ) (Val := Elt F) cfg0.spec c = _ from scopedRest0_eq c]
  unfold Φ₁ Scr
  iintro ⟨Hf, Hs, H0, H1, H2, H3, H4, H5, H6⟩
  isplitl [Hf]; · iexact Hf
  isplitl [Hs]; · iexact Hs
  isplitl [H0]; · iapply (scr_out c cc0_scratch0) $$ H0
  isplitl [H1]; · iapply (scr_out c cc0_scratch1) $$ H1
  isplitl [H2]; · iapply (scr_out c cc0_scratch2) $$ H2
  isplitl [H3]; · iapply (scr_out c cc0_scratch3) $$ H3
  isplitl [H4]; · iapply (scr_out c cc0_scratch4) $$ H4
  isplitl [H5]; · iapply (scr_out c cc0_scratch5) $$ H5
  iapply (scr_out c cc0_scratch6) $$ H6

/-! ## The run -/

/-- What is read off a device's part at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ Res (xA m) (wA m) c (s.mem ((c : Thread nD τ).loc main_v1))

theorem fin_read (c : Dev nD) (s' : Phys nD τ sig (Elt F)) : iprop(fin m c ∗ emp ∗ SI s') ⊢ |={Set.univ}=> iprop(⌜QY m c s'.mem⌝ ∗ (SI s' : sProp 𝕄)) := by
  unfold fin QY
  iintro ⟨⟨Hu, Hw, %O, %hO, Ho⟩, -, HSI⟩
  ihave Hw := (whole_elim c main_arg1 _ fullShare) $$ Hw
  ihave Ho := (whole_elim c main_v1 _ fullShare) $$ Ho
  icombine HSI Hw gives %hw
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    refine ⟨hs, funext fun i => hw i (Finset.mem_univ i), ?_⟩
    rw [show s'.mem.mem ((c : Thread nD τ).loc main_v1) = O from funext fun i => ho i (Finset.mem_univ i)]
    exact hO
  · iexact HSI

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w) ∧ QY m c r.2

set_option maxRecDepth 65536 in
/-- From any memory with every counter at zero, every fair run of the four devices ends, and at the end every device has
    its blocks as they were, every counter at zero and the result tile by tile as rescaled. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m) (hout := phi1_exit m)
    (QY := QY m)
    (hY := fun c s' => fin_read m c s')
    (hQ := fun _ h hs => ⟨fun c => ⟨fun w => (h c).1 w, (h c).2.2⟩, sem_eq_zero hs fun c => (h c).2.2.1⟩)

/-- The rows after the run are what they were. -/
theorem finalA_x (c : Dev nD) : finalA m c (0 : Fin 1) = m (win0_0.arr.view.loc (c : Thread nD τ)) :=
  (dats (F := F) m 0 c).arrAt_in (0 : Fin 1) rfl _

end Cert.Ring

end
-- ==== Proof.Ring.Frames.lean ====
/-
The frame claims: both readings of the kernel are one text, so its run is proved once, over any floats.
-/
module

public import proofs.«01_k».proof.Defs
public import proofs.«01_k».proof.Proof.Ring.Launch
public import proofs.«01_k».proof.Proof.Gen.Kernel
public import proofs.«01_k».proof.Proof.Gen.ReferenceIdeal.Frame

@[expose] public section

noncomputable section

namespace Cert.Ring

open Cert.KernelIdeal Cert.KernelIdeal.Gen
open Idealize.ShloMosaic Idealize.ShloMosaic.TcCoe
open Idealize.SL.Sem

variable {F : FTy → Type} [FloatOps F]

/-- The run with its arguments read back. -/
theorem run_args (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun _ h => ⟨fun c => ⟨((h.1 c).1 (0 : Fin 1)).trans (finalA_x m c), (h.1 c).2.2.1⟩, h.2⟩) (run_main m ρ)

theorem frame_ideal : Cert.quiescent_KernelIdeal (hKernelIdeal := Cert.KernelIdeal.Gen.facts) := fun m ρ _ => run_args m ρ

set_option maxRecDepth 65536 in
/-- Both readings have one body, -/
theorem bodies_eq : Cert.Kernel.defs₀ (F := F) = defs₀ (F := F) := by
  unfold Cert.Kernel.defs₀ defs₀
  congr 1
  funext a b
  cases a using Fin.cases with
  | zero => exact congrFun rfl _
  | succ i => exact i.elim0
/-- and one table of bodies. -/
theorem tables_eq : Cert.Kernel.defs (F := F) = defs (F := F) := by
  unfold Cert.Kernel.defs defs
  rw [bodies_eq]
  rfl

theorem frame_kernel : Cert.quiescent_Kernel (hKernel := Cert.Kernel.Gen.facts) := fun m ρ _ => by
  rw [tables_eq]
  exact run_args (F := Bits) m ρ

theorem frame_reference : Cert.quiescent_ReferenceIdeal (hReferenceIdeal := Cert.ReferenceIdeal.Gen.facts) := fun m ρ _ => Cert.ReferenceIdeal.Gen.frame m ρ

end Cert.Ring

end
-- ==== Proof.Ring.Values.lean ====
/-
What the run leaves, read at one element in exact arithmetic: each finished sum is the whole product's entry, and the
largest magnitude is the whole product's.
-/
module

public import proofs.«01_k».proof.Proof.Ring.Protocol
public import Idealize.ShloMosaic.Lib.MatmulPlain
public import Idealize.ShloMosaic.Lib.ValueLayout
public import Idealize.ShloMosaic.Lib.ValueIdx
public import Idealize.ShloMosaic.Lib.IdealHost
public import Idealize.ShloMosaic.PureOps.Ideal.Laws

@[expose] public section

noncomputable section

namespace Cert.Ring

open Cert.KernelIdeal Cert.KernelIdeal.Gen
open Idealize.ShloMosaic Idealize.ShloMosaic.TcCoe Idealize.ShloMosaic.ValueIdx
open scoped BigOperators

/-! ## Where a piece's element lies -/

/-- Row `i` of the `c`-th block of rows. -/
def rowAt (c : Fin 4) (i : Fin 1024) : Fin 4096 := ⟨1024 * c.val + i.val, by omega⟩
/-- Column `j` of the `t`-th tile of columns. -/
def colAt (t : Fin 8) (j : Fin 1024) : Fin 8192 := ⟨1024 * t.val + j.val, by omega⟩
/-- Row `i` of half `b` of a tile. -/
def halfAt (b : Fin 2) (i : Fin 512) : Fin 1024 := ⟨512 * b.val + i.val, by omega⟩
/-- The block of rows lane `d` works on at hop `h`. -/
def chunk (c : Dev nD) (d : Fin 2) (h : Fin 4) : Fin 4 :=
  match d with
  | 0 => ⟨(c.val + 7 - h.val) % 4, Nat.mod_lt _ (by decide)⟩
  | 1 => ⟨(c.val + 1 + h.val) % 4, Nat.mod_lt _ (by decide)⟩

theorem off1_at : ∀ (c : Dev nD) (h : Fin 4), k0_off1 c (BitVec.ofNat 32 h.val) = ![1024 * ((c.val + 7 - h.val) % 4), 0] := by decide
theorem off2_at : ∀ (c : Dev nD) (h : Fin 4), k0_off2 c (BitVec.ofNat 32 h.val) = ![1024 * ((c.val + 1 + h.val) % 4), 0] := by decide

theorem colR_at (t : Fin 8) (i j : Fin 1024) : (colR t).emb (ix2 i j) = ix2 i (colAt t j) := by
  funext a; apply Fin.ext
  match a with
  | ⟨0, _⟩ => exact (ValueKit.rect_emb_unit_val _ _ _ _ _).trans (Nat.zero_add _)
  | ⟨1, _⟩ => exact ValueKit.rect_emb_unit_val _ _ _ _ _

theorem row0_at (c : Dev nD) (h : Fin 4) (i j : Fin 1024) : (rowR c 0 h).emb (ix2 i j) = ix2 (rowAt (chunk c 0 h) i) j := by
  funext a; apply Fin.ext
  match a with
  | ⟨0, _⟩ => exact (ValueKit.rect_emb_unit_val _ _ _ _ _).trans (congrArg (· + i.val) (congrFun (off1_at c h) 0))
  | ⟨1, _⟩ => exact (ValueKit.rect_emb_unit_val _ _ _ _ _).trans ((congrArg (· + j.val) (congrFun (off1_at c h) 1)).trans (Nat.zero_add _))

theorem row1_at (c : Dev nD) (h : Fin 4) (i j : Fin 1024) : (rowR c 1 h).emb (ix2 i j) = ix2 (rowAt (chunk c 1 h) i) j := by
  funext a; apply Fin.ext
  match a with
  | ⟨0, _⟩ => exact (ValueKit.rect_emb_unit_val _ _ _ _ _).trans (congrArg (· + i.val) (congrFun (off2_at c h) 0))
  | ⟨1, _⟩ => exact (ValueKit.rect_emb_unit_val _ _ _ _ _).trans ((congrArg (· + j.val) (congrFun (off2_at c h) 1)).trans (Nat.zero_add _))

theorem subR_at (b : Fin 2) (u : Fin 1) (i : Fin 512) (j : Fin 1024) : (subR b).emb (ix3 u i j) = ix3 u (halfAt b i) j := by
  funext a; apply Fin.ext
  match a with
  | ⟨0, _⟩ => exact (ValueKit.rect_emb_unit_val _ _ _ _ _).trans (Nat.zero_add _)
  | ⟨1, _⟩ => exact ValueKit.rect_emb_unit_val _ _ _ _ _
  | ⟨2, _⟩ => exact (ValueKit.rect_emb_unit_val _ _ _ _ _).trans (Nat.zero_add _)

theorem subS_at (b : Fin 2) (u v : Fin 1) (i : Fin 512) (j : Fin 1024) : (subS b).emb (ix4 u v i j) = ix4 u v (halfAt b i) j := by
  funext a; apply Fin.ext
  match a with
  | ⟨0, _⟩ => exact (ValueKit.rect_emb_unit_val _ _ _ _ _).trans (Nat.zero_add _)
  | ⟨1, _⟩ => exact (ValueKit.rect_emb_unit_val _ _ _ _ _).trans (Nat.zero_add _)
  | ⟨2, _⟩ => exact ValueKit.rect_emb_unit_val _ _ _ _ _
  | ⟨3, _⟩ => exact (ValueKit.rect_emb_unit_val _ _ _ _ _).trans (Nat.zero_add _)

theorem rowAt_surj (r : Fin 4096) : ∃ c i, rowAt c i = r :=
  ⟨⟨r.val / 1024, by omega⟩, ⟨r.val % 1024, by omega⟩, Fin.ext (Nat.div_add_mod _ _)⟩
theorem colAt_surj (n : Fin 8192) : ∃ t j, colAt t j = n :=
  ⟨⟨n.val / 1024, by omega⟩, ⟨n.val % 1024, by omega⟩, Fin.ext (Nat.div_add_mod _ _)⟩
theorem colIx_surj : ∀ t : Fin 8, ∃ d p, colIx d p = t := by decide

/-! ## Shape changes -/

section Shapes

variable {α : Type}

theorem shapeCast_ab_11ab {a b : ℕ} (x : (⟨2, ![a, b]⟩ : Shape).Idx → α) (h : (⟨2, ![a, b]⟩ : Shape).ShapeCasts ⟨4, ![1, 1, a, b]⟩)
    (u v : Fin 1) (i : Fin a) (j : Fin b) : shapeCast ⟨4, ![1, 1, a, b]⟩ x h (ix4 u v i j) = x (ix2 i j) :=
  shapeCast_apply x h _ _ (by
    rw [Shape.rowMajor_val_four, Shape.rowMajor_val_two]
    obtain rfl : u = 0 := Subsingleton.elim _ _
    obtain rfl : v = 0 := Subsingleton.elim _ _
    show i.val * b + j.val = ((0 * 1 + 0) * a + i.val) * b + j.val
    rw [Nat.zero_mul, Nat.zero_add])

theorem shapeCast_11ab_ab {a b : ℕ} (x : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

theorem unsq_at (h : S1x1024x1024.Squeezes S1024x1024) (Y : S1024x1024.Idx → α) (u : Fin 1) (i j : Fin 1024) :
    unsq h Y (ix3 u i j) = Y (ix2 i j) := by
  obtain rfl : u = 0 := Subsingleton.elim _ _
  exact congrArg Y ((Equiv.symm_apply_eq _).mpr (reshapeEquiv_ix2_1ab h.numel_eq i j).symm)

theorem sqz_at (h : S1x1024x1024.Squeezes S1024x1024) (X : S1x1024x1024.Idx → α) (i j : Fin 1024) :
    sqz h X (ix2 i j) = X (ix3 (0 : Fin 1) i j) := congrArg X (reshapeEquiv_ix2_1ab h.numel_eq i j)

end Shapes

/-! ## The sums -/

/-- The magnitude. -/
def mag (y : EReal) : EReal := max y (-y)

theorem mag_nonneg (y : EReal) : 0 ≤ mag y := by
  rcases le_total 0 y with h | h
  · exact le_max_of_le_left h
  · exact le_max_of_le_right (EReal.neg_nonneg.mpr h)

theorem dot_plain : dot_S1024x1024_S1024x1024_S1024x1024_1_0_0_1_n_n = DotDims.plain 1024 1024 1024 := rfl

theorem prod_at (X : FVec Ideal S1024x1024 .f32) (W : FVec Ideal S1024x1024 .f32) (i j : Fin 1024) :
    matmul dot_S1024x1024_S1024x1024_S1024x1024_1_0_0_1_n_n none X W (constant S1024x1024 .f32 0x00000000#32) (ix2 i j)
      = ∑ k : Fin 1024, X (ix2 i k) * W (ix2 k j) := by
  rw [dot_plain]
  refine (Ideal.matmul_plain_apply none X W _ i j).trans ?_
  rw [constant_apply, Ideal.ofBits_zero_f32, zero_add]

section Sums

variable (x : Dev nD → S4096x1024.Idx → EReal) (w : Dev nD → S1024x8192.Idx → EReal)

/-- Device `e`'s part of the product's entry. -/
def part (e : Dev nD) (r : Fin 4096) (n : Fin 8192) : EReal := ∑ k : Fin 1024, x e (ix2 r k) * w e (ix2 k n)
/-- The whole entry. -/
def entry (r : Fin 4096) (n : Fin 8192) : EReal := ∑ e : Dev nD, part x w e r n

theorem Xr_at (c : Dev nD) (d : Fin 2) (h : Fin 4) (i k : Fin 1024) :
    Xr (F := Ideal) x c d h (ix2 i k) = x c (ix2 (rowAt (chunk c d h) i) k) := by
  match d with
  | 0 => exact congrArg (x c) (row0_at c h i k)
  | 1 => exact congrArg (x c) (row1_at c h i k)

theorem Wc_at (c : Dev nD) (d : Fin 2) (p : Fin 4) (u : Fin 1) (k j : Fin 1024) :
    Wc (F := Ideal) w c d p (ix3 u k j) = w c (ix2 k (colAt (colIx d p) j)) :=
  (unsq_at squeezes_S1x1024x1024_S1024x1024 (fun j => w c ((colR (colIx d p)).emb j)) u k j).trans (congrArg (w c) (colR_at _ k j))

theorem terms_at (c : Dev nD) (d : Fin 2) (p h : Fin 4) (i j : Fin 1024) :
    (∑ k : Fin 1024, shapeCast S1024x1024 (Xr (F := Ideal) x c d h) shapeCasts_S1024x1024_S1024x1024 (ix2 i k)
      * shapeCast S1024x1024 (Wc (F := Ideal) w c d p) shapeCasts_S1x1024x1024_S1024x1024 (ix2 k j))
      = part x w c (rowAt (chunk c d h) i) (colAt (colIx d p) j) :=
  Finset.sum_congr rfl fun k _ => by
    rw [shapeCast_self, shapeCast_1ab_ab_apply, Xr_at, Wc_at]

theorem Ac_at (c : Dev nD) (d : Fin 2) (p h : Fin 4) (u : Fin 1) (i j : Fin 1024) :
    Ac (F := Ideal) x w c d p h (ix3 u i j) = part x w c (rowAt (chunk c d h) i) (colAt (colIx d p) j) :=
  (shapeCast_ab_1ab_apply _ _ u i j).trans ((prod_at _ _ i j).trans (terms_at x w c d p h i j))

theorem first_at (c : Dev nD) (d : Fin 2) (p : Fin 4) (u v : Fin 1) (i j : Fin 1024) :
    firstVal (F := Ideal) (Xr x c d 0) (Wc w c d p) (ix4 u v i j) = part x w c (rowAt (chunk c d 0) i) (colAt (colIx d p) j) :=
  (shapeCast_ab_11ab _ _ u v i j).trans ((prod_at _ _ i j).trans (terms_at x w c d p 0 i j))

theorem sum_at (a : FVec Ideal S1x512x1024 .f32) (v : FVec Ideal S1x1x512x1024 .bf16) (i : Fin 512) (j : Fin 1024) :
    k0_pay23 (F := Ideal) a v (ix2 i j) = (a (ix3 0 i j) + v (ix4 0 0 i j) : EReal) :=
  congrArg₂ (· + · : EReal → EReal → EReal) (shapeCast_1ab_ab_apply a _ i j) (shapeCast_11ab_ab v _ i j)

theorem add_at (a : FVec Ideal S1x512x1024 .f32) (v : FVec Ideal S1x1x512x1024 .bf16) (u u' : Fin 1) (i : Fin 512) (j : Fin 1024) :
    addVal (F := Ideal) a v (ix4 u u' i j) = (a (ix3 0 i j) + v (ix4 0 0 i j) : EReal) :=
  (shapeCast_ab_11ab (k0_pay23 (F := Ideal) a v) shapeCasts_S512x1024_S1x1x512x1024 u u' i j).trans (sum_at a v i j)

theorem half_at (X : S1x1024x1024.Idx → Elt Ideal .f32) (b : Fin 2) (u : Fin 1) (i : Fin 512) (j : Fin 1024) :
    halfOf X b (ix3 u i j) = X (ix3 u (halfAt b i) j) := congrArg X (subR_at b u i j)
theorem shalf_at (X : S1x1x1024x1024.Idx → Elt Ideal .bf16) (b : Fin 2) (u v : Fin 1) (i : Fin 512) (j : Fin 1024) :
    shalfOf X b (ix4 u v i j) = X (ix4 u v (halfAt b i) j) := congrArg X (subS_at b u v i j)

theorem Snd_zero_at (d : Fin 2) (p : Fin 4) (b : Fin 2) (c : Dev nD) (u v : Fin 1) (i : Fin 512) (j : Fin 1024) :
    Snd (F := Ideal) x w d p b 0 c (ix4 u v i j) = part x w c (rowAt (chunk c d 0) (halfAt b i)) (colAt (colIx d p) j) :=
  (shalf_at _ b u v i j).trans (first_at x w c d p u v (halfAt b i) j)

theorem Snd_succ_at (d : Fin 2) (p : Fin 4) (b : Fin 2) (h : ℕ) (c : Dev nD) (u v : Fin 1) (i : Fin 512) (j : Fin 1024) :
    Snd (F := Ideal) x w d p b (h + 1) c (ix4 u v i j)
      = (part x w c (rowAt (chunk c d ⟨(h + 1) % 4, Nat.mod_lt _ (by decide)⟩) (halfAt b i)) (colAt (colIx d p) j)
        + Snd (F := Ideal) x w d p b h (srcD d c) (ix4 0 0 i j) : EReal) :=
  (add_at _ _ u v i j).trans (congrArg (· + (Snd (F := Ideal) x w d p b h (srcD d c) (ix4 0 0 i j) : EReal))
    ((half_at _ b 0 i j).trans (Ac_at x w c d p _ 0 (halfAt b i) j)))

/-- Every hop of a block of rows is that block's: device `c`'s own. -/
theorem chunk_hops : ∀ (d : Fin 2) (c : Dev nD), chunk c d 3 = c ∧ chunk (srcD d c) d 2 = c
    ∧ chunk (srcD d (srcD d c)) d 1 = c ∧ chunk (srcD d (srcD d (srcD d c))) d 0 = c := by decide

theorem ring_devs : ∀ (d : Fin 2) (c : Dev nD),
    [c, srcD d c, srcD d (srcD d c), srcD d (srcD d (srcD d c))].Perm [0, 1, 2, 3] := by decide

/-- Round the ring, every device once. -/
theorem ring_sum (d : Fin 2) (c : Dev nD) (f : Dev nD → EReal) :
    f c + (f (srcD d c) + (f (srcD d (srcD d c)) + f (srcD d (srcD d (srcD d c))))) = ∑ e, f e := by
  have h := ((ring_devs d c).map f).sum_eq
  simp only [List.map_cons, List.map_nil, List.sum_cons, List.sum_nil, add_zero] at h
  rw [h]
  show f 0 + (f 1 + (f 2 + f 3)) = ∑ e : Fin 4, f e
  rw [Fin.sum_univ_four, add_assoc, add_assoc]

theorem Yh_sum (c : Dev nD) (d : Fin 2) (p : Fin 4) (b : Fin 2) (i : Fin 512) (j : Fin 1024) :
    k0_pay23 (F := Ideal) (halfOf (Ac x w c d p 3) b) (Snd x w d p b 2 (srcD d c)) (ix2 i j)
      = entry x w (rowAt c (halfAt b i)) (colAt (colIx d p) j) := by
  obtain ⟨h3, h2, h1, h0⟩ := chunk_hops d c
  have e0 := Snd_zero_at x w d p b (srcD d (srcD d (srcD d c))) 0 0 i j
  have e1 := Snd_succ_at x w d p b 0 (srcD d (srcD d c)) 0 0 i j
  have e2 := Snd_succ_at x w d p b 1 (srcD d c) 0 0 i j
  have e3 := (half_at (Ac (F := Ideal) x w c d p 3) b 0 i j).trans (Ac_at x w c d p 3 0 (halfAt b i) j)
  rw [h0] at e0
  rw [show chunk (srcD d (srcD d c)) d ⟨(0 + 1) % 4, Nat.mod_lt _ (by decide)⟩ = c from h1] at e1
  rw [show chunk (srcD d c) d ⟨(1 + 1) % 4, Nat.mod_lt _ (by decide)⟩ = c from h2] at e2
  rw [h3] at e3
  refine (sum_at _ _ i j).trans ?_
  refine (congrArg₂ (· + · : EReal → EReal → EReal) e3 (e2.trans (congrArg _ (e1.trans (congrArg _ e0))))).trans ?_
  exact ring_sum d c fun e => part x w e (rowAt c (halfAt b i)) (colAt (colIx d p) j)

theorem Yh_at (c : Dev nD) (d : Fin 2) (p : Fin 4) (b : Fin 2) (u : Fin 1) (i : Fin 512) (j : Fin 1024) :
    Yh (F := Ideal) x w c d p b (ix3 u i j) = entry x w (rowAt c (halfAt b i)) (colAt (colIx d p) j) :=
  (shapeCast_ab_1ab_apply _ _ u i j).trans (Yh_sum x w c d p b i j)

/-- The finished tile holds the product's entries. -/
theorem Ylane_eq (c : Dev nD) (d : Fin 2) (p : Fin 4) :
    Ylane (F := Ideal) x w c d p = fun ι => entry x w (rowAt c (ι 1)) (colAt (colIx d p) (ι 2)) :=
  ext_halves fun b => (halfOf_joinH _ b).trans (funext fun ι => by
    rw [eq_ix3 ι]
    exact (Yh_at x w c d p b (ι 0) (ι 1) (ι 2)).trans (half_at (fun ι => entry x w (rowAt c (ι 1)) (colAt (colIx d p) (ι 2))) b (ι 0) (ι 1) (ι 2)).symm)

/-! ## The largest magnitude -/

theorem neg_inf_bits : Ideal.ofBits .f32 0xFF800000#32 = ⊥ := by simp [Ideal.ofBits, Ideal.ieee]

theorem S1_drop (h : S1x512x1024.Reduces [1, 2] S1) (ι : S1x512x1024.Idx) (j : S1.Idx) : h.drop ι = j :=
  funext fun a => by
    match a with
    | ⟨0, _⟩ => exact Subsingleton.elim (α := Fin 1) _ _

theorem only_at {α : Type} (R : S1.Idx → α) :
    ∃ y, extractAt ![0, 0, 0] (shapeCast S1x1x1 R shapeCasts_S1_S1x1x1) inpos_S1x1x1_p0_0_0 = R y := ⟨_, rfl⟩

theorem maxVal_form {F : FTy → Type} [FloatOps F] (m : F .f32) (a : FVec F S1x512x1024 .f32) (v : FVec F S1x1x512x1024 .bf16) :
    maxVal m a v = Scalar.maximumf m (extractAt ![0, 0, 0] (shapeCast S1x1x1 (multiReduction .maximumf [1, 2] S1
      (shapeCast S1x512x1024 (absf (k0_pay23 a v)) shapeCasts_S512x1024_S1x512x1024) 0xFF800000#32
      reduces_S1x512x1024_S1 (.inl rfl) rfl) shapeCasts_S1_S1x1x1) inpos_S1x1x1_p0_0_0) := rfl

theorem red_le (X : FVec Ideal S1x512x1024 .f32) (hφ : FKind.Formats .f32) (hacc : 0xFF800000#32 = FKind.maximumf.neutral .f32 hφ)
    (y : S1.Idx) (B : EReal) :
    (multiReduction (F := Ideal) .maximumf [1, 2] S1 X 0xFF800000#32 reduces_S1x512x1024_S1 hφ hacc y : EReal) ≤ B ↔ ∀ ι, (X ι : EReal) ≤ B := by
  rw [multiReduction_maximumf_eq_fold]
  refine (Finset.fold_max_le B).trans ⟨fun h ι => h.2 ι (Finset.mem_filter.mpr ⟨Finset.mem_univ _, S1_drop _ _ _⟩), fun h =>
    ⟨(show Ideal.ofBits .f32 0xFF800000#32 ≤ B by rw [neg_inf_bits]; exact bot_le), fun ι _ => h ι⟩⟩

theorem maxVal_le (m : EReal) (a : FVec Ideal S1x512x1024 .f32) (v : FVec Ideal S1x1x512x1024 .bf16) (B : EReal) :
    (maxVal (F := Ideal) m a v : EReal) ≤ B ↔ m ≤ B ∧ ∀ i j, mag (k0_pay23 (F := Ideal) a v (ix2 i j)) ≤ B := by
  obtain ⟨y, hy⟩ := only_at (multiReduction (F := Ideal) .maximumf [1, 2] S1
    (shapeCast S1x512x1024 (absf (k0_pay23 a v)) shapeCasts_S512x1024_S1x512x1024) 0xFF800000#32
    reduces_S1x512x1024_S1 (.inl rfl) rfl)
  rw [maxVal_form, hy, Ideal.scalar_maximumf_def, max_le_iff]
  refine and_congr_right fun _ => (red_le _ _ _ y B).trans ⟨fun h i j => ?_, fun h ι => ?_⟩
  · exact (shapeCast_ab_1ab_apply (absf (k0_pay23 (F := Ideal) a v)) shapeCasts_S512x1024_S1x512x1024 (0 : Fin 1) i j).symm.le.trans (h (ix3 0 i j))
  · rw [eq_ix3 ι]
    exact (shapeCast_ab_1ab_apply (absf (k0_pay23 (F := Ideal) a v)) shapeCasts_S512x1024_S1x512x1024 (ι 0) (ι 1) (ι 2)).le.trans (h (ι 1) (ι 2))

theorem mHalf_le (c : Dev nD) (p : Fin 4) (d b : Fin 2) (m B : EReal) :
    (mHalf (F := Ideal) x w c p d b m : EReal) ≤ B ↔ m ≤ B ∧ ∀ i j, mag (entry x w (rowAt c (halfAt b i)) (colAt (colIx d p) j)) ≤ B := by
  refine (maxVal_le m _ _ B).trans (and_congr_right fun _ => forall_congr' fun i => forall_congr' fun j => ?_)
  rw [Yh_sum]

theorem halves_all (P : Fin 1024 → Prop) : (∀ i, P i) ↔ (∀ i, P (halfAt 0 i)) ∧ ∀ i, P (halfAt 1 i) := by
  refine ⟨fun h => ⟨fun i => h _, fun i => h _⟩, fun h i => ?_⟩
  by_cases hi : i.val < 512
  · have := h.1 ⟨i.val, hi⟩
    rwa [show halfAt 0 ⟨i.val, hi⟩ = i from Fin.ext (Nat.zero_add _)] at this
  · have := h.2 ⟨i.val - 512, by omega⟩
    rwa [show halfAt 1 ⟨i.val - 512, by omega⟩ = i from Fin.ext (by show 512 * 1 + (i.val - 512) = i.val; omega)] at this

theorem mPanel_le (c : Dev nD) (p : Fin 4) (m B : EReal) :
    (mPanel (F := Ideal) x w c p m : EReal) ≤ B ↔ m ≤ B ∧ ∀ d i j, mag (entry x w (rowAt c i) (colAt (colIx d p) j)) ≤ B := by
  refine (mHalf_le x w c p 1 1 _ B).trans ?_
  rw [mHalf_le x w c p 0 1, mHalf_le x w c p 1 0, mHalf_le x w c p 0 0, Fin.forall_fin_two,
    halves_all fun i => ∀ j, mag (entry x w (rowAt c i) (colAt (colIx 0 p) j)) ≤ B,
    halves_all fun i => ∀ j, mag (entry x w (rowAt c i) (colAt (colIx 1 p) j)) ≤ B]
  tauto

theorem mLoc_zero (c : Dev nD) : (mLoc (F := Ideal) x w c 0 : EReal) = 0 := Ideal.ofBits_zero_f32
theorem mLoc_succ (c : Dev nD) (p : ℕ) :
    mLoc (F := Ideal) x w c (p + 1) = mPanel x w c ⟨p % 4, Nat.mod_lt _ (by decide)⟩ (mLoc x w c p) := rfl

theorem mLoc_succ_le (c : Dev nD) (p : Fin 4) (B : EReal) : (mLoc (F := Ideal) x w c (p.val + 1) : EReal) ≤ B
    ↔ (mLoc (F := Ideal) x w c p.val : EReal) ≤ B ∧ ∀ d i j, mag (entry x w (rowAt c i) (colAt (colIx d p) j)) ≤ B := by
  rw [mLoc_succ, show (⟨p.val % 4, Nat.mod_lt _ (by decide)⟩ : Fin 4) = p from Fin.ext (Nat.mod_eq_of_lt p.isLt)]
  exact mPanel_le x w c p _ B

theorem mLoc_le (c : Dev nD) (B : EReal) :
    (mLoc (F := Ideal) x w c 4 : EReal) ≤ B ↔ 0 ≤ B ∧ ∀ p d i j, mag (entry x w (rowAt c i) (colAt (colIx d p) j)) ≤ B := by
  refine (mLoc_succ_le x w c 3 B).trans ((and_congr_left' ((mLoc_succ_le x w c 2 B).trans
    (and_congr_left' ((mLoc_succ_le x w c 1 B).trans (and_congr_left' ((mLoc_succ_le x w c 0 B).trans
      (and_congr_left' (iff_of_eq (congrArg (· ≤ B) (mLoc_zero x w c))))))))) ).trans ?_)
  constructor
  · rintro ⟨⟨⟨⟨hB, a0⟩, a1⟩, a2⟩, a3⟩
    refine ⟨hB, fun p => ?_⟩
    match p with
    | 0 => exact a0
    | 1 => exact a1
    | 2 => exact a2
    | 3 => exact a3
  · rintro ⟨hB, h⟩
    exact ⟨⟨⟨⟨hB, h 0⟩, h 1⟩, h 2⟩, h 3⟩

theorem mr_succ (h : ℕ) (c : Dev nD) : (mr (F := Ideal) x w (h + 1) c : EReal) = max (mr (F := Ideal) x w h c) (mr (F := Ideal) x w h (srcD 0 c)) := rfl

/-- After the ring every device holds the largest magnitude of the whole product. -/
theorem mr_le (c : Dev nD) (B : EReal) : (mr (F := Ideal) x w 3 c : EReal) ≤ B ↔ 0 ≤ B ∧ ∀ r n, mag (entry x w r n) ≤ B := by
  have hall : (mr (F := Ideal) x w 3 c : EReal) ≤ B ↔ ∀ e, (mLoc (F := Ideal) x w e 4 : EReal) ≤ B := by
    rw [mr_succ, mr_succ, mr_succ, mr_succ, mr_succ, mr_succ, mr_succ]
    simp only [max_le_iff]
    constructor
    · intro h e
      have he : e ∈ [c, srcD 0 c, srcD 0 (srcD 0 c), srcD 0 (srcD 0 (srcD 0 c))] := (ring_devs 0 c).mem_iff.mpr (by revert e; decide)
      simp only [List.mem_cons, List.not_mem_nil, or_false] at he
      rcases he with rfl | rfl | rfl | rfl
      · exact h.1.1.1
      · exact h.1.1.2
      · exact h.1.2.2
      · exact h.2.2.2
    · intro h
      exact ⟨⟨⟨h _, h _⟩, h _, h _⟩, ⟨h _, h _⟩, h _, h _⟩
  rw [hall]
  constructor
  · intro h
    refine ⟨((mLoc_le x w 0 B).mp (h 0)).1, fun r n => ?_⟩
    obtain ⟨c, i, rfl⟩ := rowAt_surj r
    obtain ⟨t, j, rfl⟩ := colAt_surj n
    obtain ⟨d, p, rfl⟩ := colIx_surj t
    exact ((mLoc_le x w c B).mp (h c)).2 p d i j
  · rintro ⟨hB, h⟩ e
    exact (mLoc_le x w e B).mpr ⟨hB, fun p d i j => h _ _⟩

/-! ## The rescaling -/

/-- The scale's divisor, its negative and the rescaling of one entry. -/
def top : EReal := Ideal.ofBits .f32 0x43E00000#32
def bottom : EReal := Ideal.ofBits .f32 0xC3E00000#32

theorem top_eq : top = ((448 : ℝ) : EReal) := by
  unfold top
  simp [Ideal.ofBits, Ideal.ieee, -EReal.coe_mul]; norm_num

/-- Multiplying by the inverse scale and dividing by the scale give the same rescaled entry: at the largest magnitude
`0` the scale is `0`, at `⊤` both quotients are `0`. -/
theorem rescale_eq (m y : EReal) (hm : 0 ≤ m) :
    min top (max bottom (y * Ideal.div top m)) * Ideal.div m top = min top (max bottom (Ideal.div y (Ideal.div m top))) * Ideal.div m top := by
  have ht : Ideal.div m top = m * ((1 / 448 : ℝ) : EReal) := by
    rw [top_eq]; exact Ideal.div_coe (y := 448) (by norm_num) m
  induction m with
  | bot => exact absurd hm (by simp)
  | top =>
    have h1 : Ideal.div ⊤ top = ⊤ := by rw [ht]; exact EReal.top_mul_coe_of_pos (by norm_num)
    have h2 : ∀ z, Ideal.div z ⊤ = 0 := fun z => by
      unfold Ideal.div; rw [if_neg EReal.top_ne_zero, EReal.inv_top, mul_zero]
    rw [h1, h2, h2, mul_zero]
  | coe r =>
    rcases eq_or_ne r 0 with rfl | hr
    · have h0 : Ideal.div ((0 : ℝ) : EReal) top = 0 := by rw [ht, EReal.coe_zero, zero_mul]
      rw [h0, mul_zero, mul_zero]
    · have h1 : Ideal.div (r : EReal) top = ((r / 448 : ℝ) : EReal) := by rw [ht, ← EReal.coe_mul]; congr 1; ring
      have h2 : Ideal.div top (r : EReal) = ((448 / r : ℝ) : EReal) := by
        rw [Ideal.div_coe hr, top_eq, ← EReal.coe_mul]; congr 1; ring
      have h3 : Ideal.div y ((r / 448 : ℝ) : EReal) = y * ((448 / r : ℝ) : EReal) := by
        rw [Ideal.div_coe (div_ne_zero hr (by norm_num))]; congr 2; field_simp
      rw [h1, h2, h3]

theorem outVal_at (sc iv : EReal) (y : FVec Ideal S1x1024x1024 .f32) (u : Fin 1) (i j : Fin 1024) :
    outVal (F := Ideal) sc iv y (ix3 u i j) = (min top (max bottom (y (ix3 0 i j) * iv)) * sc : EReal) := by
  have h := shapeCast_1ab_ab_apply y shapeCasts_S1x1024x1024_S1024x1024 i j
  rw [← h]
  exact shapeCast_ab_1ab_apply (fun l => (min top (max bottom (shapeCast S1024x1024 y shapeCasts_S1x1024x1024_S1024x1024 l * iv)) * sc : EReal))
    shapeCasts_S1024x1024_S1x1024x1024 u i j

theorem scale_eq (z : EReal) : Scalar.divf (F := Ideal) (φ := .f32) z (Scalar.ofBits .f32 0x43E00000#32) = Ideal.div z top := rfl
theorem inv_eq (z : EReal) : Scalar.divf (F := Ideal) (φ := .f32) (Scalar.ofBits .f32 0x43E00000#32) z = Ideal.div top z := rfl
theorem scF_eq (c : Dev nD) (M : EReal) (h : (mr (F := Ideal) x w 3 c : EReal) = M) : (scF (F := Ideal) x w c : EReal) = Ideal.div M top := by
  unfold scF; rw [h]; exact scale_eq M
theorem ivF_eq (c : Dev nD) (M : EReal) (h : (mr (F := Ideal) x w 3 c : EReal) = M) : (ivF (F := Ideal) x w c : EReal) = Ideal.div top M := by
  unfold ivF; rw [h]; exact inv_eq M

/-- The rescaled tile, entry by entry. -/
theorem Otile_at (c : Dev nD) (t : Fin 8) (i j : Fin 1024) (M : EReal) (hM : ∀ B, M ≤ B ↔ 0 ≤ B ∧ ∀ r n, mag (entry x w r n) ≤ B) :
    Otile (F := Ideal) x w c t (ix2 i j)
      = (min top (max bottom (Ideal.div (entry x w (rowAt c i) (colAt t j)) (Ideal.div M top))) * Ideal.div M top : EReal) := by
  have hm : (mr (F := Ideal) x w 3 c : EReal) = M := eq_of_forall_ge_iff fun B => (mr_le x w c B).trans (hM B).symm
  have hc : colIx ⟨t.val / 4, by omega⟩ ⟨t.val % 4, by omega⟩ = t := Fin.ext (Nat.div_add_mod _ _)
  have hs := scF_eq x w c M hm
  have hi := ivF_eq x w c M hm
  have hY : (Ylane (F := Ideal) x w c ⟨t.val / 4, by omega⟩ ⟨t.val % 4, by omega⟩ (ix3 0 i j) : EReal) = entry x w (rowAt c i) (colAt t j) :=
    (congrFun (Ylane_eq x w c ⟨t.val / 4, by omega⟩ ⟨t.val % 4, by omega⟩) (ix3 0 i j)).trans (congrArg (fun t => entry x w (rowAt c i) (colAt t j)) hc)
  unfold Otile
  generalize Ylane (F := Ideal) x w c ⟨t.val / 4, by omega⟩ ⟨t.val % 4, by omega⟩ = Y at hY ⊢
  generalize scF (F := Ideal) x w c = sc at hs ⊢
  generalize ivF (F := Ideal) x w c = iv at hi ⊢
  generalize entry x w (rowAt c i) (colAt t j) = y at hY ⊢
  subst hs hi
  refine (sqz_at squeezes_S1x1024x1024_S1024x1024 (outVal (F := Ideal) (Ideal.div M top) (Ideal.div top M) Y) i j).trans
    ((outVal_at (Ideal.div M top) (Ideal.div top M) Y 0 i j).trans ?_)
  rw [hY]
  exact rescale_eq M y ((hM M).mp le_rfl).1

end Sums

end Cert.Ring
-- ==== Proof.Ring.Ref.lean ====
/-
What the reference leaves in its result array, element by element: the whole product's entry over the step, cut to the
narrow range and times the step, the step the product's largest magnitude over the range's top.
-/
module

public import proofs.«01_k».proof.Proof.Gen.ReferenceIdeal.Frame
public import proofs.«01_k».proof.Proof.Ring.Values
public import Idealize.ShloMosaic.Lib.StableHlo.RunRead
public import Idealize.ShloMosaic.Lib.Pipeline.Value
public import Idealize.ShloMosaic.Lib.Pipeline.ValueKit
public import Idealize.ShloMosaic.Lib.StackMember

@[expose] public section

noncomputable section

namespace Cert.Plain

open Cert.ReferenceIdeal Cert.ReferenceIdeal.Gen
open Idealize.ShloMosaic hiding ix0 ix2 eq_ix2
open Idealize.ShloMosaic.TcCoe Idealize.ShloMosaic.ValueIdx
open Idealize.SL.Sem
open Cert.Ring (mag mag_nonneg top bottom neg_inf_bits)
open scoped BigOperators

variable {F : FTy → Type} [FloatOps F]

/-! ## The reference's stages, as functions of the two arrays -/

/-- The whole product. -/
def prod (X : FVec F S4096x4096 .f32) (W : FVec F S4096x8192 .f32) : FVec F S4096x8192 .f32 :=
  Host.dotGeneral dot_S4096x4096_S4096x8192_S4096x8192_1_0_0_1_n_n none X W
/-- The largest magnitude. -/
def peak (Y : FVec F S4096x8192 .f32) : FVec F S_ .f32 :=
  Host.reduce FloatOps.maximumf (Host.absf Y) (constant S_ .f32 0xFF800000#32) reducesTo_S4096x8192_S_d0_1 h_S_
/-- The step. -/
def step (Y : FVec F S4096x8192 .f32) : FVec F S_ .f32 := Host.divf (peak Y) (constant S_ .f32 0x43E00000#32)
/-- A scalar at every element. -/
def spread (v : FVec F S_ .f32) : FVec F S4096x8192 .f32 := broadcastInDim S4096x8192 ![] bcast_S_S4096x8192 v
/-- The product over the step, cut to the range. -/
def cut (Y : FVec F S4096x8192 .f32) : FVec F S4096x8192 .f32 :=
  minimumf (spread (constant S_ .f32 0x43E00000#32))
    (maximumf (spread (constant S_ .f32 0xC3E00000#32)) (Host.divf Y (spread (step Y))))

/-! ## The host lines read off -/

variable (m : (ℓ : Loc nD τ sig) → Buf (Elt F) ℓ) (ρ : Dev nD → PrngReg)

/-- The product of the launch's arrays. -/
def prodA (c : Dev nD) : FVec F S4096x8192 .f32 :=
  prod (m ((c : Thread nD τ).loc main_arg0)) (m ((c : Thread nD τ).loc main_arg1))

theorem lead_v6 (V : Valuation τ sig (Elt F)) :
    StableHlo.after (List.flatten [hostOps0, hostOps0_1]) V (Proc.devRef .tc main_v6)
      = cut (prod (V (Proc.devRef .tc main_arg0)) (V (Proc.devRef .tc main_arg1))) := by
  show StableHlo.after (hostOps0 ++ hostOps0_1) V (Proc.devRef .tc main_v6) = _
  after_reads_simp
  rfl

theorem lead_v3 (V : Valuation τ sig (Elt F)) :
    StableHlo.after (List.flatten [hostOps0, hostOps0_1]) V (Proc.devRef .tc main_v3)
      = step (prod (V (Proc.devRef .tc main_arg0)) (V (Proc.devRef .tc main_arg1))) := by
  show StableHlo.after (hostOps0 ++ hostOps0_1) V (Proc.devRef .tc main_v3) = _
  after_reads_simp
  rfl

theorem tail_v9 (V : Valuation τ sig (Elt F)) :
    StableHlo.after (List.flatten [hostOps1]) V (Proc.devRef .tc main_v9)
      = mulf (V (Proc.devRef .tc main_v7)) (spread (V (Proc.devRef .tc main_v3))) := by
  show StableHlo.after hostOps1 V (Proc.devRef .tc main_v9) = _
  after_reads_simp
  rfl

/-! ## The rounding region: at exact arithmetic its result is its argument -/

variable (mI : (ℓ : Loc nD τ sig) → Buf (Elt Ideal) ℓ)

theorem out_same (x : Vec Ideal S4096x8192 .f32) : out0_1 (F := Ideal) x = x := by
  unfold out0_1
  rw [View.ld_unit_lit _ _ (by decide), View.canon_cons_unit_lit _ _ _ (by decide)]
  exact shapeCast_self x _

/-- The region's argument. -/
def argA (c : Dev nD) : FVec Ideal S4096x8192 .f32 := V mI c main_v6

theorem blk_same (c : Dev nD) (t : Fin cfg0.N) : iblk mI c 0 t = argA mI c := by
  funext y
  refine congrArg (V mI c main_v6) (funext fun a => Fin.ext ?_)
  show 0 * _ + 1 * (y a).val = (y a).val
  omega

theorem flushed_same (c : Dev nD) (t : Fin cfg0.N) :
    (dats mI 0 c).flushed 1 t = ((cfg0.win 1).blk t).view.read (Elt Ideal) (argA mI c) := by
  show (cfg0.win 1).cut (grid0.coords t) ((dats mI 0 c).after 1 t) = _
  rw [after0_1, out_same, blk_same]
  funext y
  refine congrArg (argA mI c) (funext fun a => Fin.ext ?_)
  show (y a).val = 0 * _ + 1 * (y a).val
  omega

theorem covered (i : S4096x8192.Idx) :
    ∃ t : Fin cfg0.N, (cfg0.win 1).flush t = true ∧ i ∈ ((cfg0.win 1).blk t).view.set := by
  refine ⟨(0 : Fin 1), flush0_1 _, ?_⟩
  show i ∈ ((View.whole main_v7).slice (win0_1.rect (0 : Fin 1))).set
  rw [View.set_slice_whole, Rect.mem_set_unit]
  intro a
  show 0 * _ ≤ (i a).val ∧ (i a).val < 0 * _ + S4096x8192.size a
  rw [Nat.zero_mul, Nat.zero_add]
  exact ⟨Nat.zero_le _, (i a).isLt⟩

theorem left_v7 (c : Dev nD) : (dats mI 0 c).arrAt 1 cfg0.N = argA mI c :=
  (dats mI 0 c).arrAt_eq_of_cover 1 (argA mI c) (fun t _ => flushed_same mI c t) covered

/-! ## The whole run -/

/-- What the reference leaves. -/
def left (Y : FVec Ideal S4096x8192 .f32) : FVec Ideal S4096x8192 .f32 := mulf (cut Y) (spread (step Y))

theorem left_v9 (c : Dev nD) :
    Pipeline.afterTail₀ cfgs (dats mI) 0 (V0 mI) [hostOps1] c main_v9 = left (prodA mI c) := by
  refine (tail_v9 _).trans ?_
  refine congrArg₂ (fun a b => mulf a (spread b)) ?_ ?_
  · refine (Pipeline.withArrays_arr spec0 winFacts0.arr_inj c _ _ (1 : Fin 2)).trans ?_
    exact (left_v7 mI c).trans (lead_v6 _)
  · exact (Pipeline.withArrays_of_ne spec0 c _ _ main_v3 (by decide)).trans (lead_v3 _)

/-! ## Its elements -/

/-- A bound on a running maximum bounds the start and every term. -/
theorem foldl_le {ι : Type} (g : ι → EReal) (B : EReal) : ∀ (l : List ι) (a : EReal),
    l.foldl (fun r n => max r (g n)) a ≤ B ↔ a ≤ B ∧ ∀ n ∈ l, g n ≤ B
  | [], a => by simp
  | n :: l, a => by
    rw [List.foldl_cons, foldl_le g B l, max_le_iff, and_assoc, List.forall_mem_cons]

/-- A whole reduction keeps every element. -/
theorem reduce_le {s : Shape} {axes : List (Fin s.rank)} (x : s.Idx → EReal) (v : S_.Idx → EReal) (h : s.ReducesTo axes S_)
    (hu : 0 < S_.numel) (B : EReal) :
    Host.reduce (fun a b : EReal => max a b) x v h hu ix0 ≤ B ↔ v ix0 ≤ B ∧ ∀ i, x i ≤ B := by
  unfold Host.reduce
  rw [foldl_le, show Shape.Idx.first hu = ix0 from funext fun a => a.elim0]
  refine and_congr_right fun _ => ⟨fun H i => ?_, fun H n _ => H _⟩
  have := H (s.rowMajor i) (List.mem_filter.2 ⟨List.mem_finRange _, decide_eq_true (funext fun a => a.elim0)⟩)
  rwa [Equiv.symm_apply_apply] at this

theorem peak_form (Y : FVec Ideal S4096x8192 .f32) :
    peak Y = Host.reduce (fun a b : EReal => max a b) (fun i => mag (Y i)) (fun _ => Ideal.ofBits .f32 0xFF800000#32)
      reducesTo_S4096x8192_S_d0_1 h_S_ := rfl

theorem peak_le (Y : FVec Ideal S4096x8192 .f32) (B : EReal) :
    (peak Y ix0 : EReal) ≤ B ↔ 0 ≤ B ∧ ∀ r n, mag (Y (ix2 r n)) ≤ B := by
  rw [peak_form, reduce_le, neg_inf_bits]
  constructor
  · rintro ⟨-, H⟩
    exact ⟨(mag_nonneg _).trans (H (ix2 0 0)), fun r n => H _⟩
  · rintro ⟨-, H⟩
    refine ⟨bot_le, fun i => ?_⟩
    rw [show i = ix2 (i 0) (i 1) from eq_ix2 i]
    exact H _ _

theorem spread_at (v : FVec Ideal S_ .f32) (i : S4096x8192.Idx) : spread v i = v ix0 := broadcastInDim_scalar_apply _ v i

theorem step_at (Y : FVec Ideal S4096x8192 .f32) : step Y ix0 = Ideal.div (peak Y ix0) top := rfl

theorem left_at (Y : FVec Ideal S4096x8192 .f32) (i : S4096x8192.Idx) :
    left Y i = min top (max bottom (Ideal.div (Y i) (Ideal.div (peak Y ix0) top))) * Ideal.div (peak Y ix0) top := by
  show min (spread (constant S_ .f32 0x43E00000#32) i) (max (spread (constant S_ .f32 0xC3E00000#32) i) (Ideal.div (Y i) (spread (step Y) i)))
    * spread (step Y) i = _
  rw [spread_at, spread_at, spread_at, step_at]
  rfl

theorem prod_at (X : FVec Ideal S4096x4096 .f32) (W : FVec Ideal S4096x8192 .f32) (r : Fin 4096) (n : Fin 8192) :
    (prod X W (ix2 r n) : EReal) = ∑ k : Fin 4096, (X (ix2 r k) : EReal) * W (ix2 k n) := by
  exact StackMember.dotGeneral_plain_apply none X W r n

/-! ## The run -/

/-- Every run of the reference ends with its result array so filled and its arguments unchanged. -/
theorem run_left (ρ : Dev nD → PrngReg) :
    θ_run defs (onTc (τ := τ) (main (F := Ideal))) ⟨mI, fun _ => 0, ρ⟩ (fun r => ∀ c : Dev nD,
      r.2.mem ((c.tc : Thread nD τ).loc main_v9) = left (prodA mI c)
      ∧ r.2.mem ((c.tc : Thread nD τ).loc main_arg0) = mI ((c.tc : Thread nD τ).loc main_arg0)
      ∧ r.2.mem ((c.tc : Thread nD τ).loc main_arg1) = mI ((c.tc : Thread nD τ).loc main_arg1)) :=
  (θ_run defs _ _).mono (fun _ h c =>
    ⟨((h.1 c).2 main_v9 (Pipeline.mem_restRefs_of main_v9 (by decide) (by decide))).trans (left_v9 mI c), h.2 c⟩)
    (θ_run_and (run_main mI ρ) (unchanged mI ρ))

end Cert.Plain

end
-- ==== Proof.Ring.Equation.lean ====
/-
The equation: on blocks of two arrays the ring leaves the blocks of what the reference leaves on the arrays themselves.
-/
module

public import proofs.«01_k».proof.Proof.Ring.Frames
public import proofs.«01_k».proof.Proof.Ring.Ref

@[expose] public section

noncomputable section

namespace Cert.Ring

open Cert.KernelIdeal Cert.KernelIdeal.Gen
open Idealize.ShloMosaic hiding ix0 ix2 eq_ix2
open Idealize.ShloMosaic.TcCoe Idealize.ShloMosaic.ValueIdx
open Idealize.SL.Sem
open scoped BigOperators

/-! ## The parts of a product add up to the product -/

/-- A sum over all the rows is the sum over the blocks of the sums inside them. -/
theorem sum_blocks (f : Fin 4096 → EReal) : ∑ k, f k = ∑ e : Fin 4, ∑ k : Fin 1024, f (rowAt e k) := by
  rw [← (finProdFinEquiv (m := 4) (n := 1024)).sum_comp, Fintype.sum_prod_type]
  refine Finset.sum_congr rfl fun e _ => Finset.sum_congr rfl fun k _ => congrArg f (Fin.ext ?_)
  show k.val + 1024 * e.val = 1024 * e.val + k.val
  omega

variable (x : Dev nD → S4096x1024.Idx → EReal) (w : Dev nD → S1024x8192.Idx → EReal)
variable (X : (⟨2, ![4096, 4096]⟩ : Shape).Idx → EReal) (W : (⟨2, ![4096, 8192]⟩ : Shape).Idx → EReal)

theorem entry_eq (hx : ∀ e r k, x e (ix2 r k) = X (ix2 r (rowAt e k))) (hw : ∀ e k n, w e (ix2 k n) = W (ix2 (rowAt e k) n))
    (r : Fin 4096) (n : Fin 8192) : entry x w r n = Cert.Plain.prod (F := Ideal) X W (ix2 r n) := by
  refine Eq.trans ?_ (Cert.Plain.prod_at X W r n).symm
  rw [sum_blocks]
  refine Finset.sum_congr rfl fun e _ => Finset.sum_congr rfl fun k _ => ?_
  rw [hx, hw]

/-- A tile of what a device leaves is the reference's, at the device's rows and the tile's columns. -/
theorem tile_eq (hx : ∀ e r k, x e (ix2 r k) = X (ix2 r (rowAt e k))) (hw : ∀ e k n, w e (ix2 k n) = W (ix2 (rowAt e k) n))
    (c : Dev nD) (t : Fin 8) (i j : Fin 1024) :
    Otile (F := Ideal) x w c t (ix2 i j) = Cert.Plain.left (Cert.Plain.prod (F := Ideal) X W) (ix2 (rowAt c i) (colAt t j)) := by
  have he := entry_eq x w X W hx hw
  refine (Otile_at x w c t i j (Cert.Plain.peak (Cert.Plain.prod (F := Ideal) X W) ix0) fun B => ?_).trans ?_
  · rw [Cert.Plain.peak_le]
    simp only [he]
  · rw [Cert.Plain.left_at, he]

/-! ## The blocks the devices hold -/

section Blocks

variable {α : Type}

theorem cols_at (v : (⟨2, ![4096, 4096]⟩ : Shape).Idx → α) (h) (e : Fin 4) (r : Fin 4096) (k : Fin 1024) :
    Layout.block ⟨2, ![4096, 1024]⟩ ⟨2, ![4096, 4096]⟩ 1 4 e v h (ix2 r k) = v (ix2 r (rowAt e k)) := by
  refine congrArg v (funext fun a => Fin.ext ?_)
  match a with
  | ⟨0, _⟩ => exact (Layout.idx_cols_val _ e (ix2 r k)).1
  | ⟨1, _⟩ => exact ((Layout.idx_cols_val _ e (ix2 r k)).2).trans (congrArg (· + k.val) (Nat.mul_comm _ _))

theorem rows_at (v : (⟨2, ![4096, 8192]⟩ : Shape).Idx → α) (h) (e : Fin 4) (k : Fin 1024) (n : Fin 8192) :
    Layout.block ⟨2, ![1024, 8192]⟩ ⟨2, ![4096, 8192]⟩ 0 4 e v h (ix2 k n) = v (ix2 (rowAt e k) n) := by
  refine congrArg v (funext fun a => Fin.ext ?_)
  match a with
  | ⟨0, _⟩ => exact ((Layout.idx_rows_val _ e (ix2 k n)).1).trans (congrArg (· + k.val) (Nat.mul_comm _ _))
  | ⟨1, _⟩ => exact (Layout.idx_rows_val _ e (ix2 k n)).2

end Blocks

/-- The rows a device's window stages are its whole block. -/
theorem xA_eq (m : (ℓ : Loc nD τ sig) → Buf (Elt Ideal) ℓ) (c : Dev nD) : xA m c = m ((c : Thread nD τ).loc main_arg0) := by
  funext y
  refine congrArg (m ((c : Thread nD τ).loc main_arg0)) (funext fun a => Fin.ext ?_)
  show 0 * _ + 1 * (y a).val = (y a).val
  omega

/-- Two results equal on every tile are equal. -/
theorem tiles_ext {α : Type} {P Q : S1024x8192.Idx → α} (h : ∀ t i j, P (ix2 i (colAt t j)) = Q (ix2 i (colAt t j))) : P = Q := by
  funext y
  obtain ⟨t, j, e⟩ := colAt_surj (y 1)
  rw [eq_ix2 y, ← e]
  exact h t _ j

/-! ## The claim -/

theorem algebraic : Cert.algebraic_KernelIdeal_ReferenceIdeal (hKernelIdeal := Cert.KernelIdeal.Gen.facts)
    (hReferenceIdeal := Cert.ReferenceIdeal.Gen.facts) := by
  intro m g m' g' _ hargs
  refine ⟨Cert.Plain.left (Cert.Plain.prodA m' 0), ?_, ?_⟩
  · refine (θ_run defs _ _).mono (fun r h c => ⟨?_, ((h.1 c).1 (0 : Fin 1)).trans (finalA_x m c), (h.1 c).2.2.1⟩) (run_main m g)
    refine tiles_ext fun t i j => ?_
    refine (congrArg _ (colR_at t i j).symm).trans (((h.1 c).2.2.2 t (ix2 i j)).trans ?_)
    refine (tile_eq (xA m) (wA m) _ _ ?_ ?_ c t i j).trans (rows_at _ _ c i (colAt t j)).symm
    · intro e r k
      rw [xA_eq, (hargs e).1]
      exact cols_at _ _ e r k
    · intro e k n
      show m ((e : Thread nD τ).loc main_arg1) (ix2 k n) = _
      rw [(hargs e).2]
      exact rows_at _ _ e k n
  · exact (θ_run Cert.ReferenceIdeal.defs _ _).mono (fun r h => h 0) (Cert.Plain.run_left m' g')

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Ring.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Ring.frame_kernel, Cert.Ring.frame_ideal, Cert.Ring.frame_reference, trivial, Cert.Ring.algebraic⟩

end Cert.Proof

end
